-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_forward [hPre_finite_forward : Cert.Pre_finite_forward.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_forward.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_forward [hPre_finite_forward : Cert.Pre_finite_forward.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_forward.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Kernel15Ideal_pre_finite_forward [hKernel15Ideal : Cert.Kernel15Ideal.Facts] [hPre_finite_forward : Cert.Pre_finite_forward.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_forward m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Reference15Ideal_pre_finite_forward [hReference15Ideal : Cert.Reference15Ideal.Facts] [hPre_finite_forward : Cert.Pre_finite_forward.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_forward m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_4) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v76) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_v78) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v17) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  IdealRules.named_const.Statement Cert.Kernel15Ideal.κ "mask" .f32 0xF149F2CA#32 ⊥

def algebraic_Kernel15Ideal_Reference15Ideal_pre_finite_forward [hKernel15Ideal : Cert.Kernel15Ideal.Facts] [hReference15Ideal : Cert.Reference15Ideal.Facts] [hPre_finite_forward : Cert.Pre_finite_forward.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_forward m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v4_0)) (v1 : (c : Dev Cert.Kernel15Ideal.nD) → Buf (Elt Ideal) ((c.tc : Thread Cert.Kernel15Ideal.nD Cert.Kernel15Ideal.τ).loc Cert.Kernel15Ideal.main_v4_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4_0) = v0 c
          ∧ r.2.mem ((c.tc : Thread Cert.Kernel15Ideal.nD Cert.Kernel15Ideal.τ).loc Cert.Kernel15Ideal.main_v4_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v28) = v0 c
          ∧ r.2.mem ((c.tc : Thread Cert.Reference15Ideal.nD Cert.Reference15Ideal.τ).loc Cert.Reference15Ideal.main_v30) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite : Cert.Pre_finite.Facts) (hPre_finite_forward : Cert.Pre_finite_forward.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Kernel15Ideal_pre_finite_forward (hKernel15Ideal := hKernel15Ideal) (hPre_finite_forward := hPre_finite_forward)
    ∧ quiescent_Reference15Ideal (hReference15Ideal := hReference15Ideal)
    ∧ quiescent_Reference15Ideal_pre_finite_forward (hReference15Ideal := hReference15Ideal) (hPre_finite_forward := hPre_finite_forward)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal_pre_finite_forward (hKernel15Ideal := hKernel15Ideal) (hReference15Ideal := hReference15Ideal) (hPre_finite_forward := hPre_finite_forward)
-- ==== Pre_finite.lean ====
abbrev S50x8192x64 : Shape := ⟨3, ![50, 8192, 64]⟩
abbrev S8x8192 : Shape := ⟨2, ![8, 8192]⟩
abbrev S8x8192x64 : Shape := ⟨3, ![8, 8192, 64]⟩
abbrev S24x8192x64 : Shape := ⟨3, ![24, 8192, 64]⟩
abbrev S_ : Shape := ⟨0, ![]⟩

class Facts : Prop where
  slices_S50x8192x64_S24x8192x64_0_0_0 : S50x8192x64.Slices ![0, 0, 0] S24x8192x64
  bitsLt_bf16_f32 : FTy.bits .bf16 < FTy.bits .f32
  bcast_S_S24x8192x64 : S_.BroadcastsInDim S24x8192x64 (![] : Fin 0 → Fin S24x8192x64.rank)
  reducesTo_S24x8192x64_S_d0_1_2 : S24x8192x64.ReducesTo [0, 1, 2] S_
  h_S_ : 0 < S_.numel
  bcast_S_S8x8192 : S_.BroadcastsInDim S8x8192 (![] : Fin 0 → Fin S8x8192.rank)
  reducesTo_S8x8192_S_d0_1 : S8x8192.ReducesTo [0, 1] S_
  bcast_S_S8x8192x64 : S_.BroadcastsInDim S8x8192x64 (![] : Fin 0 → Fin S8x8192x64.rank)
  reducesTo_S8x8192x64_S_d0_1_2 : S8x8192x64.ReducesTo [0, 1, 2] S_

variable [Facts]

def fn {F : FTy → Type} [FloatOps F] (main_arg0 : FVec F S50x8192x64 .bf16) (main_arg1 : FVec F S8x8192 .f32) (main_arg2 : FVec F S8x8192x64 .f32) : IVec S_ 1 :=
  let main_v0 : FVec F S24x8192x64 .bf16 := (extractStridedSlice S24x8192x64 ![0, 0, 0] · slices_S50x8192x64_S24x8192x64_0_0_0) main_arg0
  let main_v1 : FVec F S24x8192x64 .f32 := (extf .f32 · bitsLt_bf16_f32) main_v0
  let main_v2 : FVec F S24x8192x64 .f32 := Host.absf main_v1
  let main_cst : FVec F S_ .f32 := constant S_ .f32 0x7F800000#32
  let main_v3 : FVec F S24x8192x64 .f32 := broadcastInDim S24x8192x64 ![] bcast_S_S24x8192x64 main_cst
  let main_v4 : IVec S24x8192x64 1 := cmpf .olt main_v2 main_v3
  let main_c : IVec S_ 1 := constantI S_ 1 1#1
  let main_v5 : IVec S_ 1 := (fun x v => Host.reduce IntOp.andi x v reducesTo_S24x8192x64_S_d0_1_2 h_S_) main_v4 main_c
  let main_v6 : FVec F S8x8192 .f32 := Host.absf main_arg1
  let main_cst_0 : FVec F S_ .f32 := constant S_ .f32 0x7F800000#32
  let main_v7 : FVec F S8x8192 .f32 := broadcastInDim S8x8192 ![] bcast_S_S8x8192 main_cst_0
  let main_v8 : IVec S8x8192 1 := cmpf .olt main_v6 main_v7
  let main_c_1 : IVec S_ 1 := constantI S_ 1 1#1
  let main_v9 : IVec S_ 1 := (fun x v => Host.reduce IntOp.andi x v reducesTo_S8x8192_S_d0_1 h_S_) main_v8 main_c_1
  let main_v10 : IVec S_ 1 := andi main_v5 main_v9
  let main_v11 : FVec F S8x8192x64 .f32 := Host.absf main_arg2
  let main_cst_2 : FVec F S_ .f32 := constant S_ .f32 0x7F800000#32
  let main_v12 : FVec F S8x8192x64 .f32 := broadcastInDim S8x8192x64 ![] bcast_S_S8x8192x64 main_cst_2
  let main_v13 : IVec S8x8192x64 1 := cmpf .olt main_v11 main_v12
  let main_c_3 : IVec S_ 1 := constantI S_ 1 1#1
  let main_v14 : IVec S_ 1 := (fun x v => Host.reduce IntOp.andi x v reducesTo_S8x8192x64_S_d0_1_2 h_S_) main_v13 main_c_3
  let main_v15 : IVec S_ 1 := andi main_v10 main_v14
  main_v15
-- ==== Pre_finite_forward.lean ====
abbrev S50x8192x64 : Shape := ⟨3, ![50, 8192, 64]⟩
abbrev S8x8192 : Shape := ⟨2, ![8, 8192]⟩
abbrev S24x8192x64 : Shape := ⟨3, ![24, 8192, 64]⟩
abbrev S_ : Shape := ⟨0, ![]⟩

class Facts : Prop where
  slices_S50x8192x64_S24x8192x64_0_0_0 : S50x8192x64.Slices ![0, 0, 0] S24x8192x64
  bitsLt_bf16_f32 : FTy.bits .bf16 < FTy.bits .f32
  bcast_S_S24x8192x64 : S_.BroadcastsInDim S24x8192x64 (![] : Fin 0 → Fin S24x8192x64.rank)
  reducesTo_S24x8192x64_S_d0_1_2 : S24x8192x64.ReducesTo [0, 1, 2] S_
  h_S_ : 0 < S_.numel
  bcast_S_S8x8192 : S_.BroadcastsInDim S8x8192 (![] : Fin 0 → Fin S8x8192.rank)
  reducesTo_S8x8192_S_d0_1 : S8x8192.ReducesTo [0, 1] S_

variable [Facts]

def fn {F : FTy → Type} [FloatOps F] (main_arg0 : FVec F S50x8192x64 .bf16) (main_arg1 : FVec F S8x8192 .f32) : IVec S_ 1 :=
  let main_v0 : FVec F S24x8192x64 .bf16 := (extractStridedSlice S24x8192x64 ![0, 0, 0] · slices_S50x8192x64_S24x8192x64_0_0_0) main_arg0
  let main_v1 : FVec F S24x8192x64 .f32 := (extf .f32 · bitsLt_bf16_f32) main_v0
  let main_v2 : FVec F S24x8192x64 .f32 := Host.absf main_v1
  let main_cst : FVec F S_ .f32 := constant S_ .f32 0x7F800000#32
  let main_v3 : FVec F S24x8192x64 .f32 := broadcastInDim S24x8192x64 ![] bcast_S_S24x8192x64 main_cst
  let main_v4 : IVec S24x8192x64 1 := cmpf .olt main_v2 main_v3
  let main_c : IVec S_ 1 := constantI S_ 1 1#1
  let main_v5 : IVec S_ 1 := (fun x v => Host.reduce IntOp.andi x v reducesTo_S24x8192x64_S_d0_1_2 h_S_) main_v4 main_c
  let main_v6 : FVec F S8x8192 .f32 := Host.absf main_arg1
  let main_cst_0 : FVec F S_ .f32 := constant S_ .f32 0x7F800000#32
  let main_v7 : FVec F S8x8192 .f32 := broadcastInDim S8x8192 ![] bcast_S_S8x8192 main_cst_0
  let main_v8 : IVec S8x8192 1 := cmpf .olt main_v6 main_v7
  let main_c_1 : IVec S_ 1 := constantI S_ 1 1#1
  let main_v9 : IVec S_ 1 := (fun x v => Host.reduce IntOp.andi x v reducesTo_S8x8192_S_d0_1 h_S_) main_v8 main_c_1
  let main_v10 : IVec S_ 1 := andi main_v5 main_v9
  main_v10
-- ==== Kernel.lean ====
abbrev S50x8192x64 : Shape := ⟨3, ![50, 8192, 64]⟩
abbrev S8x8192 : Shape := ⟨2, ![8, 8192]⟩
abbrev S8x8192x64 : Shape := ⟨3, ![8, 8192, 64]⟩
abbrev S8x16x1x512 : Shape := ⟨4, ![8, 16, 1, 512]⟩
abbrev S_ : Shape := ⟨0, ![]⟩
abbrev S8x8192x128 : Shape := ⟨3, ![8, 8192, 128]⟩
abbrev S8192 : Shape := ⟨1, ![8192]⟩
abbrev S8x8192x8192 : Shape := ⟨3, ![8, 8192, 8192]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x8192x1 : Shape := ⟨3, ![8, 8192, 1]⟩
abbrev S8x16x8x512 : Shape := ⟨4, ![8, 16, 8, 512]⟩
abbrev S1x512x64 : Shape := ⟨3, ![1, 512, 64]⟩
abbrev S1x8192x128 : Shape := ⟨3, ![1, 8192, 128]⟩
abbrev S1x16x1x512 : Shape := ⟨4, ![1, 16, 1, 512]⟩
abbrev S1x512x1 : Shape := ⟨3, ![1, 512, 1]⟩
abbrev S1x8192x64 : Shape := ⟨3, ![1, 8192, 64]⟩
abbrev S1x16x8x512 : Shape := ⟨4, ![1, 16, 8, 512]⟩
abbrev S512x64 : Shape := ⟨2, ![512, 64]⟩
abbrev S512x1 : Shape := ⟨2, ![512, 1]⟩
abbrev S512x512 : Shape := ⟨2, ![512, 512]⟩
abbrev S512x128 : Shape := ⟨2, ![512, 128]⟩
abbrev S8192x64 : Shape := ⟨2, ![8192, 64]⟩
abbrev S16x8x512 : Shape := ⟨3, ![16, 8, 512]⟩
abbrev S512 : Shape := ⟨1, ![512]⟩
abbrev S1x512x128 : Shape := ⟨3, ![1, 512, 128]⟩
abbrev S1x1x1x512 : Shape := ⟨4, ![1, 1, 1, 512]⟩
abbrev S1x512 : Shape := ⟨2, ![1, 512]⟩
abbrev S1x1x8x512 : Shape := ⟨4, ![1, 1, 8, 512]⟩
abbrev S8x512 : Shape := ⟨2, ![8, 512]⟩
abbrev S64x8x512 : Shape := ⟨3, ![64, 8, 512]⟩

abbrev nBuf : Space → Nat
  | .hbm => 54
  | .vmem => 32
  | .smem => 0
  | _ => 0

abbrev bufTy : (tb : Table) → Fin (tcTables nBuf tb) → BufTy
  | .hbm, ⟨0, _⟩ => ⟨S50x8192x64, .bf16⟩
  | .hbm, ⟨1, _⟩ => ⟨S8x8192, .f32⟩
  | .hbm, ⟨2, _⟩ => ⟨S8x8192x64, .f32⟩
  | .hbm, ⟨3, _⟩ => ⟨S8x8192x64, .bf16⟩
  | .hbm, ⟨4, _⟩ => ⟨S8x16x1x512, .f32⟩
  | .hbm, ⟨5, _⟩ => ⟨S_, .bf16⟩
  | .hbm, ⟨6, _⟩ => ⟨S8x8192x64, .bf16⟩
  | .hbm, ⟨7, _⟩ => ⟨S8x8192x128, .bf16⟩
  | .hbm, ⟨8, _⟩ => ⟨S8x8192x64, .bf16⟩
  | .hbm, ⟨9, _⟩ => ⟨S_, .bf16⟩
  | .hbm, ⟨10, _⟩ => ⟨S8x8192x64, .bf16⟩
  | .hbm, ⟨11, _⟩ => ⟨S8x8192x128, .bf16⟩
  | .hbm, ⟨12, _⟩ => ⟨S8x8192x64, .bf16⟩
  | .hbm, ⟨13, _⟩ => ⟨S8x8192x64, .f32⟩
  | .hbm, ⟨14, _⟩ => ⟨S8x8192x64, .bf16⟩
  | .hbm, ⟨15, _⟩ => ⟨S8x8192x64, .f32⟩
  | .hbm, ⟨16, _⟩ => ⟨S8x8192x64, .f32⟩
  | .hbm, ⟨17, _⟩ => ⟨S8192, .i32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S8x1x8192, .f32⟩
  | .hbm, ⟨23, _⟩ => ⟨S8x8192x8192, .f32⟩
  | .hbm, ⟨24, _⟩ => ⟨S8x8192x8192, .f32⟩
  | .hbm, ⟨25, _⟩ => ⟨S1x8192, .i32⟩
  | .hbm, ⟨26, _⟩ => ⟨S8192x1, .i32⟩
  | .hbm, ⟨27, _⟩ => ⟨S8192x8192, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8x8192x8192, .i1⟩
  | .hbm, ⟨33, _⟩ => ⟨S8x8192x8192, .f32⟩
  | .hbm, ⟨34, _⟩ => ⟨S8x8192x8192, .f32⟩
  | .hbm, ⟨35, _⟩ => ⟨S_, .f32⟩
  | .hbm, ⟨36, _⟩ => ⟨S8x8192, .f32⟩
  | .hbm, ⟨37, _⟩ => ⟨S8x8192x1, .f32⟩
  | .hbm, ⟨38, _⟩ => ⟨S8x8192x8192, .f32⟩
  | .hbm, ⟨39, _⟩ => ⟨S8x8192x8192, .f32⟩
  | .hbm, ⟨40, _⟩ => ⟨S8x8192x8192, .f32⟩
  | .hbm, ⟨41, _⟩ => ⟨S_, .f32⟩
  | .hbm, ⟨42, _⟩ => ⟨S8x8192, .f32⟩
  | .hbm, ⟨43, _⟩ => ⟨S8x8192x1, .f32⟩
  | .hbm, ⟨44, _⟩ => ⟨S8x8192x1, .f32⟩
  | .hbm, ⟨45, _⟩ => ⟨S8x8192x1, .f32⟩
  | .hbm, ⟨46, _⟩ => ⟨S8x8192x8192, .f32⟩
  | .hbm, ⟨47, _⟩ => ⟨S8x8192x8192, .f32⟩
  | .hbm, ⟨48, _⟩ => ⟨S8x8192x64, .f32⟩
  | .hbm, ⟨49, _⟩ => ⟨S8x8192x64, .f32⟩
  | .hbm, ⟨50, _⟩ => ⟨S8x8192x64, .f32⟩
  | .hbm, ⟨51, _⟩ => ⟨S8x8192x64, .f32⟩
  | .hbm, ⟨52, _⟩ => ⟨S8x16x8x512, .f32⟩
  | .hbm, ⟨53, _⟩ => ⟨S8x8192x1, .f32⟩
  | .local _ .vmem, ⟨0, _⟩ => ⟨S1x512x64, .bf16⟩
  | .local _ .vmem, ⟨1, _⟩ => ⟨S1x512x64, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x16x1x512, .f32⟩
  | .local _ .vmem, ⟨7, _⟩ => ⟨S1x16x1x512, .f32⟩
  | .local _ .vmem, ⟨8, _⟩ => ⟨S1x512x64, .f32⟩
  | .local _ .vmem, ⟨9, _⟩ => ⟨S1x512x64, .f32⟩
  | .local _ .vmem, ⟨10, _⟩ => ⟨S1x512x1, .f32⟩
  | .local _ .vmem, ⟨11, _⟩ => ⟨S1x512x1, .f32⟩
  | .local _ .vmem, ⟨12, _⟩ => ⟨S1x512x64, .f32⟩
  | .local _ .vmem, ⟨13, _⟩ => ⟨S1x512x64, .f32⟩
  | .local _ .vmem, ⟨14, _⟩ => ⟨S1x512x64, .f32⟩
  | .local _ .vmem, ⟨15, _⟩ => ⟨S1x512x64, .f32⟩
  | .local _ .vmem, ⟨16, _⟩ => ⟨S1x8192x64, .f32⟩
  | .local _ .vmem, ⟨17, _⟩ => ⟨S1x8192x64, .f32⟩
  | .local _ .vmem, ⟨18, _⟩ => ⟨S1x8192x64, .f32⟩
  | .local _ .vmem, ⟨19, _⟩ => ⟨S1x8192x64, .f32⟩
  | .local _ .vmem, ⟨20, _⟩ => ⟨S1x16x8x512, .f32⟩
  | .local _ .vmem, ⟨21, _⟩ => ⟨S1x16x8x512, .f32⟩
  | .local _ .vmem, ⟨22, _⟩ => ⟨S1x512x1, .f32⟩
  | .local _ .vmem, ⟨23, _⟩ => ⟨S1x512x1, .f32⟩
  | .local _ .vmem, ⟨24, _⟩ => ⟨S512x64, .f32⟩
  | .local _ .vmem, ⟨25, _⟩ => ⟨S512x1, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x128, .bf16⟩
  | .local _ .vmem, ⟨31, _⟩ => ⟨S512x128, .bf16⟩
  | _, _ => ⟨S50x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_call0_v2 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37_0 : Ref sig .tc := ⟨.hbm, 49, rfl⟩
abbrev main_v37_1 : Ref sig .tc := ⟨.hbm, 50, rfl⟩
abbrev main_v37_2 : Ref sig .tc := ⟨.hbm, 51, rfl⟩
abbrev main_v37_3 : Ref sig .tc := ⟨.hbm, 52, rfl⟩
abbrev main_v37_4 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_scratch7 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 16], ![false, false]⟩

def k0_mult1 : BitVec 32 :=
  let c0_i32_38 : BitVec 32 := 0#32
  let c15_i32 : BitVec 32 := 15#32
  let v108 : BitVec 32 := Scalar.minsi c0_i32_38 c15_i32
  let c512_i32 : BitVec 32 := 512#32
  let v109 : BitVec 32 := Scalar.muli v108 c512_i32
  v109
def k0_off1 : Fin 3 → Nat :=
  let c0_41 : Index := 0#32
  let c0_i32_38 : BitVec 32 := 0#32
  let c15_i32 : BitVec 32 := 15#32
  let v108 : BitVec 32 := Scalar.minsi c0_i32_38 c15_i32
  let c512_i32 : BitVec 32 := 512#32
  let v109 : BitVec 32 := Scalar.muli v108 c512_i32
  let v110 : BitVec 32 := v109
  let v112 : Index := Scalar.indexCast v110
  let c0_42 : Index := 0#32
  ![0, v112.toNat, 0]
@[reducible] def k0_t1_loop (i : grid0.Coords) : Scf.Loop 32 :=
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_63 : BitVec 32 := 1#32
  ⟨c0_i32_61, v148, c1_i32_63⟩
def k0_mult2 (i : grid0.Coords) (k0_t1 : Fin (k0_t1_loop i).trips) : BitVec 32 :=
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c1_i32_204 : BitVec 32 := 1#32
  let v353 : BitVec 32 := Scalar.addi v352 c1_i32_204
  let c15_i32_205 : BitVec 32 := 15#32
  let v354 : BitVec 32 := Scalar.minsi v353 c15_i32_205
  let c512_i32_206 : BitVec 32 := 512#32
  let v355 : BitVec 32 := Scalar.muli v354 c512_i32_206
  v355
def k0_off2 (i : grid0.Coords) (k0_t1 : Fin (k0_t1_loop i).trips) (c1_i32_204 : BitVec 32) : Fin 3 → Nat :=
  let c0_209 : Index := 0#32
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let v353 : BitVec 32 := Scalar.addi v352 c1_i32_204
  let c15_i32_205 : BitVec 32 := 15#32
  let v354 : BitVec 32 := Scalar.minsi v353 c15_i32_205
  let c512_i32_206 : BitVec 32 := 512#32
  let v355 : BitVec 32 := Scalar.muli v354 c512_i32_206
  let v356 : BitVec 32 := v355
  let v358 : Index := Scalar.indexCast v356
  let c0_210 : Index := 0#32
  ![0, v358.toNat, 0]
def k0_mult3 (i : grid0.Coords) (k0_t1 : Fin (k0_t1_loop i).trips) : BitVec 32 :=
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c15_i32_225 : BitVec 32 := 15#32
  let v375 : BitVec 32 := Scalar.minsi v352 c15_i32_225
  let c512_i32_226 : BitVec 32 := 512#32
  let v376 : BitVec 32 := Scalar.muli v375 c512_i32_226
  v376
def k0_off3 (i : grid0.Coords) (k0_t1 : Fin (k0_t1_loop i).trips) : Fin 4 → Nat :=
  let c0_228 : Index := 0#32
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c15_i32_227 : BitVec 32 := 15#32
  let v378 : BitVec 32 := Scalar.minsi v352 c15_i32_227
  let v379 : Index := Scalar.indexCast v378
  let c0_229 : Index := 0#32
  let c0_230 : Index := 0#32
  ![0, v379.toNat, 0, 0]
def k0_off4 (i : grid0.Coords) (k0_t1 : Fin (k0_t1_loop i).trips) : Fin 3 → Nat :=
  let c0_233 : Index := 0#32
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c15_i32_225 : BitVec 32 := 15#32
  let v375 : BitVec 32 := Scalar.minsi v352 c15_i32_225
  let c512_i32_226 : BitVec 32 := 512#32
  let v376 : BitVec 32 := Scalar.muli v375 c512_i32_226
  let v377 : BitVec 32 := v376
  let v388 : Index := Scalar.indexCast v377
  let c0_234 : Index := 0#32
  ![0, v388.toNat, 0]
def k0_off5 (i : grid0.Coords) (k0_t1 : Fin (k0_t1_loop i).trips) : Fin 3 → Nat :=
  let c0_238 : Index := 0#32
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c15_i32_225 : BitVec 32 := 15#32
  let v375 : BitVec 32 := Scalar.minsi v352 c15_i32_225
  let c512_i32_226 : BitVec 32 := 512#32
  let v376 : BitVec 32 := Scalar.muli v375 c512_i32_226
  let v377 : BitVec 32 := v376
  let v397 : Index := Scalar.indexCast v377
  let c0_239 : Index := 0#32
  ![0, v397.toNat, 0]
def k0_off6 (i : grid0.Coords) (k0_t1 : Fin (k0_t1_loop i).trips) : Fin 4 → Nat :=
  let c0_249 : Index := 0#32
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c15_i32_248 : BitVec 32 := 15#32
  let v416 : BitVec 32 := Scalar.minsi v352 c15_i32_248
  let v417 : Index := Scalar.indexCast v416
  let c0_250 : Index := 0#32
  let c0_251 : Index := 0#32
  ![0, v417.toNat, 0, 0]
def k0_mult4 (i : grid0.Coords) (k0_t1 : Fin (k0_t1_loop i).trips) : BitVec 32 :=
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c2_i32_261 : BitVec 32 := 2#32
  let v434 : BitVec 32 := Scalar.addi v352 c2_i32_261
  let c15_i32_262 : BitVec 32 := 15#32
  let v435 : BitVec 32 := Scalar.minsi v434 c15_i32_262
  let c512_i32_263 : BitVec 32 := 512#32
  let v436 : BitVec 32 := Scalar.muli v435 c512_i32_263
  v436
def k0_mult5 (i : grid0.Coords) (k0_t1 : Fin (k0_t1_loop i).trips) : BitVec 32 :=
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c1_i32_278 : BitVec 32 := 1#32
  let v454 : BitVec 32 := Scalar.addi v352 c1_i32_278
  let c15_i32_283 : BitVec 32 := 15#32
  let v457 : BitVec 32 := Scalar.minsi v454 c15_i32_283
  let c512_i32_284 : BitVec 32 := 512#32
  let v458 : BitVec 32 := Scalar.muli v457 c512_i32_284
  v458
def k0_off7 (i : grid0.Coords) (k0_t1 : Fin (k0_t1_loop i).trips) : Fin 4 → Nat :=
  let c0_286 : Index := 0#32
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c1_i32_278 : BitVec 32 := 1#32
  let v454 : BitVec 32 := Scalar.addi v352 c1_i32_278
  let c15_i32_285 : BitVec 32 := 15#32
  let v460 : BitVec 32 := Scalar.minsi v454 c15_i32_285
  let v461 : Index := Scalar.indexCast v460
  let c0_287 : Index := 0#32
  let c0_288 : Index := 0#32
  ![0, v461.toNat, 0, 0]
def k0_off8 (i : grid0.Coords) (k0_t1 : Fin (k0_t1_loop i).trips) : Fin 3 → Nat :=
  let c0_296 : Index := 0#32
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c1_i32_278 : BitVec 32 := 1#32
  let v454 : BitVec 32 := Scalar.addi v352 c1_i32_278
  let c15_i32_283 : BitVec 32 := 15#32
  let v457 : BitVec 32 := Scalar.minsi v454 c15_i32_283
  let c512_i32_284 : BitVec 32 := 512#32
  let v458 : BitVec 32 := Scalar.muli v457 c512_i32_284
  let v459 : BitVec 32 := v458
  let v479 : Index := Scalar.indexCast v459
  let c0_297 : Index := 0#32
  ![0, v479.toNat, 0]
def k0_off9 (i : grid0.Coords) (k0_t1 : Fin (k0_t1_loop i).trips) : Fin 4 → Nat :=
  let c0_307 : Index := 0#32
  let c2_i32_203 : BitVec 32 := 2#32
  let c0_i32_61 : BitVec 32 := 0#32
  let c1_i32_63 : BitVec 32 := 1#32
  let arg22 : BitVec 32 := Scf.iv c0_i32_61 c1_i32_63 k0_t1
  let v352 : BitVec 32 := Scalar.muli c2_i32_203 arg22
  let c1_i32_278 : BitVec 32 := 1#32
  let v454 : BitVec 32 := Scalar.addi v352 c1_i32_278
  let c15_i32_306 : BitVec 32 := 15#32
  let v498 : BitVec 32 := Scalar.minsi v454 c15_i32_306
  let v499 : Index := Scalar.indexCast v498
  let c0_308 : Index := 0#32
  let c0_309 : Index := 0#32
  ![0, v499.toNat, 0, 0]
@[reducible] def k0_t2_loop (i : grid0.Coords) : Scf.Loop 32 :=
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let v145 : BitVec 32 := Scalar.addi c0_i32_61 v144
  let c1_i32_64 : BitVec 32 := 1#32
  ⟨v148, v145, c1_i32_64⟩
def k0_mult6 (i : grid0.Coords) (k0_t2 : Fin (k0_t2_loop i).trips) : BitVec 32 :=
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c1_i32_204 : BitVec 32 := 1#32
  let v353 : BitVec 32 := Scalar.addi v352 c1_i32_204
  let c15_i32_205 : BitVec 32 := 15#32
  let v354 : BitVec 32 := Scalar.minsi v353 c15_i32_205
  let c512_i32_206 : BitVec 32 := 512#32
  let v355 : BitVec 32 := Scalar.muli v354 c512_i32_206
  v355
def k0_off10 (i : grid0.Coords) (k0_t2 : Fin (k0_t2_loop i).trips) (c1_i32_204 : BitVec 32) : Fin 3 → Nat :=
  let c0_209 : Index := 0#32
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let v353 : BitVec 32 := Scalar.addi v352 c1_i32_204
  let c15_i32_205 : BitVec 32 := 15#32
  let v354 : BitVec 32 := Scalar.minsi v353 c15_i32_205
  let c512_i32_206 : BitVec 32 := 512#32
  let v355 : BitVec 32 := Scalar.muli v354 c512_i32_206
  let v356 : BitVec 32 := v355
  let v358 : Index := Scalar.indexCast v356
  let c0_210 : Index := 0#32
  ![0, v358.toNat, 0]
def k0_mult7 (i : grid0.Coords) (k0_t2 : Fin (k0_t2_loop i).trips) : BitVec 32 :=
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c15_i32_225 : BitVec 32 := 15#32
  let v375 : BitVec 32 := Scalar.minsi v352 c15_i32_225
  let c512_i32_226 : BitVec 32 := 512#32
  let v376 : BitVec 32 := Scalar.muli v375 c512_i32_226
  v376
def k0_off11 (i : grid0.Coords) (k0_t2 : Fin (k0_t2_loop i).trips) : Fin 4 → Nat :=
  let c0_228 : Index := 0#32
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c15_i32_227 : BitVec 32 := 15#32
  let v378 : BitVec 32 := Scalar.minsi v352 c15_i32_227
  let v379 : Index := Scalar.indexCast v378
  let c0_229 : Index := 0#32
  let c0_230 : Index := 0#32
  ![0, v379.toNat, 0, 0]
def k0_off12 (i : grid0.Coords) (k0_t2 : Fin (k0_t2_loop i).trips) : Fin 3 → Nat :=
  let c0_233 : Index := 0#32
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c15_i32_225 : BitVec 32 := 15#32
  let v375 : BitVec 32 := Scalar.minsi v352 c15_i32_225
  let c512_i32_226 : BitVec 32 := 512#32
  let v376 : BitVec 32 := Scalar.muli v375 c512_i32_226
  let v377 : BitVec 32 := v376
  let v388 : Index := Scalar.indexCast v377
  let c0_234 : Index := 0#32
  ![0, v388.toNat, 0]
def k0_off13 (i : grid0.Coords) (k0_t2 : Fin (k0_t2_loop i).trips) : Fin 3 → Nat :=
  let c0_238 : Index := 0#32
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c15_i32_225 : BitVec 32 := 15#32
  let v375 : BitVec 32 := Scalar.minsi v352 c15_i32_225
  let c512_i32_226 : BitVec 32 := 512#32
  let v376 : BitVec 32 := Scalar.muli v375 c512_i32_226
  let v377 : BitVec 32 := v376
  let v397 : Index := Scalar.indexCast v377
  let c0_239 : Index := 0#32
  ![0, v397.toNat, 0]
def k0_off14 (i : grid0.Coords) (k0_t2 : Fin (k0_t2_loop i).trips) : Fin 4 → Nat :=
  let c0_249 : Index := 0#32
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c15_i32_248 : BitVec 32 := 15#32
  let v416 : BitVec 32 := Scalar.minsi v352 c15_i32_248
  let v417 : Index := Scalar.indexCast v416
  let c0_250 : Index := 0#32
  let c0_251 : Index := 0#32
  ![0, v417.toNat, 0, 0]
def k0_mult8 (i : grid0.Coords) (k0_t2 : Fin (k0_t2_loop i).trips) : BitVec 32 :=
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c2_i32_261 : BitVec 32 := 2#32
  let v434 : BitVec 32 := Scalar.addi v352 c2_i32_261
  let c15_i32_262 : BitVec 32 := 15#32
  let v435 : BitVec 32 := Scalar.minsi v434 c15_i32_262
  let c512_i32_263 : BitVec 32 := 512#32
  let v436 : BitVec 32 := Scalar.muli v435 c512_i32_263
  v436
def k0_mult9 (i : grid0.Coords) (k0_t2 : Fin (k0_t2_loop i).trips) : BitVec 32 :=
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c1_i32_278 : BitVec 32 := 1#32
  let v454 : BitVec 32 := Scalar.addi v352 c1_i32_278
  let c15_i32_283 : BitVec 32 := 15#32
  let v457 : BitVec 32 := Scalar.minsi v454 c15_i32_283
  let c512_i32_284 : BitVec 32 := 512#32
  let v458 : BitVec 32 := Scalar.muli v457 c512_i32_284
  v458
def k0_off15 (i : grid0.Coords) (k0_t2 : Fin (k0_t2_loop i).trips) : Fin 4 → Nat :=
  let c0_286 : Index := 0#32
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c1_i32_278 : BitVec 32 := 1#32
  let v454 : BitVec 32 := Scalar.addi v352 c1_i32_278
  let c15_i32_285 : BitVec 32 := 15#32
  let v460 : BitVec 32 := Scalar.minsi v454 c15_i32_285
  let v461 : Index := Scalar.indexCast v460
  let c0_287 : Index := 0#32
  let c0_288 : Index := 0#32
  ![0, v461.toNat, 0, 0]
def k0_off16 (i : grid0.Coords) (k0_t2 : Fin (k0_t2_loop i).trips) : Fin 3 → Nat :=
  let c0_296 : Index := 0#32
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c1_i32_278 : BitVec 32 := 1#32
  let v454 : BitVec 32 := Scalar.addi v352 c1_i32_278
  let c15_i32_283 : BitVec 32 := 15#32
  let v457 : BitVec 32 := Scalar.minsi v454 c15_i32_283
  let c512_i32_284 : BitVec 32 := 512#32
  let v458 : BitVec 32 := Scalar.muli v457 c512_i32_284
  let v459 : BitVec 32 := v458
  let v479 : Index := Scalar.indexCast v459
  let c0_297 : Index := 0#32
  ![0, v479.toNat, 0]
def k0_off17 (i : grid0.Coords) (k0_t2 : Fin (k0_t2_loop i).trips) : Fin 4 → Nat :=
  let c0_307 : Index := 0#32
  let c2_i32_203 : BitVec 32 := 2#32
  let c0_i32_61 : BitVec 32 := 0#32
  let arg1 : BitVec 32 := BitVec.ofNat 32 (i 1).val
  let c0_i32_54 : BitVec 32 := 0#32
  let v128 : BitVec 1 := Scalar.cmpi .sgt arg1 c0_i32_54
  let v129 : BitVec 32 := Scalar.extui v128
  let c0_i32_55 : BitVec 32 := 0#32
  let v130 : BitVec 1 := Scalar.cmpi .slt arg1 c0_i32_55
  let v131 : BitVec 32 := Scalar.extui v130
  let v132 : BitVec 32 := Scalar.subi v129 v131
  let c2_i32_53 : BitVec 32 := 2#32
  let c0_i32_56 : BitVec 32 := 0#32
  let v133 : BitVec 1 := Scalar.cmpi .sgt c2_i32_53 c0_i32_56
  let v134 : BitVec 32 := Scalar.extui v133
  let c0_i32_57 : BitVec 32 := 0#32
  let v135 : BitVec 1 := Scalar.cmpi .slt c2_i32_53 c0_i32_57
  let v136 : BitVec 32 := Scalar.extui v135
  let v137 : BitVec 32 := Scalar.subi v134 v136
  let v138 : BitVec 1 := Scalar.cmpi .ne v132 v137
  let v139 : BitVec 32 := Scalar.remsi arg1 c2_i32_53
  let c0_i32_58 : BitVec 32 := 0#32
  let v140 : BitVec 1 := Scalar.cmpi .ne v139 c0_i32_58
  let v141 : BitVec 1 := Scalar.andi v138 v140
  let v127 : BitVec 32 := Scalar.divsi arg1 c2_i32_53
  let c1_i32_59 : BitVec 32 := 1#32
  let v142 : BitVec 32 := Scalar.subi v127 c1_i32_59
  let v143 : BitVec 32 := Scalar.select v141 v142 v127
  let v144 : BitVec 32 := Scalar.subi v143 c0_i32_61
  let c1_i32_62 : BitVec 32 := 1#32
  let v146 : BitVec 32 := Scalar.divsi v144 c1_i32_62
  let v147 : BitVec 32 := Scalar.muli v146 c1_i32_62
  let v148 : BitVec 32 := Scalar.addi c0_i32_61 v147
  let c1_i32_64 : BitVec 32 := 1#32
  let arg22 : BitVec 32 := Scf.iv v148 c1_i32_64 k0_t2
  let v352 : BitVec 32 := Scalar.muli c2_i32_203 arg22
  let c1_i32_278 : BitVec 32 := 1#32
  let v454 : BitVec 32 := Scalar.addi v352 c1_i32_278
  let c15_i32_306 : BitVec 32 := 15#32
  let v498 : BitVec 32 := Scalar.minsi v454 c15_i32_306
  let v499 : Index := Scalar.indexCast v498
  let c0_308 : Index := 0#32
  let c0_309 : Index := 0#32
  ![0, v499.toNat, 0, 0]
def k0_mult10 (i : grid0.Coords) : BitVec 32 :=
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c1_i32_73 : BitVec 32 := 1#32
  let v167 : BitVec 32 := Scalar.addi v166 c1_i32_73
  let c15_i32_74 : BitVec 32 := 15#32
  let v168 : BitVec 32 := Scalar.minsi v167 c15_i32_74
  let c512_i32_75 : BitVec 32 := 512#32
  let v169 : BitVec 32 := Scalar.muli v168 c512_i32_75
  v169
def k0_off18 (i : grid0.Coords) (c1_i32_73 : BitVec 32) : Fin 3 → Nat :=
  let c0_78 : Index := 0#32
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let v167 : BitVec 32 := Scalar.addi v166 c1_i32_73
  let c15_i32_74 : BitVec 32 := 15#32
  let v168 : BitVec 32 := Scalar.minsi v167 c15_i32_74
  let c512_i32_75 : BitVec 32 := 512#32
  let v169 : BitVec 32 := Scalar.muli v168 c512_i32_75
  let v170 : BitVec 32 := v169
  let v172 : Index := Scalar.indexCast v170
  let c0_79 : Index := 0#32
  ![0, v172.toNat, 0]
def k0_mult11 (i : grid0.Coords) : BitVec 32 :=
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c15_i32_94 : BitVec 32 := 15#32
  let v189 : BitVec 32 := Scalar.minsi v166 c15_i32_94
  let c512_i32_95 : BitVec 32 := 512#32
  let v190 : BitVec 32 := Scalar.muli v189 c512_i32_95
  v190
def k0_off19 (i : grid0.Coords) : Fin 4 → Nat :=
  let c0_97 : Index := 0#32
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c15_i32_96 : BitVec 32 := 15#32
  let v192 : BitVec 32 := Scalar.minsi v166 c15_i32_96
  let v193 : Index := Scalar.indexCast v192
  let c0_98 : Index := 0#32
  let c0_99 : Index := 0#32
  ![0, v193.toNat, 0, 0]
def k0_off20 (i : grid0.Coords) : Fin 3 → Nat :=
  let c0_104 : Index := 0#32
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c15_i32_94 : BitVec 32 := 15#32
  let v189 : BitVec 32 := Scalar.minsi v166 c15_i32_94
  let c512_i32_95 : BitVec 32 := 512#32
  let v190 : BitVec 32 := Scalar.muli v189 c512_i32_95
  let v191 : BitVec 32 := v190
  let v208 : Index := Scalar.indexCast v191
  let c0_105 : Index := 0#32
  ![0, v208.toNat, 0]
def k0_off21 (i : grid0.Coords) : Fin 3 → Nat :=
  let c0_109 : Index := 0#32
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c15_i32_94 : BitVec 32 := 15#32
  let v189 : BitVec 32 := Scalar.minsi v166 c15_i32_94
  let c512_i32_95 : BitVec 32 := 512#32
  let v190 : BitVec 32 := Scalar.muli v189 c512_i32_95
  let v191 : BitVec 32 := v190
  let v217 : Index := Scalar.indexCast v191
  let c0_110 : Index := 0#32
  ![0, v217.toNat, 0]
def k0_off22 (i : grid0.Coords) : Fin 4 → Nat :=
  let c0_120 : Index := 0#32
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c15_i32_119 : BitVec 32 := 15#32
  let v236 : BitVec 32 := Scalar.minsi v166 c15_i32_119
  let v237 : Index := Scalar.indexCast v236
  let c0_121 : Index := 0#32
  let c0_122 : Index := 0#32
  ![0, v237.toNat, 0, 0]
def k0_mult12 (i : grid0.Coords) : BitVec 32 :=
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c2_i32_132 : BitVec 32 := 2#32
  let v254 : BitVec 32 := Scalar.addi v166 c2_i32_132
  let c15_i32_133 : BitVec 32 := 15#32
  let v255 : BitVec 32 := Scalar.minsi v254 c15_i32_133
  let c512_i32_134 : BitVec 32 := 512#32
  let v256 : BitVec 32 := Scalar.muli v255 c512_i32_134
  v256
def k0_mult13 (i : grid0.Coords) : BitVec 32 :=
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c1_i32_149 : BitVec 32 := 1#32
  let v274 : BitVec 32 := Scalar.addi v166 c1_i32_149
  let c15_i32_154 : BitVec 32 := 15#32
  let v277 : BitVec 32 := Scalar.minsi v274 c15_i32_154
  let c512_i32_155 : BitVec 32 := 512#32
  let v278 : BitVec 32 := Scalar.muli v277 c512_i32_155
  v278
def k0_off23 (i : grid0.Coords) : Fin 4 → Nat :=
  let c0_157 : Index := 0#32
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c1_i32_149 : BitVec 32 := 1#32
  let v274 : BitVec 32 := Scalar.addi v166 c1_i32_149
  let c15_i32_156 : BitVec 32 := 15#32
  let v280 : BitVec 32 := Scalar.minsi v274 c15_i32_156
  let v281 : Index := Scalar.indexCast v280
  let c0_158 : Index := 0#32
  let c0_159 : Index := 0#32
  ![0, v281.toNat, 0, 0]
def k0_off24 (i : grid0.Coords) : Fin 3 → Nat :=
  let c0_169 : Index := 0#32
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c1_i32_149 : BitVec 32 := 1#32
  let v274 : BitVec 32 := Scalar.addi v166 c1_i32_149
  let c15_i32_154 : BitVec 32 := 15#32
  let v277 : BitVec 32 := Scalar.minsi v274 c15_i32_154
  let c512_i32_155 : BitVec 32 := 512#32
  let v278 : BitVec 32 := Scalar.muli v277 c512_i32_155
  let v279 : BitVec 32 := v278
  let v305 : Index := Scalar.indexCast v279
  let c0_170 : Index := 0#32
  ![0, v305.toNat, 0]
def k0_off25 (i : grid0.Coords) : Fin 4 → Nat :=
  let c0_180 : Index := 0#32
  let c2_i32_72 : BitVec 32 := 2#32
  let arg1 : BitVec 32 := BitVec.ofNat 32 (i 1).val
  let c0_i32_66 : BitVec 32 := 0#32
  let v150 : BitVec 1 := Scalar.cmpi .sgt arg1 c0_i32_66
  let v151 : BitVec 32 := Scalar.extui v150
  let c0_i32_67 : BitVec 32 := 0#32
  let v152 : BitVec 1 := Scalar.cmpi .slt arg1 c0_i32_67
  let v153 : BitVec 32 := Scalar.extui v152
  let v154 : BitVec 32 := Scalar.subi v151 v153
  let c2_i32_65 : BitVec 32 := 2#32
  let c0_i32_68 : BitVec 32 := 0#32
  let v155 : BitVec 1 := Scalar.cmpi .sgt c2_i32_65 c0_i32_68
  let v156 : BitVec 32 := Scalar.extui v155
  let c0_i32_69 : BitVec 32 := 0#32
  let v157 : BitVec 1 := Scalar.cmpi .slt c2_i32_65 c0_i32_69
  let v158 : BitVec 32 := Scalar.extui v157
  let v159 : BitVec 32 := Scalar.subi v156 v158
  let v160 : BitVec 1 := Scalar.cmpi .ne v154 v159
  let v161 : BitVec 32 := Scalar.remsi arg1 c2_i32_65
  let c0_i32_70 : BitVec 32 := 0#32
  let v162 : BitVec 1 := Scalar.cmpi .ne v161 c0_i32_70
  let v163 : BitVec 1 := Scalar.andi v160 v162
  let v149 : BitVec 32 := Scalar.divsi arg1 c2_i32_65
  let c1_i32_71 : BitVec 32 := 1#32
  let v164 : BitVec 32 := Scalar.subi v149 c1_i32_71
  let v165 : BitVec 32 := Scalar.select v163 v164 v149
  let v166 : BitVec 32 := Scalar.muli c2_i32_72 v165
  let c1_i32_149 : BitVec 32 := 1#32
  let v274 : BitVec 32 := Scalar.addi v166 c1_i32_149
  let c15_i32_179 : BitVec 32 := 15#32
  let v324 : BitVec 32 := Scalar.minsi v274 c15_i32_179
  let v325 : Index := Scalar.indexCast v324
  let c0_181 : Index := 0#32
  let c0_182 : Index := 0#32
  ![0, v325.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8192x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8192x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x512x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S50x8192x64 : Shape := ⟨3, ![50, 8192, 64]⟩
abbrev S8x8192 : Shape := ⟨2, ![8, 8192]⟩
abbrev S8x8192x64 : Shape := ⟨3, ![8, 8192, 64]⟩
abbrev S8192 : Shape := ⟨1, ![8192]⟩
abbrev S8x8192x8192 : Shape := ⟨3, ![8, 8192, 8192]⟩
abbrev S_ : Shape := ⟨0, ![]⟩
abbrev S8x8192x1 : Shape := ⟨3, ![8, 8192, 1]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 108
  | .vmem => 0
  | .smem => 0
  | _ => 0

abbrev bufTy : (tb : Table) → Fin (tcTables nBuf tb) → BufTy
  | .hbm, ⟨0, _⟩ => ⟨S50x8192x64, .bf16⟩
  | .hbm, ⟨1, _⟩ => ⟨S8x8192, .f32⟩
  | .hbm, ⟨2, _⟩ => ⟨S8x8192x64, .f32⟩
  | .hbm, ⟨3, _⟩ => ⟨S8x8192x64, .bf16⟩
  | .hbm, ⟨4, _⟩ => ⟨S8x8192x64, .f32⟩
  | .hbm, ⟨5, _⟩ => ⟨S8x8192x64, .bf16⟩
  | .hbm, ⟨6, _⟩ => ⟨S8x8192x64, .f32⟩
  | .hbm, ⟨7, _⟩ => ⟨S8x8192x64, .bf16⟩
  | .hbm, ⟨8, _⟩ => ⟨S8x8192x64, .f32⟩
  | .hbm, ⟨9, _⟩ => ⟨S8192, .i32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8x8192x1, .f32⟩
  | .hbm, ⟨15, _⟩ => ⟨S8x8192x8192, .f32⟩
  | .hbm, ⟨16, _⟩ => ⟨S8x8192x8192, .f32⟩
  | .hbm, ⟨17, _⟩ => ⟨S8x1x8192, .f32⟩
  | .hbm, ⟨18, _⟩ => ⟨S8x8192x8192, .f32⟩
  | .hbm, ⟨19, _⟩ => ⟨S8x8192x8192, .f32⟩
  | .hbm, ⟨20, _⟩ => ⟨S1x8192, .i32⟩
  | .hbm, ⟨21, _⟩ => ⟨S8192x1, .i32⟩
  | .hbm, ⟨22, _⟩ => ⟨S8192x8192, .i32⟩
  | .hbm, ⟨23, _⟩ => ⟨S8192x8192, .i32⟩
  | .hbm, ⟨24, _⟩ => ⟨S8192x8192, .i1⟩
  | .hbm, ⟨25, _⟩ => ⟨S_, .f32⟩
  | .hbm, ⟨26, _⟩ => ⟨S_, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S_, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .i1⟩
  | .hbm, ⟨37, _⟩ => ⟨S8x8192x8192, .f32⟩
  | .hbm, ⟨38, _⟩ => ⟨S_, .f32⟩
  | .hbm, ⟨39, _⟩ => ⟨S8x8192, .f32⟩
  | .hbm, ⟨40, _⟩ => ⟨S_, .f32⟩
  | .hbm, ⟨41, _⟩ => ⟨S8x8192, .f32⟩
  | .hbm, ⟨42, _⟩ => ⟨S8x8192, .f32⟩
  | .hbm, ⟨43, _⟩ => ⟨S_, .f32⟩
  | .hbm, ⟨44, _⟩ => ⟨S8x8192, .f32⟩
  | .hbm, ⟨45, _⟩ => ⟨S8x8192, .i1⟩
  | .hbm, ⟨46, _⟩ => ⟨S_, .f32⟩
  | .hbm, ⟨47, _⟩ => ⟨S8x8192, .f32⟩
  | .hbm, ⟨48, _⟩ => ⟨S8x8192, .i1⟩
  | .hbm, ⟨49, _⟩ => ⟨S_, .f32⟩
  | .hbm, ⟨50, _⟩ => ⟨S8x8192, .f32⟩
  | .hbm, ⟨51, _⟩ => ⟨S_, .f32⟩
  | .hbm, ⟨52, _⟩ => ⟨S8x8192, .f32⟩
  | .hbm, ⟨53, _⟩ => ⟨S_, .f32⟩
  | .hbm, ⟨54, _⟩ => ⟨S8x8192, .f32⟩
  | .hbm, ⟨55, _⟩ => ⟨S8x8192, .f32⟩
  | .hbm, ⟨56, _⟩ => ⟨S8x8192, .f32⟩
  | .hbm, ⟨57, _⟩ => ⟨S8x8192x1, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S_, .f32⟩
  | .hbm, ⟨62, _⟩ => ⟨S8x8192, .f32⟩
  | .hbm, ⟨63, _⟩ => ⟨S8x8192x1, .f32⟩
  | .hbm, ⟨64, _⟩ => ⟨S8x8192x8192, .f32⟩
  | .hbm, ⟨65, _⟩ => ⟨S8x8192x8192, .f32⟩
  | .hbm, ⟨66, _⟩ => ⟨S8x8192x1, .f32⟩
  | .hbm, ⟨67, _⟩ => ⟨S_, .f32⟩
  | .hbm, ⟨68, _⟩ => ⟨S8x8192x1, .f32⟩
  | .hbm, ⟨69, _⟩ => ⟨S8x8192x1, .f32⟩
  | .hbm, ⟨70, _⟩ => ⟨S8x8192x64, .f32⟩
  | .hbm, ⟨71, _⟩ => ⟨S8x64x8192, .f32⟩
  | .hbm, ⟨72, _⟩ => ⟨S8x8192x64, .f32⟩
  | .hbm, ⟨73, _⟩ => ⟨S8x8192x8192, .f32⟩
  | .hbm, ⟨74, _⟩ => ⟨S8x8192x8192, .f32⟩
  | .hbm, ⟨75, _⟩ => ⟨S8x8192x8192, .f32⟩
  | .hbm, ⟨76, _⟩ => ⟨S8x8192x8192, .f32⟩
  | .hbm, ⟨77, _⟩ => ⟨S_, .f32⟩
  | .hbm, ⟨78, _⟩ => ⟨S8x8192, .f32⟩
  | .hbm, ⟨79, _⟩ => ⟨S8x8192x1, .f32⟩
  | .hbm, ⟨80, _⟩ => ⟨S8x8192x1, .f32⟩
  | .hbm, ⟨81, _⟩ => ⟨S8x8192x8192, .f32⟩
  | .hbm, ⟨82, _⟩ => ⟨S8x8192x8192, .f32⟩
  | .hbm, ⟨83, _⟩ => ⟨S_, .f32⟩
  | .hbm, ⟨84, _⟩ => ⟨S8x8192, .f32⟩
  | .hbm, ⟨85, _⟩ => ⟨S8x8192x8192, .f32⟩
  | .hbm, ⟨86, _⟩ => ⟨S8x8192x8192, .f32⟩
  | .hbm, ⟨87, _⟩ => ⟨S8x8192x8192, .f32⟩
  | .hbm, ⟨88, _⟩ => ⟨S_, .f32⟩
  | .hbm, ⟨89, _⟩ => ⟨S8x8192x8192, .f32⟩
  | .hbm, ⟨90, _⟩ => ⟨S8x8192x8192, .f32⟩
  | .hbm, ⟨91, _⟩ => ⟨S8x8192x8192, .f32⟩
  | .hbm, ⟨92, _⟩ => ⟨S_, .f32⟩
  | .hbm, ⟨93, _⟩ => ⟨S8x8192, .f32⟩
  | .hbm, ⟨94, _⟩ => ⟨S8x1x8192, .f32⟩
  | .hbm, ⟨95, _⟩ => ⟨S_, .f32⟩
  | .hbm, ⟨96, _⟩ => ⟨S8x8192, .f32⟩
  | .hbm, ⟨97, _⟩ => ⟨S_, .f32⟩
  | .hbm, ⟨98, _⟩ => ⟨S8x8192, .f32⟩
  | .hbm, ⟨99, _⟩ => ⟨S8x8192x1, .f32⟩
  | .hbm, ⟨100, _⟩ => ⟨S_, .f32⟩
  | .hbm, ⟨101, _⟩ => ⟨S8x8192, .f32⟩
  | .hbm, ⟨102, _⟩ => ⟨S_, .f32⟩
  | .hbm, ⟨103, _⟩ => ⟨S8x8192x8192, .f32⟩
  | .hbm, ⟨104, _⟩ => ⟨S8x8192x8192, .f32⟩
  | .hbm, ⟨105, _⟩ => ⟨S8x8192x64, .f32⟩
  | .hbm, ⟨106, _⟩ => ⟨S8x8192x64, .f32⟩
  | .hbm, ⟨107, _⟩ => ⟨S8x8192x1, .f32⟩
  | _, _ => ⟨S50x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_call0_v0 : Ref sig .tc := ⟨.hbm, 26, rfl⟩
abbrev main_v21_1 : Ref sig .tc := ⟨.hbm, 27, rfl⟩
abbrev main_call0_v2 : Ref sig .tc := ⟨.hbm, 28, rfl⟩
abbrev main_v21_0 : Ref sig .tc := ⟨.hbm, 29, rfl⟩
abbrev main_call0_cst : Ref sig .tc := ⟨.hbm, 30, rfl⟩
abbrev main_v21_2 : Ref sig .tc := ⟨.hbm, 31, rfl⟩
abbrev main_cst_1 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_2 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_cst_4 : Ref sig .tc := ⟨.hbm, 43, rfl⟩
abbrev main_v30 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_12 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_call1_cst : Ref sig .tc := ⟨.hbm, 88, rfl⟩
abbrev main_call1_v0 : Ref sig .tc := ⟨.hbm, 89, rfl⟩
abbrev main_v66 : Ref sig .tc := ⟨.hbm, 90, rfl⟩
abbrev main_v67 : Ref sig .tc := ⟨.hbm, 91, rfl⟩
abbrev main_cst_13 : Ref sig .tc := ⟨.hbm, 92, rfl⟩
abbrev main_v68 : Ref sig .tc := ⟨.hbm, 93, rfl⟩
abbrev main_v69 : Ref sig .tc := ⟨.hbm, 94, rfl⟩
abbrev main_cst_14 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_cst_16 : Ref sig .tc := ⟨.hbm, 100, rfl⟩
abbrev main_v73 : Ref sig .tc := ⟨.hbm, 101, rfl⟩
abbrev main_cst_17 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== Kernel2.lean ====
abbrev S8192x1024 : Shape := ⟨2, ![8192, 1024]⟩
abbrev S2x8192x2816 : Shape := ⟨3, ![2, 8192, 2816]⟩
abbrev S1024x5632 : Shape := ⟨2, ![1024, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S1024x5632, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond2 (i : grid0.Coords) : BitVec 1 :=
  let arg2 : BitVec 32 := BitVec.ofNat 32 (i 2).val
  let c7_i32 : BitVec 32 := 7#32
  let v12 : BitVec 1 := Scalar.cmpi .eq arg2 c7_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference2Ideal.lean ====
abbrev S8192x1024 : Shape := ⟨2, ![8192, 1024]⟩
abbrev S2x8192x2816 : Shape := ⟨3, ![2, 8192, 2816]⟩
abbrev S_ : Shape := ⟨0, ![]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S5632x1024 : Shape := ⟨2, ![5632, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x8192x2816, .bf16⟩
  | .hbm, ⟨2, _⟩ => ⟨S_, .f32⟩
  | .hbm, ⟨3, _⟩ => ⟨S1024x5632, .f32⟩
  | .hbm, ⟨4, _⟩ => ⟨S8192x1024, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S1x8192x2816, .f32⟩
  | .hbm, ⟨10, _⟩ => ⟨S2x8192x2816, .f32⟩
  | .hbm, ⟨11, _⟩ => ⟨S2x8192x2816, .f32⟩
  | .hbm, ⟨12, _⟩ => ⟨S1x8192x2816, .f32⟩
  | .hbm, ⟨13, _⟩ => ⟨S8192x2816, .f32⟩
  | .hbm, ⟨14, _⟩ => ⟨S1x8192x2816, .f32⟩
  | .hbm, ⟨15, _⟩ => ⟨S8192x2816, .f32⟩
  | .hbm, ⟨16, _⟩ => ⟨S_, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S5632x1024, .f32⟩
  | .hbm, ⟨22, _⟩ => ⟨S1024x5632, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩

abbrev nD : Nat := 1
abbrev τ : Topo := Topo.v7x

variable {F : FTy → Type} [FloatOps F]
-- ==== Kernel3.lean ====
abbrev S2x8192x2816 : Shape := ⟨3, ![2, 8192, 2816]⟩
abbrev S1024x5632 : Shape := ⟨2, ![1024, 5632]⟩
abbrev S8192x1024 : Shape := ⟨2, ![8192, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S8192x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_9 : BitVec 32 := 0#32
  let v14 : BitVec 1 := Scalar.cmpi .ne v13 c0_i32_9
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference3Ideal.lean ====
abbrev S2x8192x2816 : Shape := ⟨3, ![2, 8192, 2816]⟩
abbrev S1024x5632 : Shape := ⟨2, ![1024, 5632]⟩
abbrev S_ : Shape := ⟨0, ![]⟩
abbrev S8192x1024 : Shape := ⟨2, ![8192, 1024]⟩
abbrev S8192x5632 : Shape := ⟨2, ![8192, 5632]⟩
abbrev S8192x2816 : Shape := ⟨2, ![8192, 2816]⟩
abbrev S1x8192x2816 : Shape := ⟨3, ![1, 8192, 2816]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1024x5632, .bf16⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x2816, .f32⟩
  | .hbm, ⟨7, _⟩ => ⟨S8192x2816, .f32⟩
  | .hbm, ⟨8, _⟩ => ⟨S1x8192x2816, .f32⟩
  | .hbm, ⟨9, _⟩ => ⟨S1x8192x2816, .f32⟩
  | .hbm, ⟨10, _⟩ => ⟨S2x8192x2816, .f32⟩
  | .hbm, ⟨11, _⟩ => ⟨S2x8192x2816, .f32⟩
  | .hbm, ⟨12, _⟩ => ⟨S1x8192x2816, .f32⟩
  | .hbm, ⟨13, _⟩ => ⟨S8192x2816, .f32⟩
  | .hbm, ⟨14, _⟩ => ⟨S1x8192x2816, .f32⟩
  | .hbm, ⟨15, _⟩ => ⟨S8192x2816, .f32⟩
  | .hbm, ⟨16, _⟩ => ⟨S_, .f32⟩
  | .hbm, ⟨17, _⟩ => ⟨S8192x5632, .f32⟩
  | .hbm, ⟨18, _⟩ => ⟨S_, .f32⟩
  | .hbm, ⟨19, _⟩ => ⟨S8192x5632, .f32⟩
  | .hbm, ⟨20, _⟩ => ⟨S8192x5632, .f32⟩
  | .hbm, ⟨21, _⟩ => ⟨S8192x1024, .f32⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S8192x1024 : Shape := ⟨2, ![8192, 1024]⟩
abbrev S8192x3200 : Shape := ⟨2, ![8192, 3200]⟩
abbrev S1024x3200 : Shape := ⟨2, ![1024, 3200]⟩
abbrev S1024x1024 : Shape := ⟨2, ![1024, 1024]⟩
abbrev S1024x640 : Shape := ⟨2, ![1024, 640]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S1024x3200, .f32⟩
  | .local _ .vmem, ⟨0, _⟩ => ⟨S1024x1024, .bf16⟩
  | .local _ .vmem, ⟨1, _⟩ => ⟨S1024x1024, .bf16⟩
  | .local _ .vmem, ⟨2, _⟩ => ⟨S1024x640, .bf16⟩
  | .local _ .vmem, ⟨3, _⟩ => ⟨S1024x640, .bf16⟩
  | .local _ .vmem, ⟨4, _⟩ => ⟨S1024x640, .f32⟩
  | .local _ .vmem, ⟨5, _⟩ => ⟨S1024x640, .f32⟩
  | .local _ .vmem, ⟨6, _⟩ => ⟨S1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 5, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S8192x3200 : Shape := ⟨2, ![8192, 3200]⟩
abbrev S_ : Shape := ⟨0, ![]⟩
abbrev S1024x3200 : Shape := ⟨2, ![1024, 3200]⟩
abbrev S3200x1024 : Shape := ⟨2, ![3200, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3200, .bf16⟩
  | .hbm, ⟨2, _⟩ => ⟨S_, .f32⟩
  | .hbm, ⟨3, _⟩ => ⟨S1024x3200, .f32⟩
  | .hbm, ⟨4, _⟩ => ⟨S8192x1024, .f32⟩
  | .hbm, ⟨5, _⟩ => ⟨S8192x3200, .f32⟩
  | .hbm, ⟨6, _⟩ => ⟨S8192x3200, .f32⟩
  | .hbm, ⟨7, _⟩ => ⟨S3200x1024, .f32⟩
  | .hbm, ⟨8, _⟩ => ⟨S1024x3200, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel6.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference6Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x3200 : Shape := ⟨2, ![8192, 3200]⟩
abbrev S1024x3200 : Shape := ⟨2, ![1024, 3200]⟩
abbrev S8192x1024 : Shape := ⟨2, ![8192, 1024]⟩
abbrev S1024x640 : Shape := ⟨2, ![1024, 640]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S8192x1024, .f32⟩
  | .local _ .vmem, ⟨0, _⟩ => ⟨S1024x640, .bf16⟩
  | .local _ .vmem, ⟨1, _⟩ => ⟨S1024x640, .bf16⟩
  | .local _ .vmem, ⟨2, _⟩ => ⟨S1024x640, .bf16⟩
  | .local _ .vmem, ⟨3, _⟩ => ⟨S1024x640, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 5], ![false, false, false]⟩

def k0_cond2 (i : grid0.Coords) : BitVec 1 :=
  let arg2 : BitVec 32 := BitVec.ofNat 32 (i 2).val
  let c4_i32 : BitVec 32 := 4#32
  let v11 : BitVec 1 := Scalar.cmpi .eq arg2 c4_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x3200 : Shape := ⟨2, ![8192, 3200]⟩
abbrev S1024x3200 : Shape := ⟨2, ![1024, 3200]⟩
abbrev S_ : Shape := ⟨0, ![]⟩
abbrev S8192x1024 : Shape := ⟨2, ![8192, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x3200, .bf16⟩
  | .hbm, ⟨1, _⟩ => ⟨S1024x3200, .bf16⟩
  | .hbm, ⟨2, _⟩ => ⟨S_, .f32⟩
  | .hbm, ⟨3, _⟩ => ⟨S8192x1024, .f32⟩
  | .hbm, ⟨4, _⟩ => ⟨S1024x3200, .f32⟩
  | .hbm, ⟨5, _⟩ => ⟨S8192x3200, .f32⟩
  | .hbm, ⟨6, _⟩ => ⟨S8192x3200, .f32⟩
  | .hbm, ⟨7, _⟩ => ⟨S8192x1024, .f32⟩
  | _, _ => ⟨S8192x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S_, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S8192x2816, .f32⟩
  | .hbm, ⟨8, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S8192x1024 : Shape := ⟨2, ![8192, 1024]⟩
abbrev S1024x5632 : Shape := ⟨2, ![1024, 5632]⟩
abbrev S2x8192x2816 : Shape := ⟨3, ![2, 8192, 2816]⟩
abbrev S2048x1024 : Shape := ⟨2, ![2048, 1024]⟩
abbrev S1024x256 : Shape := ⟨2, ![1024, 256]⟩
abbrev S1x2048x256 : Shape := ⟨3, ![1, 2048, 256]⟩
abbrev S2048x256 : Shape := ⟨2, ![2048, 256]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S2x8192x2816, .f32⟩
  | .local _ .vmem, ⟨0, _⟩ => ⟨S2048x1024, .bf16⟩
  | .local _ .vmem, ⟨1, _⟩ => ⟨S2048x1024, .bf16⟩
  | .local _ .vmem, ⟨2, _⟩ => ⟨S1024x256, .bf16⟩
  | .local _ .vmem, ⟨3, _⟩ => ⟨S1024x256, .bf16⟩
  | .local _ .vmem, ⟨4, _⟩ => ⟨S1x2048x256, .f32⟩
  | .local _ .vmem, ⟨5, _⟩ => ⟨S1x2048x256, .f32⟩
  | .local _ .vmem, ⟨6, _⟩ => ⟨S2048x256, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 22, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.divsi arg1 c11_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c11_i32 c0_i32_1
  let v7 : BitVec 32 := Scalar.extui v6
  let c0_i32_2 : BitVec 32 := 0#32
  let v8 : BitVec 1 := Scalar.cmpi .slt c11_i32 c0_i32_2
  let v9 : BitVec 32 := Scalar.extui v8
  let v10 : BitVec 32 := Scalar.subi v7 v9
  let v11 : BitVec 1 := Scalar.cmpi .ne v5 v10
  let v12 : BitVec 32 := Scalar.remsi arg1 c11_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c11_i32_4 : BitVec 32 := 11#32
  let c0_i32_5 : BitVec 32 := 0#32
  let v17 : BitVec 1 := Scalar.cmpi .eq c11_i32_4 c0_i32_5
  let c1_i32_6 : BitVec 32 := 1#32
  let v18 : BitVec 32 := Scalar.select v17 c1_i32_6 c11_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x1024 : Shape := ⟨2, ![8192, 1024]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x5632, .bf16⟩
  | .hbm, ⟨2, _⟩ => ⟨S8192x1024, .f32⟩
  | .hbm, ⟨3, _⟩ => ⟨S1024x5632, .f32⟩
  | .hbm, ⟨4, _⟩ => ⟨S8192x5632, .f32⟩
  | .hbm, ⟨5, _⟩ => ⟨S8192x2816, .f32⟩
  | .hbm, ⟨6, _⟩ => ⟨S8192x2816, .f32⟩
  | .hbm, ⟨7, _⟩ => ⟨S1x8192x2816, .f32⟩
  | .hbm, ⟨8, _⟩ => ⟨S1x8192x2816, .f32⟩
  | .hbm, ⟨9, _⟩ => ⟨S2x8192x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== Kernel11.lean ====
abbrev S8192x2816 : Shape := ⟨2, ![8192, 2816]⟩
abbrev S2816x1024 : Shape := ⟨2, ![2816, 1024]⟩
abbrev S8192x1024 : Shape := ⟨2, ![8192, 1024]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S8192x2816, .f32⟩
  | .hbm, ⟨4, _⟩ => ⟨S2816x1024, .f32⟩
  | .hbm, ⟨5, _⟩ => ⟨S8192x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x3200 : Shape := ⟨2, ![1024, 3200]⟩
abbrev S50x8192x64 : Shape := ⟨3, ![50, 8192, 64]⟩
abbrev S2048x1024 : Shape := ⟨2, ![2048, 1024]⟩
abbrev S1024x640 : Shape := ⟨2, ![1024, 640]⟩
abbrev S10x2048x64 : Shape := ⟨3, ![10, 2048, 64]⟩
abbrev S2048x640 : Shape := ⟨2, ![2048, 640]⟩
abbrev S2048x64 : Shape := ⟨2, ![2048, 64]⟩
abbrev S1x2048x64 : Shape := ⟨3, ![1, 2048, 64]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S50x8192x64, .bf16⟩
  | .local _ .vmem, ⟨0, _⟩ => ⟨S2048x1024, .bf16⟩
  | .local _ .vmem, ⟨1, _⟩ => ⟨S2048x1024, .bf16⟩
  | .local _ .vmem, ⟨2, _⟩ => ⟨S1024x640, .bf16⟩
  | .local _ .vmem, ⟨3, _⟩ => ⟨S1024x640, .bf16⟩
  | .local _ .vmem, ⟨4, _⟩ => ⟨S10x2048x64, .bf16⟩
  | .local _ .vmem, ⟨5, _⟩ => ⟨S10x2048x64, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S10x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x3200 : Shape := ⟨2, ![1024, 3200]⟩
abbrev S8192x3200 : Shape := ⟨2, ![8192, 3200]⟩
abbrev S8192x50x64 : Shape := ⟨3, ![8192, 50, 64]⟩
abbrev S50x8192x64 : Shape := ⟨3, ![50, 8192, 64]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x3200, .bf16⟩
  | .hbm, ⟨2, _⟩ => ⟨S8192x1024, .f32⟩
  | .hbm, ⟨3, _⟩ => ⟨S1024x3200, .f32⟩
  | .hbm, ⟨4, _⟩ => ⟨S8192x3200, .f32⟩
  | .hbm, ⟨5, _⟩ => ⟨S8192x50x64, .f32⟩
  | .hbm, ⟨6, _⟩ => ⟨S50x8192x64, .f32⟩
  | .hbm, ⟨7, _⟩ => ⟨S50x8192x64, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel14.lean ====
abbrev S8192x1024 : Shape := ⟨2, ![8192, 1024]⟩
abbrev S1024x128 : Shape := ⟨2, ![1024, 128]⟩
abbrev S8192x128 : Shape := ⟨2, ![8192, 128]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x128, .bf16⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1024x128 : Shape := ⟨2, ![1024, 128]⟩
abbrev S8192x128 : Shape := ⟨2, ![8192, 128]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x128, .bf16⟩
  | .hbm, ⟨2, _⟩ => ⟨S8192x1024, .f32⟩
  | .hbm, ⟨3, _⟩ => ⟨S1024x128, .f32⟩
  | .hbm, ⟨4, _⟩ => ⟨S8192x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S50x8192x64 : Shape := ⟨3, ![50, 8192, 64]⟩
abbrev S8x8192 : Shape := ⟨2, ![8, 8192]⟩
abbrev S8x8192x64 : Shape := ⟨3, ![8, 8192, 64]⟩
abbrev S8x16x1x512 : Shape := ⟨4, ![8, 16, 1, 512]⟩
abbrev S_ : Shape := ⟨0, ![]⟩
abbrev S8x8192x128 : Shape := ⟨3, ![8, 8192, 128]⟩
abbrev S8x8192x1 : Shape := ⟨3, ![8, 8192, 1]⟩
abbrev S1x512x64 : Shape := ⟨3, ![1, 512, 64]⟩
abbrev S1x8192x64 : Shape := ⟨3, ![1, 8192, 64]⟩
abbrev S1x8192x128 : Shape := ⟨3, ![1, 8192, 128]⟩
abbrev S1x16x1x512 : Shape := ⟨4, ![1, 16, 1, 512]⟩
abbrev S1x512x1 : Shape := ⟨3, ![1, 512, 1]⟩
abbrev S512x1 : Shape := ⟨2, ![512, 1]⟩
abbrev S512x128 : Shape := ⟨2, ![512, 128]⟩
abbrev S512x512 : Shape := ⟨2, ![512, 512]⟩
abbrev S512x64 : Shape := ⟨2, ![512, 64]⟩
abbrev S1x1x1x512 : Shape := ⟨4, ![1, 1, 1, 512]⟩
abbrev S1x512 : Shape := ⟨2, ![1, 512]⟩
abbrev S512 : Shape := ⟨1, ![512]⟩
abbrev S1x512x128 : Shape := ⟨3, ![1, 512, 128]⟩

abbrev nBuf : Space → Nat
  | .hbm => 9
  | .vmem => 16
  | .smem => 0
  | _ => 0

abbrev bufTy : (tb : Table) → Fin (tcTables nBuf tb) → BufTy
  | .hbm, ⟨0, _⟩ => ⟨S50x8192x64, .bf16⟩
  | .hbm, ⟨1, _⟩ => ⟨S8x8192, .f32⟩
  | .hbm, ⟨2, _⟩ => ⟨S8x8192x64, .bf16⟩
  | .hbm, ⟨3, _⟩ => ⟨S8x16x1x512, .f32⟩
  | .hbm, ⟨4, _⟩ => ⟨S_, .bf16⟩
  | .hbm, ⟨5, _⟩ => ⟨S8x8192x64, .bf16⟩
  | .hbm, ⟨6, _⟩ => ⟨S8x8192x128, .bf16⟩
  | .hbm, ⟨7, _⟩ => ⟨S8x8192x64, .f32⟩
  | .hbm, ⟨8, _⟩ => ⟨S8x8192x1, .f32⟩
  | .local _ .vmem, ⟨0, _⟩ => ⟨S1x512x64, .bf16⟩
  | .local _ .vmem, ⟨1, _⟩ => ⟨S1x512x64, .bf16⟩
  | .local _ .vmem, ⟨2, _⟩ => ⟨S1x8192x64, .bf16⟩
  | .local _ .vmem, ⟨3, _⟩ => ⟨S1x8192x64, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x16x1x512, .f32⟩
  | .local _ .vmem, ⟨7, _⟩ => ⟨S1x16x1x512, .f32⟩
  | .local _ .vmem, ⟨8, _⟩ => ⟨S1x512x64, .f32⟩
  | .local _ .vmem, ⟨9, _⟩ => ⟨S1x512x64, .f32⟩
  | .local _ .vmem, ⟨10, _⟩ => ⟨S1x512x1, .f32⟩
  | .local _ .vmem, ⟨11, _⟩ => ⟨S1x512x1, .f32⟩
  | .local _ .vmem, ⟨12, _⟩ => ⟨S512x1, .f32⟩
  | .local _ .vmem, ⟨13, _⟩ => ⟨S512x128, .f32⟩
  | .local _ .vmem, ⟨14, _⟩ => ⟨S512x512, .f32⟩
  | .local _ .vmem, ⟨15, _⟩ => ⟨S512x512, .f32⟩
  | _, _ => ⟨S50x8192x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 16], ![false, false]⟩

def k0_mult1 : BitVec 32 :=
  let c0_i32 : BitVec 32 := 0#32
  let c15_i32 : BitVec 32 := 15#32
  let v17 : BitVec 32 := Scalar.minsi c0_i32 c15_i32
  let c512_i32 : BitVec 32 := 512#32
  let v18 : BitVec 32 := Scalar.muli v17 c512_i32
  v18
def k0_off1 : Fin 3 → Nat :=
  let c0_8 : Index := 0#32
  let c0_i32 : BitVec 32 := 0#32
  let c15_i32 : BitVec 32 := 15#32
  let v17 : BitVec 32 := Scalar.minsi c0_i32 c15_i32
  let c512_i32 : BitVec 32 := 512#32
  let v18 : BitVec 32 := Scalar.muli v17 c512_i32
  let v19 : BitVec 32 := v18
  let v20 : Index := Scalar.indexCast v19
  let c0_9 : Index := 0#32
  ![0, v20.toNat, 0]
@[reducible] def k0_t1_loop (i : grid0.Coords) : Scf.Loop 32 :=
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_21 : BitVec 32 := 1#32
  ⟨c0_i32_19, v48, c1_i32_21⟩
def k0_mult2 (i : grid0.Coords) (k0_t1 : Fin (k0_t1_loop i).trips) : BitVec 32 :=
  let c2_i32_103 : BitVec 32 := 2#32
  let c0_i32_19 : BitVec 32 := 0#32
  let c1_i32_21 : BitVec 32 := 1#32
  let arg12 : BitVec 32 := Scf.iv c0_i32_19 c1_i32_21 k0_t1
  let v183 : BitVec 32 := Scalar.muli c2_i32_103 arg12
  let c1_i32_104 : BitVec 32 := 1#32
  let v184 : BitVec 32 := Scalar.addi v183 c1_i32_104
  let c15_i32_105 : BitVec 32 := 15#32
  let v185 : BitVec 32 := Scalar.minsi v184 c15_i32_105
  let c512_i32_106 : BitVec 32 := 512#32
  let v186 : BitVec 32 := Scalar.muli v185 c512_i32_106
  v186
def k0_off2 (i : grid0.Coords) (k0_t1 : Fin (k0_t1_loop i).trips) (c1_i32_104 : BitVec 32) : Fin 3 → Nat :=
  let c0_107 : Index := 0#32
  let c2_i32_103 : BitVec 32 := 2#32
  let c0_i32_19 : BitVec 32 := 0#32
  let c1_i32_21 : BitVec 32 := 1#32
  let arg12 : BitVec 32 := Scf.iv c0_i32_19 c1_i32_21 k0_t1
  let v183 : BitVec 32 := Scalar.muli c2_i32_103 arg12
  let v184 : BitVec 32 := Scalar.addi v183 c1_i32_104
  let c15_i32_105 : BitVec 32 := 15#32
  let v185 : BitVec 32 := Scalar.minsi v184 c15_i32_105
  let c512_i32_106 : BitVec 32 := 512#32
  let v186 : BitVec 32 := Scalar.muli v185 c512_i32_106
  let v187 : BitVec 32 := v186
  let v188 : Index := Scalar.indexCast v187
  let c0_108 : Index := 0#32
  ![0, v188.toNat, 0]
def k0_off3 (i : grid0.Coords) (k0_t1 : Fin (k0_t1_loop i).trips) : Fin 4 → Nat :=
  let c0_115 : Index := 0#32
  let c2_i32_103 : BitVec 32 := 2#32
  let c0_i32_19 : BitVec 32 := 0#32
  let c1_i32_21 : BitVec 32 := 1#32
  let arg12 : BitVec 32 := Scf.iv c0_i32_19 c1_i32_21 k0_t1
  let v183 : BitVec 32 := Scalar.muli c2_i32_103 arg12
  let c15_i32_114 : BitVec 32 := 15#32
  let v196 : BitVec 32 := Scalar.minsi v183 c15_i32_114
  let v197 : Index := Scalar.indexCast v196
  let c0_116 : Index := 0#32
  let c0_117 : Index := 0#32
  ![0, v197.toNat, 0, 0]
def k0_mult3 (i : grid0.Coords) (k0_t1 : Fin (k0_t1_loop i).trips) : BitVec 32 :=
  let c2_i32_103 : BitVec 32 := 2#32
  let c0_i32_19 : BitVec 32 := 0#32
  let c1_i32_21 : BitVec 32 := 1#32
  let arg12 : BitVec 32 := Scf.iv c0_i32_19 c1_i32_21 k0_t1
  let v183 : BitVec 32 := Scalar.muli c2_i32_103 arg12
  let c15_i32_123 : BitVec 32 := 15#32
  let v215 : BitVec 32 := Scalar.minsi v183 c15_i32_123
  let c512_i32_124 : BitVec 32 := 512#32
  let v216 : BitVec 32 := Scalar.muli v215 c512_i32_124
  v216
def k0_off4 (i : grid0.Coords) (k0_t1 : Fin (k0_t1_loop i).trips) : Fin 3 → Nat :=
  let c0_125 : Index := 0#32
  let c2_i32_103 : BitVec 32 := 2#32
  let c0_i32_19 : BitVec 32 := 0#32
  let c1_i32_21 : BitVec 32 := 1#32
  let arg12 : BitVec 32 := Scf.iv c0_i32_19 c1_i32_21 k0_t1
  let v183 : BitVec 32 := Scalar.muli c2_i32_103 arg12
  let c15_i32_123 : BitVec 32 := 15#32
  let v215 : BitVec 32 := Scalar.minsi v183 c15_i32_123
  let c512_i32_124 : BitVec 32 := 512#32
  let v216 : BitVec 32 := Scalar.muli v215 c512_i32_124
  let v217 : BitVec 32 := v216
  let v218 : Index := Scalar.indexCast v217
  let c0_126 : Index := 0#32
  ![0, v218.toNat, 0]
def k0_mult4 (i : grid0.Coords) (k0_t1 : Fin (k0_t1_loop i).trips) : BitVec 32 :=
  let c2_i32_103 : BitVec 32 := 2#32
  let c0_i32_19 : BitVec 32 := 0#32
  let c1_i32_21 : BitVec 32 := 1#32
  let arg12 : BitVec 32 := Scf.iv c0_i32_19 c1_i32_21 k0_t1
  let v183 : BitVec 32 := Scalar.muli c2_i32_103 arg12
  let c2_i32_132 : BitVec 32 := 2#32
  let v229 : BitVec 32 := Scalar.addi v183 c2_i32_132
  let c15_i32_133 : BitVec 32 := 15#32
  let v230 : BitVec 32 := Scalar.minsi v229 c15_i32_133
  let c512_i32_134 : BitVec 32 := 512#32
  let v231 : BitVec 32 := Scalar.muli v230 c512_i32_134
  v231
def k0_off5 (i : grid0.Coords) (k0_t1 : Fin (k0_t1_loop i).trips) : Fin 4 → Nat :=
  let c0_144 : Index := 0#32
  let c2_i32_103 : BitVec 32 := 2#32
  let c0_i32_19 : BitVec 32 := 0#32
  let c1_i32_21 : BitVec 32 := 1#32
  let arg12 : BitVec 32 := Scf.iv c0_i32_19 c1_i32_21 k0_t1
  let v183 : BitVec 32 := Scalar.muli c2_i32_103 arg12
  let c1_i32_140 : BitVec 32 := 1#32
  let v240 : BitVec 32 := Scalar.addi v183 c1_i32_140
  let c15_i32_143 : BitVec 32 := 15#32
  let v242 : BitVec 32 := Scalar.minsi v240 c15_i32_143
  let v243 : Index := Scalar.indexCast v242
  let c0_145 : Index := 0#32
  let c0_146 : Index := 0#32
  ![0, v243.toNat, 0, 0]
def k0_mult5 (i : grid0.Coords) (k0_t1 : Fin (k0_t1_loop i).trips) : BitVec 32 :=
  let c2_i32_103 : BitVec 32 := 2#32
  let c0_i32_19 : BitVec 32 := 0#32
  let c1_i32_21 : BitVec 32 := 1#32
  let arg12 : BitVec 32 := Scf.iv c0_i32_19 c1_i32_21 k0_t1
  let v183 : BitVec 32 := Scalar.muli c2_i32_103 arg12
  let c1_i32_140 : BitVec 32 := 1#32
  let v240 : BitVec 32 := Scalar.addi v183 c1_i32_140
  let c15_i32_152 : BitVec 32 := 15#32
  let v261 : BitVec 32 := Scalar.minsi v240 c15_i32_152
  let c512_i32_153 : BitVec 32 := 512#32
  let v262 : BitVec 32 := Scalar.muli v261 c512_i32_153
  v262
def k0_off6 (i : grid0.Coords) (k0_t1 : Fin (k0_t1_loop i).trips) : Fin 3 → Nat :=
  let c0_154 : Index := 0#32
  let c2_i32_103 : BitVec 32 := 2#32
  let c0_i32_19 : BitVec 32 := 0#32
  let c1_i32_21 : BitVec 32 := 1#32
  let arg12 : BitVec 32 := Scf.iv c0_i32_19 c1_i32_21 k0_t1
  let v183 : BitVec 32 := Scalar.muli c2_i32_103 arg12
  let c1_i32_140 : BitVec 32 := 1#32
  let v240 : BitVec 32 := Scalar.addi v183 c1_i32_140
  let c15_i32_152 : BitVec 32 := 15#32
  let v261 : BitVec 32 := Scalar.minsi v240 c15_i32_152
  let c512_i32_153 : BitVec 32 := 512#32
  let v262 : BitVec 32 := Scalar.muli v261 c512_i32_153
  let v263 : BitVec 32 := v262
  let v264 : Index := Scalar.indexCast v263
  let c0_155 : Index := 0#32
  ![0, v264.toNat, 0]
@[reducible] def k0_t2_loop (i : grid0.Coords) : Scf.Loop 32 :=
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let v45 : BitVec 32 := Scalar.addi c0_i32_19 v44
  let c1_i32_22 : BitVec 32 := 1#32
  ⟨v48, v45, c1_i32_22⟩
def k0_mult6 (i : grid0.Coords) (k0_t2 : Fin (k0_t2_loop i).trips) : BitVec 32 :=
  let c2_i32_103 : BitVec 32 := 2#32
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v183 : BitVec 32 := Scalar.muli c2_i32_103 arg12
  let c1_i32_104 : BitVec 32 := 1#32
  let v184 : BitVec 32 := Scalar.addi v183 c1_i32_104
  let c15_i32_105 : BitVec 32 := 15#32
  let v185 : BitVec 32 := Scalar.minsi v184 c15_i32_105
  let c512_i32_106 : BitVec 32 := 512#32
  let v186 : BitVec 32 := Scalar.muli v185 c512_i32_106
  v186
def k0_off7 (i : grid0.Coords) (k0_t2 : Fin (k0_t2_loop i).trips) (c1_i32_104 : BitVec 32) : Fin 3 → Nat :=
  let c0_107 : Index := 0#32
  let c2_i32_103 : BitVec 32 := 2#32
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v183 : BitVec 32 := Scalar.muli c2_i32_103 arg12
  let v184 : BitVec 32 := Scalar.addi v183 c1_i32_104
  let c15_i32_105 : BitVec 32 := 15#32
  let v185 : BitVec 32 := Scalar.minsi v184 c15_i32_105
  let c512_i32_106 : BitVec 32 := 512#32
  let v186 : BitVec 32 := Scalar.muli v185 c512_i32_106
  let v187 : BitVec 32 := v186
  let v188 : Index := Scalar.indexCast v187
  let c0_108 : Index := 0#32
  ![0, v188.toNat, 0]
def k0_off8 (i : grid0.Coords) (k0_t2 : Fin (k0_t2_loop i).trips) : Fin 4 → Nat :=
  let c0_115 : Index := 0#32
  let c2_i32_103 : BitVec 32 := 2#32
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v183 : BitVec 32 := Scalar.muli c2_i32_103 arg12
  let c15_i32_114 : BitVec 32 := 15#32
  let v196 : BitVec 32 := Scalar.minsi v183 c15_i32_114
  let v197 : Index := Scalar.indexCast v196
  let c0_116 : Index := 0#32
  let c0_117 : Index := 0#32
  ![0, v197.toNat, 0, 0]
def k0_mult7 (i : grid0.Coords) (k0_t2 : Fin (k0_t2_loop i).trips) : BitVec 32 :=
  let c2_i32_103 : BitVec 32 := 2#32
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v183 : BitVec 32 := Scalar.muli c2_i32_103 arg12
  let c15_i32_123 : BitVec 32 := 15#32
  let v215 : BitVec 32 := Scalar.minsi v183 c15_i32_123
  let c512_i32_124 : BitVec 32 := 512#32
  let v216 : BitVec 32 := Scalar.muli v215 c512_i32_124
  v216
def k0_off9 (i : grid0.Coords) (k0_t2 : Fin (k0_t2_loop i).trips) : Fin 3 → Nat :=
  let c0_125 : Index := 0#32
  let c2_i32_103 : BitVec 32 := 2#32
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v183 : BitVec 32 := Scalar.muli c2_i32_103 arg12
  let c15_i32_123 : BitVec 32 := 15#32
  let v215 : BitVec 32 := Scalar.minsi v183 c15_i32_123
  let c512_i32_124 : BitVec 32 := 512#32
  let v216 : BitVec 32 := Scalar.muli v215 c512_i32_124
  let v217 : BitVec 32 := v216
  let v218 : Index := Scalar.indexCast v217
  let c0_126 : Index := 0#32
  ![0, v218.toNat, 0]
def k0_mult8 (i : grid0.Coords) (k0_t2 : Fin (k0_t2_loop i).trips) : BitVec 32 :=
  let c2_i32_103 : BitVec 32 := 2#32
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v183 : BitVec 32 := Scalar.muli c2_i32_103 arg12
  let c2_i32_132 : BitVec 32 := 2#32
  let v229 : BitVec 32 := Scalar.addi v183 c2_i32_132
  let c15_i32_133 : BitVec 32 := 15#32
  let v230 : BitVec 32 := Scalar.minsi v229 c15_i32_133
  let c512_i32_134 : BitVec 32 := 512#32
  let v231 : BitVec 32 := Scalar.muli v230 c512_i32_134
  v231
def k0_off10 (i : grid0.Coords) (k0_t2 : Fin (k0_t2_loop i).trips) : Fin 4 → Nat :=
  let c0_144 : Index := 0#32
  let c2_i32_103 : BitVec 32 := 2#32
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v183 : BitVec 32 := Scalar.muli c2_i32_103 arg12
  let c1_i32_140 : BitVec 32 := 1#32
  let v240 : BitVec 32 := Scalar.addi v183 c1_i32_140
  let c15_i32_143 : BitVec 32 := 15#32
  let v242 : BitVec 32 := Scalar.minsi v240 c15_i32_143
  let v243 : Index := Scalar.indexCast v242
  let c0_145 : Index := 0#32
  let c0_146 : Index := 0#32
  ![0, v243.toNat, 0, 0]
def k0_mult9 (i : grid0.Coords) (k0_t2 : Fin (k0_t2_loop i).trips) : BitVec 32 :=
  let c2_i32_103 : BitVec 32 := 2#32
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v183 : BitVec 32 := Scalar.muli c2_i32_103 arg12
  let c1_i32_140 : BitVec 32 := 1#32
  let v240 : BitVec 32 := Scalar.addi v183 c1_i32_140
  let c15_i32_152 : BitVec 32 := 15#32
  let v261 : BitVec 32 := Scalar.minsi v240 c15_i32_152
  let c512_i32_153 : BitVec 32 := 512#32
  let v262 : BitVec 32 := Scalar.muli v261 c512_i32_153
  v262
def k0_off11 (i : grid0.Coords) (k0_t2 : Fin (k0_t2_loop i).trips) : Fin 3 → Nat :=
  let c0_154 : Index := 0#32
  let c2_i32_103 : BitVec 32 := 2#32
  let c0_i32_19 : BitVec 32 := 0#32
  let arg1 : BitVec 32 := BitVec.ofNat 32 (i 1).val
  let c0_i32_13 : BitVec 32 := 0#32
  let v28 : BitVec 1 := Scalar.cmpi .sgt arg1 c0_i32_13
  let v29 : BitVec 32 := Scalar.extui v28
  let c0_i32_14 : BitVec 32 := 0#32
  let v30 : BitVec 1 := Scalar.cmpi .slt arg1 c0_i32_14
  let v31 : BitVec 32 := Scalar.extui v30
  let v32 : BitVec 32 := Scalar.subi v29 v31
  let c2_i32 : BitVec 32 := 2#32
  let c0_i32_15 : BitVec 32 := 0#32
  let v33 : BitVec 1 := Scalar.cmpi .sgt c2_i32 c0_i32_15
  let v34 : BitVec 32 := Scalar.extui v33
  let c0_i32_16 : BitVec 32 := 0#32
  let v35 : BitVec 1 := Scalar.cmpi .slt c2_i32 c0_i32_16
  let v36 : BitVec 32 := Scalar.extui v35
  let v37 : BitVec 32 := Scalar.subi v34 v36
  let v38 : BitVec 1 := Scalar.cmpi .ne v32 v37
  let v39 : BitVec 32 := Scalar.remsi arg1 c2_i32
  let c0_i32_17 : BitVec 32 := 0#32
  let v40 : BitVec 1 := Scalar.cmpi .ne v39 c0_i32_17
  let v41 : BitVec 1 := Scalar.andi v38 v40
  let v27 : BitVec 32 := Scalar.divsi arg1 c2_i32
  let c1_i32 : BitVec 32 := 1#32
  let v42 : BitVec 32 := Scalar.subi v27 c1_i32
  let v43 : BitVec 32 := Scalar.select v41 v42 v27
  let v44 : BitVec 32 := Scalar.subi v43 c0_i32_19
  let c1_i32_20 : BitVec 32 := 1#32
  let v46 : BitVec 32 := Scalar.divsi v44 c1_i32_20
  let v47 : BitVec 32 := Scalar.muli v46 c1_i32_20
  let v48 : BitVec 32 := Scalar.addi c0_i32_19 v47
  let c1_i32_22 : BitVec 32 := 1#32
  let arg12 : BitVec 32 := Scf.iv v48 c1_i32_22 k0_t2
  let v183 : BitVec 32 := Scalar.muli c2_i32_103 arg12
  let c1_i32_140 : BitVec 32 := 1#32
  let v240 : BitVec 32 := Scalar.addi v183 c1_i32_140
  let c15_i32_152 : BitVec 32 := 15#32
  let v261 : BitVec 32 := Scalar.minsi v240 c15_i32_152
  let c512_i32_153 : BitVec 32 := 512#32
  let v262 : BitVec 32 := Scalar.muli v261 c512_i32_153
  let v263 : BitVec 32 := v262
  let v264 : Index := Scalar.indexCast v263
  let c0_155 : Index := 0#32
  ![0, v264.toNat, 0]
def k0_mult10 (i : grid0.Coords) : BitVec 32 :=
  let c2_i32_30 : BitVec 32 := 2#32
  let arg1 : BitVec 32 := BitVec.ofNat 32 (i 1).val
  let c0_i32_24 : BitVec 32 := 0#32
  let v50 : BitVec 1 := Scalar.cmpi .sgt arg1 c0_i32_24
  let v51 : BitVec 32 := Scalar.extui v50
  let c0_i32_25 : BitVec 32 := 0#32
  let v52 : BitVec 1 := Scalar.cmpi .slt arg1 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi arg1 c2_i32_23
  let c0_i32_28 : BitVec 32 := 0#32
  let v62 : BitVec 1 := Scalar.cmpi .ne v61 c0_i32_28
  let v63 : BitVec 1 := Scalar.andi v60 v62
  let v49 : BitVec 32 := Scalar.divsi arg1 c2_i32_23
  let c1_i32_29 : BitVec 32 := 1#32
  let v64 : BitVec 32 := Scalar.subi v49 c1_i32_29
  let v65 : BitVec 32 := Scalar.select v63 v64 v49
  let v66 : BitVec 32 := Scalar.muli c2_i32_30 v65
  let c1_i32_31 : BitVec 32 := 1#32
  let v67 : BitVec 32 := Scalar.addi v66 c1_i32_31
  let c15_i32_32 : BitVec 32 := 15#32
  let v68 : BitVec 32 := Scalar.minsi v67 c15_i32_32
  let c512_i32_33 : BitVec 32 := 512#32
  let v69 : BitVec 32 := Scalar.muli v68 c512_i32_33
  v69
def k0_off12 (i : grid0.Coords) (c1_i32_31 : BitVec 32) : Fin 3 → Nat :=
  let c0_34 : Index := 0#32
  let c2_i32_30 : BitVec 32 := 2#32
  let arg1 : BitVec 32 := BitVec.ofNat 32 (i 1).val
  let c0_i32_24 : BitVec 32 := 0#32
  let v50 : BitVec 1 := Scalar.cmpi .sgt arg1 c0_i32_24
  let v51 : BitVec 32 := Scalar.extui v50
  let c0_i32_25 : BitVec 32 := 0#32
  let v52 : BitVec 1 := Scalar.cmpi .slt arg1 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi arg1 c2_i32_23
  let c0_i32_28 : BitVec 32 := 0#32
  let v62 : BitVec 1 := Scalar.cmpi .ne v61 c0_i32_28
  let v63 : BitVec 1 := Scalar.andi v60 v62
  let v49 : BitVec 32 := Scalar.divsi arg1 c2_i32_23
  let c1_i32_29 : BitVec 32 := 1#32
  let v64 : BitVec 32 := Scalar.subi v49 c1_i32_29
  let v65 : BitVec 32 := Scalar.select v63 v64 v49
  let v66 : BitVec 32 := Scalar.muli c2_i32_30 v65
  let v67 : BitVec 32 := Scalar.addi v66 c1_i32_31
  let c15_i32_32 : BitVec 32 := 15#32
  let v68 : BitVec 32 := Scalar.minsi v67 c15_i32_32
  let c512_i32_33 : BitVec 32 := 512#32
  let v69 : BitVec 32 := Scalar.muli v68 c512_i32_33
  let v70 : BitVec 32 := v69
  let v71 : Index := Scalar.indexCast v70
  let c0_35 : Index := 0#32
  ![0, v71.toNat, 0]
def k0_off13 (i : grid0.Coords) : Fin 4 → Nat :=
  let c0_42 : Index := 0#32
  let c2_i32_30 : BitVec 32 := 2#32
  let arg1 : BitVec 32 := BitVec.ofNat 32 (i 1).val
  let c0_i32_24 : BitVec 32 := 0#32
  let v50 : BitVec 1 := Scalar.cmpi .sgt arg1 c0_i32_24
  let v51 : BitVec 32 := Scalar.extui v50
  let c0_i32_25 : BitVec 32 := 0#32
  let v52 : BitVec 1 := Scalar.cmpi .slt arg1 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi arg1 c2_i32_23
  let c0_i32_28 : BitVec 32 := 0#32
  let v62 : BitVec 1 := Scalar.cmpi .ne v61 c0_i32_28
  let v63 : BitVec 1 := Scalar.andi v60 v62
  let v49 : BitVec 32 := Scalar.divsi arg1 c2_i32_23
  let c1_i32_29 : BitVec 32 := 1#32
  let v64 : BitVec 32 := Scalar.subi v49 c1_i32_29
  let v65 : BitVec 32 := Scalar.select v63 v64 v49
  let v66 : BitVec 32 := Scalar.muli c2_i32_30 v65
  let c15_i32_41 : BitVec 32 := 15#32
  let v79 : BitVec 32 := Scalar.minsi v66 c15_i32_41
  let v80 : Index := Scalar.indexCast v79
  let c0_43 : Index := 0#32
  let c0_44 : Index := 0#32
  ![0, v80.toNat, 0, 0]
def k0_mult11 (i : grid0.Coords) : BitVec 32 :=
  let c2_i32_30 : BitVec 32 := 2#32
  let arg1 : BitVec 32 := BitVec.ofNat 32 (i 1).val
  let c0_i32_24 : BitVec 32 := 0#32
  let v50 : BitVec 1 := Scalar.cmpi .sgt arg1 c0_i32_24
  let v51 : BitVec 32 := Scalar.extui v50
  let c0_i32_25 : BitVec 32 := 0#32
  let v52 : BitVec 1 := Scalar.cmpi .slt arg1 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi arg1 c2_i32_23
  let c0_i32_28 : BitVec 32 := 0#32
  let v62 : BitVec 1 := Scalar.cmpi .ne v61 c0_i32_28
  let v63 : BitVec 1 := Scalar.andi v60 v62
  let v49 : BitVec 32 := Scalar.divsi arg1 c2_i32_23
  let c1_i32_29 : BitVec 32 := 1#32
  let v64 : BitVec 32 := Scalar.subi v49 c1_i32_29
  let v65 : BitVec 32 := Scalar.select v63 v64 v49
  let v66 : BitVec 32 := Scalar.muli c2_i32_30 v65
  let c15_i32_52 : BitVec 32 := 15#32
  let v104 : BitVec 32 := Scalar.minsi v66 c15_i32_52
  let c512_i32_53 : BitVec 32 := 512#32
  let v105 : BitVec 32 := Scalar.muli v104 c512_i32_53
  v105
def k0_off14 (i : grid0.Coords) : Fin 3 → Nat :=
  let c0_54 : Index := 0#32
  let c2_i32_30 : BitVec 32 := 2#32
  let arg1 : BitVec 32 := BitVec.ofNat 32 (i 1).val
  let c0_i32_24 : BitVec 32 := 0#32
  let v50 : BitVec 1 := Scalar.cmpi .sgt arg1 c0_i32_24
  let v51 : BitVec 32 := Scalar.extui v50
  let c0_i32_25 : BitVec 32 := 0#32
  let v52 : BitVec 1 := Scalar.cmpi .slt arg1 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi arg1 c2_i32_23
  let c0_i32_28 : BitVec 32 := 0#32
  let v62 : BitVec 1 := Scalar.cmpi .ne v61 c0_i32_28
  let v63 : BitVec 1 := Scalar.andi v60 v62
  let v49 : BitVec 32 := Scalar.divsi arg1 c2_i32_23
  let c1_i32_29 : BitVec 32 := 1#32
  let v64 : BitVec 32 := Scalar.subi v49 c1_i32_29
  let v65 : BitVec 32 := Scalar.select v63 v64 v49
  let v66 : BitVec 32 := Scalar.muli c2_i32_30 v65
  let c15_i32_52 : BitVec 32 := 15#32
  let v104 : BitVec 32 := Scalar.minsi v66 c15_i32_52
  let c512_i32_53 : BitVec 32 := 512#32
  let v105 : BitVec 32 := Scalar.muli v104 c512_i32_53
  let v106 : BitVec 32 := v105
  let v107 : Index := Scalar.indexCast v106
  let c0_55 : Index := 0#32
  ![0, v107.toNat, 0]
def k0_mult12 (i : grid0.Coords) : BitVec 32 :=
  let c2_i32_30 : BitVec 32 := 2#32
  let arg1 : BitVec 32 := BitVec.ofNat 32 (i 1).val
  let c0_i32_24 : BitVec 32 := 0#32
  let v50 : BitVec 1 := Scalar.cmpi .sgt arg1 c0_i32_24
  let v51 : BitVec 32 := Scalar.extui v50
  let c0_i32_25 : BitVec 32 := 0#32
  let v52 : BitVec 1 := Scalar.cmpi .slt arg1 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi arg1 c2_i32_23
  let c0_i32_28 : BitVec 32 := 0#32
  let v62 : BitVec 1 := Scalar.cmpi .ne v61 c0_i32_28
  let v63 : BitVec 1 := Scalar.andi v60 v62
  let v49 : BitVec 32 := Scalar.divsi arg1 c2_i32_23
  let c1_i32_29 : BitVec 32 := 1#32
  let v64 : BitVec 32 := Scalar.subi v49 c1_i32_29
  let v65 : BitVec 32 := Scalar.select v63 v64 v49
  let v66 : BitVec 32 := Scalar.muli c2_i32_30 v65
  let c2_i32_61 : BitVec 32 := 2#32
  let v118 : BitVec 32 := Scalar.addi v66 c2_i32_61
  let c15_i32_62 : BitVec 32 := 15#32
  let v119 : BitVec 32 := Scalar.minsi v118 c15_i32_62
  let c512_i32_63 : BitVec 32 := 512#32
  let v120 : BitVec 32 := Scalar.muli v119 c512_i32_63
  v120
def k0_off15 (i : grid0.Coords) : Fin 4 → Nat :=
  let c0_73 : Index := 0#32
  let c2_i32_30 : BitVec 32 := 2#32
  let arg1 : BitVec 32 := BitVec.ofNat 32 (i 1).val
  let c0_i32_24 : BitVec 32 := 0#32
  let v50 : BitVec 1 := Scalar.cmpi .sgt arg1 c0_i32_24
  let v51 : BitVec 32 := Scalar.extui v50
  let c0_i32_25 : BitVec 32 := 0#32
  let v52 : BitVec 1 := Scalar.cmpi .slt arg1 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi arg1 c2_i32_23
  let c0_i32_28 : BitVec 32 := 0#32
  let v62 : BitVec 1 := Scalar.cmpi .ne v61 c0_i32_28
  let v63 : BitVec 1 := Scalar.andi v60 v62
  let v49 : BitVec 32 := Scalar.divsi arg1 c2_i32_23
  let c1_i32_29 : BitVec 32 := 1#32
  let v64 : BitVec 32 := Scalar.subi v49 c1_i32_29
  let v65 : BitVec 32 := Scalar.select v63 v64 v49
  let v66 : BitVec 32 := Scalar.muli c2_i32_30 v65
  let c1_i32_69 : BitVec 32 := 1#32
  let v129 : BitVec 32 := Scalar.addi v66 c1_i32_69
  let c15_i32_72 : BitVec 32 := 15#32
  let v131 : BitVec 32 := Scalar.minsi v129 c15_i32_72
  let v132 : Index := Scalar.indexCast v131
  let c0_74 : Index := 0#32
  let c0_75 : Index := 0#32
  ![0, v132.toNat, 0, 0]
def k0_mult13 (i : grid0.Coords) : BitVec 32 :=
  let c2_i32_30 : BitVec 32 := 2#32
  let arg1 : BitVec 32 := BitVec.ofNat 32 (i 1).val
  let c0_i32_24 : BitVec 32 := 0#32
  let v50 : BitVec 1 := Scalar.cmpi .sgt arg1 c0_i32_24
  let v51 : BitVec 32 := Scalar.extui v50
  let c0_i32_25 : BitVec 32 := 0#32
  let v52 : BitVec 1 := Scalar.cmpi .slt arg1 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi arg1 c2_i32_23
  let c0_i32_28 : BitVec 32 := 0#32
  let v62 : BitVec 1 := Scalar.cmpi .ne v61 c0_i32_28
  let v63 : BitVec 1 := Scalar.andi v60 v62
  let v49 : BitVec 32 := Scalar.divsi arg1 c2_i32_23
  let c1_i32_29 : BitVec 32 := 1#32
  let v64 : BitVec 32 := Scalar.subi v49 c1_i32_29
  let v65 : BitVec 32 := Scalar.select v63 v64 v49
  let v66 : BitVec 32 := Scalar.muli c2_i32_30 v65
  let c1_i32_69 : BitVec 32 := 1#32
  let v129 : BitVec 32 := Scalar.addi v66 c1_i32_69
  let c15_i32_83 : BitVec 32 := 15#32
  let v156 : BitVec 32 := Scalar.minsi v129 c15_i32_83
  let c512_i32_84 : BitVec 32 := 512#32
  let v157 : BitVec 32 := Scalar.muli v156 c512_i32_84
  v157
def k0_off16 (i : grid0.Coords) : Fin 3 → Nat :=
  let c0_85 : Index := 0#32
  let c2_i32_30 : BitVec 32 := 2#32
  let arg1 : BitVec 32 := BitVec.ofNat 32 (i 1).val
  let c0_i32_24 : BitVec 32 := 0#32
  let v50 : BitVec 1 := Scalar.cmpi .sgt arg1 c0_i32_24
  let v51 : BitVec 32 := Scalar.extui v50
  let c0_i32_25 : BitVec 32 := 0#32
  let v52 : BitVec 1 := Scalar.cmpi .slt arg1 c0_i32_25
  let v53 : BitVec 32 := Scalar.extui v52
  let v54 : BitVec 32 := Scalar.subi v51 v53
  let c2_i32_23 : BitVec 32 := 2#32
  let c0_i32_26 : BitVec 32 := 0#32
  let v55 : BitVec 1 := Scalar.cmpi .sgt c2_i32_23 c0_i32_26
  let v56 : BitVec 32 := Scalar.extui v55
  let c0_i32_27 : BitVec 32 := 0#32
  let v57 : BitVec 1 := Scalar.cmpi .slt c2_i32_23 c0_i32_27
  let v58 : BitVec 32 := Scalar.extui v57
  let v59 : BitVec 32 := Scalar.subi v56 v58
  let v60 : BitVec 1 := Scalar.cmpi .ne v54 v59
  let v61 : BitVec 32 := Scalar.remsi arg1 c2_i32_23
  let c0_i32_28 : BitVec 32 := 0#32
  let v62 : BitVec 1 := Scalar.cmpi .ne v61 c0_i32_28
  let v63 : BitVec 1 := Scalar.andi v60 v62
  let v49 : BitVec 32 := Scalar.divsi arg1 c2_i32_23
  let c1_i32_29 : BitVec 32 := 1#32
  let v64 : BitVec 32 := Scalar.subi v49 c1_i32_29
  let v65 : BitVec 32 := Scalar.select v63 v64 v49
  let v66 : BitVec 32 := Scalar.muli c2_i32_30 v65
  let c1_i32_69 : BitVec 32 := 1#32
  let v129 : BitVec 32 := Scalar.addi v66 c1_i32_69
  let c15_i32_83 : BitVec 32 := 15#32
  let v156 : BitVec 32 := Scalar.minsi v129 c15_i32_83
  let c512_i32_84 : BitVec 32 := 512#32
  let v157 : BitVec 32 := Scalar.muli v156 c512_i32_84
  let v158 : BitVec 32 := v157
  let v159 : Index := Scalar.indexCast v158
  let c0_86 : Index := 0#32
  ![0, v159.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Kernel15Ideal.lean ====
variable {F : FTy → Type} [FloatOps F] [Named F]
def κ : String → Option EReal := fun
  | "mask" => some ⊥
  | _ => none
-- ==== Reference15Ideal.lean ====
abbrev S50x8192x64 : Shape := ⟨3, ![50, 8192, 64]⟩
abbrev S8x8192 : Shape := ⟨2, ![8, 8192]⟩
abbrev S8x8192x64 : Shape := ⟨3, ![8, 8192, 64]⟩
abbrev S8192 : Shape := ⟨1, ![8192]⟩
abbrev S8x8192x8192 : Shape := ⟨3, ![8, 8192, 8192]⟩
abbrev S_ : Shape := ⟨0, ![]⟩
abbrev S8x1x8192 : Shape := ⟨3, ![8, 1, 8192]⟩
abbrev S1x8192 : Shape := ⟨2, ![1, 8192]⟩
abbrev S8192x1 : Shape := ⟨2, ![8192, 1]⟩
abbrev S8192x8192 : Shape := ⟨2, ![8192, 8192]⟩
abbrev S8x8192x1 : Shape := ⟨3, ![8, 8192, 1]⟩

abbrev nBuf : Space → Nat
  | .hbm => 40
  | .vmem => 0
  | .smem => 0
  | _ => 0

abbrev bufTy : (tb : Table) → Fin (tcTables nBuf tb) → BufTy
  | .hbm, ⟨0, _⟩ => ⟨S50x8192x64, .bf16⟩
  | .hbm, ⟨1, _⟩ => ⟨S8x8192, .f32⟩
  | .hbm, ⟨2, _⟩ => ⟨S8x8192x64, .bf16⟩
  | .hbm, ⟨3, _⟩ => ⟨S8x8192x64, .f32⟩
  | .hbm, ⟨4, _⟩ => ⟨S8x8192x64, .bf16⟩
  | .hbm, ⟨5, _⟩ => ⟨S8x8192x64, .f32⟩
  | .hbm, ⟨6, _⟩ => ⟨S8x8192x64, .bf16⟩
  | .hbm, ⟨7, _⟩ => ⟨S8x8192x64, .f32⟩
  | .hbm, ⟨8, _⟩ => ⟨S8192, .i32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8x1x8192, .f32⟩
  | .hbm, ⟨14, _⟩ => ⟨S8x8192x8192, .f32⟩
  | .hbm, ⟨15, _⟩ => ⟨S8x8192x8192, .f32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S_, .f32⟩
  | .hbm, ⟨22, _⟩ => ⟨S_, .f32⟩
  | .hbm, ⟨23, _⟩ => ⟨S8x8192x8192, .i1⟩
  | .hbm, ⟨24, _⟩ => ⟨S8x8192x8192, .f32⟩
  | .hbm, ⟨25, _⟩ => ⟨S8x8192x8192, .f32⟩
  | .hbm, ⟨26, _⟩ => ⟨S_, .f32⟩
  | .hbm, ⟨27, _⟩ => ⟨S8x8192, .f32⟩
  | .hbm, ⟨28, _⟩ => ⟨S8x8192x1, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S_, .f32⟩
  | .hbm, ⟨33, _⟩ => ⟨S8x8192, .f32⟩
  | .hbm, ⟨34, _⟩ => ⟨S8x8192x1, .f32⟩
  | .hbm, ⟨35, _⟩ => ⟨S8x8192x8192, .f32⟩
  | .hbm, ⟨36, _⟩ => ⟨S8x8192x8192, .f32⟩
  | .hbm, ⟨37, _⟩ => ⟨S8x8192x64, .f32⟩
  | .hbm, ⟨38, _⟩ => ⟨S8x8192x1, .f32⟩
  | .hbm, ⟨39, _⟩ => ⟨S8x8192x1, .f32⟩
  | _, _ => ⟨S50x8192x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩

abbrev nD : Nat := 1
abbrev τ : Topo := Topo.v7x

variable {F : FTy → Type} [FloatOps F]
-- ==== Proof.OffsetsI.lean ====
/- The row offsets of the attention gradient's loads and stores, each in closed form: the block of 512 rows it names. -/
module

public import proofs.«01_k».proof.Proof.Gen.KernelIdeal
public import Idealize.ShloMosaic.Lib.Exec

@[expose] public section

set_option Elab.async false

namespace Cert.KernelIdeal.Hand

open Cert.KernelIdeal Cert.KernelIdeal.Gen
open Idealize.ShloMosaic Idealize.SL.Sem

theorem trips_eq : ∀ i : grid0.Coords, (k0_t1_loop i).trips = (i 1).val / 2 := by decide +kernel

theorem off2a_eq : ∀ (i : grid0.Coords) (k : Fin (k0_t1_loop i).trips), k0_off2 i k 1#32 = ![0, 512 * (2 * k.val + 1), 0] := by decide +kernel
theorem off2b_eq : ∀ (i : grid0.Coords) (k : Fin (k0_t1_loop i).trips), k0_off2 i k 2#32 = ![0, 512 * (2 * k.val + 2), 0] := by decide +kernel
theorem off3_eq : ∀ (i : grid0.Coords) (k : Fin (k0_t1_loop i).trips), k0_off3 i k = ![0, 2 * k.val, 0, 0] := by decide +kernel
theorem off4_eq : ∀ (i : grid0.Coords) (k : Fin (k0_t1_loop i).trips), k0_off4 i k = ![0, 512 * (2 * k.val), 0] := by decide +kernel
theorem off5_eq : ∀ (i : grid0.Coords) (k : Fin (k0_t1_loop i).trips), k0_off5 i k = ![0, 512 * (2 * k.val), 0] := by decide +kernel
theorem off6_eq : ∀ (i : grid0.Coords) (k : Fin (k0_t1_loop i).trips), k0_off6 i k = ![0, 2 * k.val, 0, 0] := by decide +kernel
theorem off7_eq : ∀ (i : grid0.Coords) (k : Fin (k0_t1_loop i).trips), k0_off7 i k = ![0, 2 * k.val + 1, 0, 0] := by decide +kernel
theorem off8_eq : ∀ (i : grid0.Coords) (k : Fin (k0_t1_loop i).trips), k0_off8 i k = ![0, 512 * (2 * k.val + 1), 0] := by decide +kernel
theorem off9_eq : ∀ (i : grid0.Coords) (k : Fin (k0_t1_loop i).trips), k0_off9 i k = ![0, 2 * k.val + 1, 0, 0] := by decide +kernel
theorem off18a_eq : ∀ i : grid0.Coords, k0_off18 i 1#32 = ![0, 512 * (2 * ((i 1).val / 2) + 1), 0] := by decide +kernel
theorem off18b_eq : ∀ i : grid0.Coords, k0_off18 i 2#32 = ![0, 512 * min (2 * ((i 1).val / 2) + 2) 15, 0] := by decide +kernel
theorem off19_eq : ∀ i : grid0.Coords, k0_off19 i = ![0, 2 * ((i 1).val / 2), 0, 0] := by decide +kernel
theorem off20_eq : ∀ i : grid0.Coords, k0_off20 i = ![0, 512 * (2 * ((i 1).val / 2)), 0] := by decide +kernel
theorem off21_eq : ∀ i : grid0.Coords, k0_off21 i = ![0, 512 * (2 * ((i 1).val / 2)), 0] := by decide +kernel
theorem off22_eq : ∀ i : grid0.Coords, k0_off22 i = ![0, 2 * ((i 1).val / 2), 0, 0] := by decide +kernel
theorem off23_eq : ∀ i : grid0.Coords, k0_off23 i = ![0, 2 * ((i 1).val / 2) + 1, 0, 0] := by decide +kernel
theorem off24_eq : ∀ i : grid0.Coords, k0_off24 i = ![0, 512 * (2 * ((i 1).val / 2) + 1), 0] := by decide +kernel
theorem off25_eq : ∀ i : grid0.Coords, k0_off25 i = ![0, 2 * ((i 1).val / 2) + 1, 0, 0] := by decide +kernel

instance (i : grid0.Coords) (k : Fin (k0_t1_loop i).trips) : ClosedOff (k0_off5 i k) := ⟨_, off5_eq i k⟩
instance (i : grid0.Coords) (k : Fin (k0_t1_loop i).trips) : ClosedOff (k0_off6 i k) := ⟨_, off6_eq i k⟩
instance (i : grid0.Coords) (k : Fin (k0_t1_loop i).trips) : ClosedOff (k0_off8 i k) := ⟨_, off8_eq i k⟩
instance (i : grid0.Coords) (k : Fin (k0_t1_loop i).trips) : ClosedOff (k0_off9 i k) := ⟨_, off9_eq i k⟩
instance (i : grid0.Coords) : ClosedOff (k0_off21 i) := ⟨_, off21_eq i⟩
instance (i : grid0.Coords) : ClosedOff (k0_off22 i) := ⟨_, off22_eq i⟩
instance (i : grid0.Coords) : ClosedOff (k0_off24 i) := ⟨_, off24_eq i⟩
instance (i : grid0.Coords) : ClosedOff (k0_off25 i) := ⟨_, off25_eq i⟩

end Cert.KernelIdeal.Hand

end
-- ==== Proof.StateI.lean ====
/- The attention gradient's tile, by values: what one key block adds to the buffers a grid point keeps, one trip of the
   loop over pairs of key blocks, and the masked pair at the end of the row. Plain functions of vectors. -/
module

public import proofs.«01_k».proof.Proof.OffsetsI
public import proofs.«01_k».proof.Proof.Gen.KernelIdeal.Skeleton
public import Idealize.ShloMosaic.Lib.VecWindow

@[expose] public section

noncomputable section

namespace Cert.KernelIdeal.Hand

open Cert.KernelIdeal Cert.KernelIdeal.Gen
open Idealize.ShloMosaic Idealize.ShloMosaic.TcCoe

variable {F : FTy → Type} [FloatOps F] [Named F]

/-- What a grid point only reads while it goes over the key blocks: the key and value columns with their columns of ones,
    the decay row, the widened `dO` and `q` rows, and the scaled `q` rows and `dO` rows themselves. -/
structure Env (F : FTy → Type) where
  kk : Vec F S1x8192x128 .bf16
  vv : Vec F S1x8192x128 .bf16
  fr : Vec F S1x16x1x512 .f32
  doa : Vec F S512x128 .bf16
  qa : Vec F S512x128 .bf16
  q8 : FVec F S512x64 .bf16
  do8 : FVec F S512x64 .bf16

/-- What a grid point writes: the three accumulated arrays of the head, the two accumulators of the query block, and the
    two pairs of products. -/
structure St (F : FTy → Type) where
  dk : Vec F S1x8192x64 .f32
  dv : Vec F S1x8192x64 .f32
  ks : Vec F S1x16x8x512 .f32
  dq : Vec F S512x64 .f32
  qs : Vec F S512x1 .f32
  z0 : Vec F S512x512 .f32
  z1 : Vec F S512x512 .f32
  p0 : Vec F S512x512 .f32
  p1 : Vec F S512x512 .f32

/-! ## Windows of a key block -/

theorem inbK (j : Fin 16) : ∀ a, (![0, 512 * j.val, 0] : Fin 3 → ℕ) a + S1x512x128.size a ≤ S1x8192x128.size a := by
  intro a; have := j.isLt; fin_cases a <;> simp [S1x512x128, S1x8192x128] <;> omega
theorem inbD (j : Fin 16) : ∀ a, (![0, 512 * j.val, 0] : Fin 3 → ℕ) a + S1x512x64.size a ≤ S1x8192x64.size a := by
  intro a; have := j.isLt; fin_cases a <;> simp [S1x512x64, S1x8192x64] <;> omega
theorem inbF (j : Fin 16) : ∀ a, (![0, j.val, 0, 0] : Fin 4 → ℕ) a + S1x1x1x512.size a ≤ S1x16x1x512.size a := by
  intro a; have := j.isLt; fin_cases a <;> simp [S1x1x1x512, S1x16x1x512] <;> omega
theorem inbS (j : Fin 16) : ∀ a, (![0, j.val, 0, 0] : Fin 4 → ℕ) a + S1x1x8x512.size a ≤ S1x16x8x512.size a := by
  intro a; have := j.isLt; fin_cases a <;> simp [S1x1x8x512, S1x16x8x512] <;> omega

/-- Key block `j` of a head's columns. -/
def kwin (x : Vec F S1x8192x128 .bf16) (j : Fin 16) : Vec F S1x512x128 .bf16 :=
  VecWindow.window x ![0, 512 * j.val, 0] S1x512x128.size (inbK j)
/-- Key block `j` of an accumulated array. -/
def dwin (x : Vec F S1x8192x64 .f32) (j : Fin 16) : Vec F S1x512x64 .f32 :=
  VecWindow.window x ![0, 512 * j.val, 0] S1x512x64.size (inbD j)
/-- Key block `j` of the decay row. -/
def fwin (x : Vec F S1x16x1x512 .f32) (j : Fin 16) : Vec F S1x1x1x512 .f32 :=
  VecWindow.window x ![0, j.val, 0, 0] S1x1x1x512.size (inbF j)
/-- Key block `j` of the key sums. -/
def swin (x : Vec F S1x16x8x512 .f32) (j : Fin 16) : Vec F S1x1x8x512 .f32 :=
  VecWindow.window x ![0, j.val, 0, 0] S1x1x8x512.size (inbS j)

/-! ## One key block -/

/-- The query block's rows against a key block's columns. -/
def prod (x : Vec F S512x128 .bf16) (w : Vec F S1x512x128 .bf16) : FVec F S512x512 .f32 := k0_pay1 x w
/-- The probabilities of a key block below the diagonal. -/
def prob (z : Vec F S512x512 .f32) (fr : Vec F S1x1x1x512 .f32) : FVec F S512x512 .f32 := k0_pay3 z fr
/-- The probabilities of a masked key block: `d` is how far the query block's rows are ahead of the block's. -/
def probMask (d : BitVec 32) (z : Vec F S512x512 .f32) (fr : Vec F S1x1x1x512 .f32) : FVec F S512x512 .f32 :=
  k0_pay82 k0_pay55 (k0_pay80 z fr) (broadcast S512x512 d)
/-- What a key block adds to the query gradient's accumulator. -/
def dqU (ds : FVec F S512x512 .f32) (dq : Vec F S512x64 .f32) (w : Vec F S1x512x128 .bf16) : FVec F S512x64 .f32 :=
  shapeCast S512x64 (addf dq (extractStridedSlice S512x64 ![0, 0]
    (matmul dot_S512x512_S512x128_S512x128_1_0_0_1_n_n none (truncf .bf16 ds bitsLt_bf16_f32)
      (shapeCast S512x128 w shapeCasts_S1x512x128_S512x128 : FVec F S512x128 .bf16) (constant S512x128 .f32 0x00000000#32))
    slices_S512x128_o0_0_S512x64)) shapeCasts_S512x64_S512x64
/-- What a query block adds to a key block's rows of an accumulated array. -/
def dkU (y : FVec F S512x64 .bf16) (x : FVec F S512x512 .f32) (w : Vec F S1x512x64 .f32) : FVec F S1x512x64 .f32 :=
  k0_pay60 y x w
/-- The state after key block `j`, its probabilities `p` and their gradients `ds` at hand. -/
def grads (E : Env F) (j : Fin 16) (p ds : FVec F S512x512 .f32) (s : St F) : St F :=
  { s with
    dq := dqU ds s.dq (kwin E.kk j)
    dk := VecWindow.put s.dk ![0, 512 * j.val, 0] S1x512x64.size (dkU E.q8 ds (dwin s.dk j))
    dv := VecWindow.put s.dv ![0, 512 * j.val, 0] S1x512x64.size (dkU E.do8 p (dwin s.dv j))
    ks := VecWindow.put s.ks ![0, j.val, 0, 0] S1x1x8x512.size (k0_pay61 ds (swin s.ks j))
    qs := k0_pay62 ds s.qs }

/-! ## A pair of key blocks -/

def setP1 (E : Env F) (j : Fin 16) (s : St F) : St F := { s with z1 := prod E.qa (kwin E.kk j), p1 := prod E.doa (kwin E.vv j) }
def setP0 (E : Env F) (j : Fin 16) (s : St F) : St F := { s with z0 := prod E.qa (kwin E.kk j), p0 := prod E.doa (kwin E.vv j) }
def grads0 (E : Env F) (j : Fin 16) (s : St F) : St F :=
  grads E j (prob s.z0 (fwin E.fr j)) (mulf (prob s.z0 (fwin E.fr j)) s.p0) s
def grads1 (E : Env F) (j : Fin 16) (s : St F) : St F :=
  grads E j (prob s.z1 (fwin E.fr j)) (mulf (prob s.z1 (fwin E.fr j)) s.p1) s
def gradsM0 (E : Env F) (d : BitVec 32) (j : Fin 16) (s : St F) : St F :=
  grads E j (probMask d s.z0 (fwin E.fr j)) (mulf (probMask d s.z0 (fwin E.fr j)) s.p0) s
def gradsM1 (E : Env F) (d : BitVec 32) (j : Fin 16) (s : St F) : St F :=
  grads E j (probMask d s.z1 (fwin E.fr j)) (mulf (probMask d s.z1 (fwin E.fr j)) s.p1) s

/-- The number `n` as a key block, kept below 16. -/
def jb (n : ℕ) : Fin 16 := ⟨min n 15, by omega⟩

/-- One trip of the loop: key blocks `2k` and `2k + 1`, both wholly below the diagonal. -/
def trip (E : Env F) (k : ℕ) (s : St F) : St F :=
  grads1 E (jb (2 * k + 1)) (setP0 E (jb (2 * k + 2)) (grads0 E (jb (2 * k)) (setP1 E (jb (2 * k + 1)) s)))
/-- The state before trip `k`. -/
def trips (E : Env F) (s : St F) : ℕ → St F
  | 0 => s
  | k + 1 => trip E k (trips E s k)
/-- The last, masked pair, key blocks `2k` and `2k + 1`, of query block `i`. -/
def tripM (E : Env F) (i : BitVec 32) (v : BitVec 32) (k : ℕ) (s : St F) : St F :=
  gradsM1 E (Scalar.muli (Scalar.subi i (Scalar.addi v 1#32)) 512#32) (jb (2 * k + 1))
    (setP0 E (jb (2 * k + 2)) (gradsM0 E (Scalar.muli (Scalar.subi i v) 512#32) (jb (2 * k)) (setP1 E (jb (2 * k + 1)) s)))

/-! ## Reading the states -/

theorem jb_of_le {n : ℕ} (h : n ≤ 15) : (jb n).val = n := Nat.min_eq_left h

theorem dwin_put_ne (x : Vec F S1x8192x64 .f32) (w) {j j' : Fin 16} (h : j ≠ j') :
    dwin (VecWindow.put x ![0, 512 * j.val, 0] S1x512x64.size w : Vec F S1x8192x64 .f32) j' = dwin x j' :=
  VecWindow.window_put_of_disjoint x _ _ _ _ _ w 1 (by
    have h' : j.val ≠ j'.val := fun e => h (Fin.ext e)
    show 512 * j'.val + 512 ≤ 512 * j.val ∨ 512 * j.val + 512 ≤ 512 * j'.val
    omega)
theorem swin_put_ne (x : Vec F S1x16x8x512 .f32) (w) {j j' : Fin 16} (h : j ≠ j') :
    swin (VecWindow.put x ![0, j.val, 0, 0] S1x1x8x512.size w : Vec F S1x16x8x512 .f32) j' = swin x j' :=
  VecWindow.window_put_of_disjoint x _ _ _ _ _ w 1 (by
    have h' : j.val ≠ j'.val := fun e => h (Fin.ext e)
    show j'.val + 1 ≤ j.val ∨ j.val + 1 ≤ j'.val
    omega)

/-- Two key blocks in a row, at any probabilities: what each buffer holds after. -/
theorem pair_dk (E : Env F) {j j' : Fin 16} (h : j ≠ j') (j1 j2 : Fin 16) (p ds p' ds' : FVec F S512x512 .f32) (s : St F) :
    (grads E j' p' ds' (setP0 E j2 (grads E j p ds (setP1 E j1 s)))).dk
      = VecWindow.put (VecWindow.put s.dk ![0, 512 * j.val, 0] S1x512x64.size (dkU E.q8 ds (dwin s.dk j)))
          ![0, 512 * j'.val, 0] S1x512x64.size (dkU E.q8 ds' (dwin s.dk j')) :=
  congrArg (fun w => VecWindow.put (VecWindow.put s.dk ![0, 512 * j.val, 0] S1x512x64.size (dkU E.q8 ds (dwin s.dk j)))
          ![0, 512 * j'.val, 0] S1x512x64.size (dkU E.q8 ds' w)) (dwin_put_ne s.dk _ h)
theorem pair_dv (E : Env F) {j j' : Fin 16} (h : j ≠ j') (j1 j2 : Fin 16) (p ds p' ds' : FVec F S512x512 .f32) (s : St F) :
    (grads E j' p' ds' (setP0 E j2 (grads E j p ds (setP1 E j1 s)))).dv
      = VecWindow.put (VecWindow.put s.dv ![0, 512 * j.val, 0] S1x512x64.size (dkU E.do8 p (dwin s.dv j)))
          ![0, 512 * j'.val, 0] S1x512x64.size (dkU E.do8 p' (dwin s.dv j')) :=
  congrArg (fun w => VecWindow.put (VecWindow.put s.dv ![0, 512 * j.val, 0] S1x512x64.size (dkU E.do8 p (dwin s.dv j)))
          ![0, 512 * j'.val, 0] S1x512x64.size (dkU E.do8 p' w)) (dwin_put_ne s.dv _ h)
theorem pair_ks (E : Env F) {j j' : Fin 16} (h : j ≠ j') (j1 j2 : Fin 16) (p ds p' ds' : FVec F S512x512 .f32) (s : St F) :
    (grads E j' p' ds' (setP0 E j2 (grads E j p ds (setP1 E j1 s)))).ks
      = VecWindow.put (VecWindow.put s.ks ![0, j.val, 0, 0] S1x1x8x512.size (k0_pay61 ds (swin s.ks j)))
          ![0, j'.val, 0, 0] S1x1x8x512.size (k0_pay61 ds' (swin s.ks j')) :=
  congrArg (fun w => VecWindow.put (VecWindow.put s.ks ![0, j.val, 0, 0] S1x1x8x512.size (k0_pay61 ds (swin s.ks j)))
          ![0, j'.val, 0, 0] S1x1x8x512.size (k0_pay61 ds' w)) (swin_put_ne s.ks _ h)

/-- A trip, its probabilities and their gradients named by the state before it. -/
theorem trip_eq (E : Env F) (k : ℕ) (s : St F) :
    trip E k s = grads E (jb (2 * k + 1)) (prob (prod E.qa (kwin E.kk (jb (2 * k + 1)))) (fwin E.fr (jb (2 * k + 1))))
      (mulf (prob (prod E.qa (kwin E.kk (jb (2 * k + 1)))) (fwin E.fr (jb (2 * k + 1)))) (prod E.doa (kwin E.vv (jb (2 * k + 1)))))
      (setP0 E (jb (2 * k + 2)) (grads E (jb (2 * k)) (prob s.z0 (fwin E.fr (jb (2 * k))))
        (mulf (prob s.z0 (fwin E.fr (jb (2 * k)))) s.p0) (setP1 E (jb (2 * k + 1)) s))) := rfl

/-! ## The printed payloads under these names -/

theorem pay2_eq (x : Vec F S512x128 .bf16) (w : Vec F S1x512x128 .bf16) : k0_pay2 x w = prod x w := rfl
theorem pay1_eq (x : Vec F S512x128 .bf16) (w : Vec F S1x512x128 .bf16) : k0_pay1 x w = prod x w := rfl
theorem pay12_eq (x : Vec F S512x128 .bf16) (w : Vec F S1x512x128 .bf16) : k0_pay12 x w = prod x w := rfl
theorem pay13_eq (x : Vec F S512x128 .bf16) (w : Vec F S1x512x128 .bf16) : k0_pay13 (k0_pay11 x w) = prod x w := rfl
theorem pay57_eq (x : Vec F S512x128 .bf16) (w : Vec F S1x512x128 .bf16) : k0_pay57 (k0_pay56 x w) = prod x w := rfl
theorem pay58_eq (x : Vec F S512x128 .bf16) (w : Vec F S1x512x128 .bf16) : k0_pay58 x w = prod x w := rfl
theorem pay67_eq (x : Vec F S512x128 .bf16) (w : Vec F S1x512x128 .bf16) : k0_pay67 x w = prod x w := rfl
theorem pay68_eq (x : Vec F S512x128 .bf16) (w : Vec F S1x512x128 .bf16) : k0_pay68 x w = prod x w := rfl
theorem pay78_eq (x : Vec F S512x128 .bf16) (w : Vec F S1x512x128 .bf16) : k0_pay78 x w = prod x w := rfl
theorem pay79_eq (x : Vec F S512x128 .bf16) (w : Vec F S1x512x128 .bf16) : k0_pay79 x w = prod x w := rfl

section
variable (z dp : Vec F S512x512 .f32) (fr : Vec F S1x1x1x512 .f32)
theorem pay3_eq : k0_pay3 z fr = prob z fr := rfl
theorem pay14_eq : k0_pay14 z fr = prob z fr := rfl
theorem pay4_eq : k0_pay4 z dp fr = mulf (prob z fr) dp := rfl
theorem pay15_eq : k0_pay15 z dp fr = mulf (prob z fr) dp := rfl
theorem pay6_eq (dq : Vec F S512x64 .f32) (w : Vec F S1x512x128 .bf16) : k0_pay6 z dp fr dq w = dqU (mulf (prob z fr) dp) dq w := rfl
theorem pay17_eq (dq : Vec F S512x64 .f32) (w : Vec F S1x512x128 .bf16) : k0_pay17 z dp fr dq w = dqU (mulf (prob z fr) dp) dq w := rfl
theorem pay7_eq (y : FVec F S512x64 .bf16) (w : Vec F S1x512x64 .f32) : k0_pay7 y z dp fr w = dkU y (mulf (prob z fr) dp) w := rfl
theorem pay18_eq (y : FVec F S512x64 .bf16) (w : Vec F S1x512x64 .f32) : k0_pay59 (k0_pay18 y z dp fr w) = dkU y (mulf (prob z fr) dp) w := rfl
theorem pay8_eq (y : FVec F S512x64 .bf16) (w : Vec F S1x512x64 .f32) : k0_pay8 y z fr w = dkU y (prob z fr) w := rfl
theorem pay60_eq (y : FVec F S512x64 .bf16) (x : FVec F S512x512 .f32) (w : Vec F S1x512x64 .f32) : k0_pay60 y x w = dkU y x w := rfl
theorem pay9_eq (x : FVec F S512x512 .f32) (w : Vec F S1x1x8x512 .f32) : k0_pay9 x w = k0_pay61 x w := rfl
theorem pay10_eq (x : FVec F S512x512 .f32) (w : Vec F S512x1 .f32) : k0_pay10 x w = k0_pay62 x w := rfl

variable (i v : BitVec 32)
theorem pay69_eq : k0_pay69 i k0_pay55 v z fr = probMask (Scalar.muli (Scalar.subi i v) 512#32) z fr := rfl
theorem pay82_eq : k0_pay82 k0_pay55 (k0_pay80 z fr) (k0_pay81 i v)
    = probMask (Scalar.muli (Scalar.subi i (Scalar.addi v 1#32)) 512#32) z fr := rfl
theorem pay70_eq : k0_pay70 i k0_pay55 v z dp fr = mulf (probMask (Scalar.muli (Scalar.subi i v) 512#32) z fr) dp := rfl
theorem pay83_eq : k0_pay83 k0_pay55 dp (k0_pay80 z fr) (k0_pay81 i v)
    = mulf (probMask (Scalar.muli (Scalar.subi i (Scalar.addi v 1#32)) 512#32) z fr) dp := rfl
theorem pay72_eq (dq : Vec F S512x64 .f32) (w : Vec F S1x512x128 .bf16) : k0_pay72 i k0_pay55 v z dp fr dq w
    = dqU (mulf (probMask (Scalar.muli (Scalar.subi i v) 512#32) z fr) dp) dq w := rfl
theorem pay85_eq (dq : Vec F S512x64 .f32) (w : Vec F S1x512x128 .bf16) : k0_pay85 k0_pay55 dp (k0_pay80 z fr) (k0_pay81 i v) dq w
    = dqU (mulf (probMask (Scalar.muli (Scalar.subi i (Scalar.addi v 1#32)) 512#32) z fr) dp) dq w := rfl
theorem pay73_eq (y : FVec F S512x64 .bf16) (w : Vec F S1x512x64 .f32) : k0_pay74 (k0_pay73 i y k0_pay55 v z dp fr w)
    = dkU y (mulf (probMask (Scalar.muli (Scalar.subi i v) 512#32) z fr) dp) w := rfl
theorem pay86_eq (y : FVec F S512x64 .bf16) (w : Vec F S1x512x64 .f32) : k0_pay86 y k0_pay55 dp (k0_pay80 z fr) (k0_pay81 i v) w
    = dkU y (mulf (probMask (Scalar.muli (Scalar.subi i (Scalar.addi v 1#32)) 512#32) z fr) dp) w := rfl
theorem pay75_eq (y : FVec F S512x64 .bf16) (x : FVec F S512x512 .f32) (w : Vec F S1x512x64 .f32) : k0_pay75 y x w = dkU y x w := rfl
theorem pay87_eq (y : FVec F S512x64 .bf16) (w : Vec F S1x512x64 .f32) : k0_pay87 y k0_pay55 (k0_pay80 z fr) (k0_pay81 i v) w
    = dkU y (probMask (Scalar.muli (Scalar.subi i (Scalar.addi v 1#32)) 512#32) z fr) w := rfl
theorem pay76_eq (x : FVec F S512x512 .f32) (w : Vec F S1x1x8x512 .f32) : k0_pay76 x w = k0_pay61 x w := rfl
theorem pay77_eq (x : FVec F S512x512 .f32) (w : Vec F S512x1 .f32) : k0_pay77 x w = k0_pay62 x w := rfl
theorem pay88_eq (x : FVec F S512x512 .f32) (w : Vec F S1x1x8x512 .f32) : k0_pay88 x w = k0_pay61 x w := rfl
theorem pay89_eq (x : FVec F S512x512 .f32) (w : Vec F S512x1 .f32) : k0_pay89 x w = k0_pay62 x w := rfl
end

/-! ## Loads and stores of the buffers -/

section
variable (v : View sig .tc .vmem S512x512 .f32) (f : v.ty.Contents (Elt F))
theorem rdQ (inb) : v.readAt (Elt F) (Rect.unit (s := S512x512) ![0, 0] ![512, 512] inb).toLoadRect f = v.read (Elt F) f := View.readAt_full v f inb
theorem wrQ (inb) (w : S512x512.Idx → Elt F .f32) (L) :
    v.read (Elt F) (v.writes (Elt F) f (⟨Rect.unit (s := S512x512) ![0, 0] ![512, 512] inb, w⟩ :: L)) = w := View.read_writes_full v f inb w L
theorem cvQ (inb inb') (w : S512x512.Idx → Elt F .f32) (L) :
    v.readCov (⟨Rect.unit (s := S512x512) ![0, 0] ![512, 512] inb', w⟩ :: L) (Rect.unit (s := S512x512) ![0, 0] ![512, 512] inb).toLoadRect = w :=
  View.readCov_full v inb inb' w L
end
section
variable (v : View sig .tc .vmem S512x64 .f32) (f : v.ty.Contents (Elt F))
theorem rdA (inb) : v.readAt (Elt F) (Rect.unit (s := S512x64) ![0, 0] ![512, 64] inb).toLoadRect f = v.read (Elt F) f := View.readAt_full v f inb
theorem wrA (inb) (w : S512x64.Idx → Elt F .f32) (L) :
    v.read (Elt F) (v.writes (Elt F) f (⟨Rect.unit (s := S512x64) ![0, 0] ![512, 64] inb, w⟩ :: L)) = w := View.read_writes_full v f inb w L
theorem cvA (inb inb') (w : S512x64.Idx → Elt F .f32) (L) :
    v.readCov (⟨Rect.unit (s := S512x64) ![0, 0] ![512, 64] inb', w⟩ :: L) (Rect.unit (s := S512x64) ![0, 0] ![512, 64] inb).toLoadRect = w :=
  View.readCov_full v inb inb' w L
end
section
variable (v : View sig .tc .vmem S512x1 .f32) (f : v.ty.Contents (Elt F))
theorem rdC (inb) : v.readAt (Elt F) (Rect.unit (s := S512x1) ![0, 0] ![512, 1] inb).toLoadRect f = v.read (Elt F) f := View.readAt_full v f inb
theorem wrC (inb) (w : S512x1.Idx → Elt F .f32) (L) :
    v.read (Elt F) (v.writes (Elt F) f (⟨Rect.unit (s := S512x1) ![0, 0] ![512, 1] inb, w⟩ :: L)) = w := View.read_writes_full v f inb w L
theorem cvC (inb inb') (w : S512x1.Idx → Elt F .f32) (L) :
    v.readCov (⟨Rect.unit (s := S512x1) ![0, 0] ![512, 1] inb', w⟩ :: L) (Rect.unit (s := S512x1) ![0, 0] ![512, 1] inb).toLoadRect = w :=
  View.readCov_full v inb inb' w L
end
theorem rdB (v : View sig .tc .vmem S512x128 .bf16) (f : v.ty.Contents (Elt F)) (inb) :
    v.readAt (Elt F) (Rect.unit (s := S512x128) ![0, 0] ![512, 128] inb).toLoadRect f = v.read (Elt F) f := View.readAt_full v f inb

section
variable {off : Fin 3 → ℕ} {j : Fin 16}
theorem rdK (v : View sig .tc .vmem S1x8192x128 .bf16) (f : v.ty.Contents (Elt F)) (inb) (h : off = ![0, 512 * j.val, 0]) :
    v.readAt (Elt F) (Rect.unit (s := S1x8192x128) off ![1, 512, 128] inb).toLoadRect f = kwin (v.read (Elt F) f) j :=
  View.readAt_unit v f inb h (inbK j)
theorem rdD (v : View sig .tc .vmem S1x8192x64 .f32) (f : v.ty.Contents (Elt F)) (inb) (h : off = ![0, 512 * j.val, 0]) :
    v.readAt (Elt F) (Rect.unit (s := S1x8192x64) off ![1, 512, 64] inb).toLoadRect f = dwin (v.read (Elt F) f) j :=
  View.readAt_unit v f inb h (inbD j)
theorem wrD (v : View sig .tc .vmem S1x8192x64 .f32) (f : v.ty.Contents (Elt F)) (inb) (w : S1x512x64.Idx → Elt F .f32) (L) (h : off = ![0, 512 * j.val, 0]) :
    v.read (Elt F) (v.writes (Elt F) f (⟨Rect.unit (s := S1x8192x64) off ![1, 512, 64] inb, w⟩ :: L))
      = VecWindow.put (v.read (Elt F) (v.writes (Elt F) f L)) ![0, 512 * j.val, 0] S1x512x64.size w :=
  View.read_writes_cons_put v f inb w L h
end
section
variable {off : Fin 4 → ℕ} {j : Fin 16}
theorem rdF (v : View sig .tc .vmem S1x16x1x512 .f32) (f : v.ty.Contents (Elt F)) (inb) (h : off = ![0, j.val, 0, 0]) :
    v.readAt (Elt F) (Rect.unit (s := S1x16x1x512) off ![1, 1, 1, 512] inb).toLoadRect f = fwin (v.read (Elt F) f) j :=
  View.readAt_unit v f inb h (inbF j)
theorem rdS (v : View sig .tc .vmem S1x16x8x512 .f32) (f : v.ty.Contents (Elt F)) (inb) (h : off = ![0, j.val, 0, 0]) :
    v.readAt (Elt F) (Rect.unit (s := S1x16x8x512) off ![1, 1, 8, 512] inb).toLoadRect f = swin (v.read (Elt F) f) j :=
  View.readAt_unit v f inb h (inbS j)
theorem wrS (v : View sig .tc .vmem S1x16x8x512 .f32) (f : v.ty.Contents (Elt F)) (inb) (w : S1x1x8x512.Idx → Elt F .f32) (L) (h : off = ![0, j.val, 0, 0]) :
    v.read (Elt F) (v.writes (Elt F) f (⟨Rect.unit (s := S1x16x8x512) off ![1, 1, 8, 512] inb, w⟩ :: L))
      = VecWindow.put (v.read (Elt F) (v.writes (Elt F) f L)) ![0, j.val, 0, 0] S1x1x8x512.size w :=
  View.read_writes_cons_put v f inb w L h
end

/-! ## A grid point -/

/-- Two 64-column halves side by side. -/
def halves (a b : Vec F S512x64 .bf16) : Vec F S512x128 .bf16 :=
  VecWindow.put (s := S512x128) (VecWindow.put (s := S512x128) (constant S512x128 .bf16 0x0000#16 : Vec F S512x128 .bf16) ![0, 0] S512x64.size a) ![0, 64] S512x64.size b

theorem put_halves (x : Vec F S512x128 .bf16) (a b : Vec F S512x64 .bf16) :
    (VecWindow.put (s := S512x128) (VecWindow.put (s := S512x128) x ![0, 0] S512x64.size a) ![0, 64] S512x64.size b : Vec F S512x128 .bf16) = halves a b := by
  funext y
  unfold halves VecWindow.put
  by_cases h : ∀ c, (![0, 64] : Fin 2 → ℕ) c ≤ (y c).val ∧ (y c).val < (![0, 64] : Fin 2 → ℕ) c + S512x64.size c
  · rw [dif_pos h, dif_pos h]
  · have h0 : ∀ c, (![0, 0] : Fin 2 → ℕ) c ≤ (y c).val ∧ (y c).val < (![0, 0] : Fin 2 → ℕ) c + S512x64.size c := by
      have y0 : (y 0).val < 512 := (y 0).isLt
      have y1 : (y 1).val < 128 := (y 1).isLt
      rw [Fin.forall_fin_two] at h ⊢
      change ¬ ((0 ≤ (y 0).val ∧ (y 0).val < 0 + 512) ∧ 64 ≤ (y 1).val ∧ (y 1).val < 64 + 64) at h
      change (0 ≤ (y 0).val ∧ (y 0).val < 0 + 512) ∧ 0 ≤ (y 1).val ∧ (y 1).val < 0 + 64
      omega
    rw [dif_neg h, dif_neg h, dif_pos h0, dif_pos h0]

theorem wrH (v : View sig .tc .vmem S512x128 .bf16) (f : v.ty.Contents (Elt F)) (inb0 inb1) (a b : S512x64.Idx → Elt F .bf16) :
    v.read (Elt F) (v.writes (Elt F) f [⟨Rect.unit (s := S512x128) ![0, 64] ![512, 64] inb1, b⟩, ⟨Rect.unit (s := S512x128) ![0, 0] ![512, 64] inb0, a⟩]) = halves a b := by
  have h1 : v.read (Elt F) (v.writes (Elt F) f [⟨Rect.unit (s := S512x128) ![0, 64] ![512, 64] inb1, b⟩, ⟨Rect.unit (s := S512x128) ![0, 0] ![512, 64] inb0, a⟩])
      = VecWindow.put (s := S512x128) (v.read (Elt F) (v.writes (Elt F) f [⟨Rect.unit (s := S512x128) ![0, 0] ![512, 64] inb0, a⟩])) ![0, 64] S512x64.size b :=
    View.read_writes_cons_put v f inb1 b _ rfl
  have h0 : v.read (Elt F) (v.writes (Elt F) f [⟨Rect.unit (s := S512x128) ![0, 0] ![512, 64] inb0, a⟩])
      = VecWindow.put (s := S512x128) (v.read (Elt F) (v.writes (Elt F) f [])) ![0, 0] S512x64.size a :=
    View.read_writes_cons_put v f inb0 a _ rfl
  rw [h1, h0]
  exact put_halves _ a b
theorem cvH (v : View sig .tc .vmem S512x128 .bf16) (inb inb0 inb1) (a b : S512x64.Idx → Elt F .bf16) :
    v.readCov [⟨Rect.unit (s := S512x128) ![0, 64] ![512, 64] inb1, b⟩, ⟨Rect.unit (s := S512x128) ![0, 0] ![512, 64] inb0, a⟩]
      (Rect.unit (s := S512x128) ![0, 0] ![512, 128] inb).toLoadRect = halves a b :=
  (View.readAt_full v _ inb).trans (wrH v _ inb0 inb1 a b)

/-- What a grid point reads while it goes over the key blocks, from its windows' blocks. -/
def envOf (q : Vec F S1x512x64 .bf16) (kk vv : Vec F S1x8192x128 .bf16) (fr : Vec F S1x16x1x512 .f32)
    (o : Vec F S1x512x64 .f32) (lse : Vec F S1x512x1 .f32) (g : Vec F S1x512x64 .f32) : Env F where
  kk := kk
  vv := vv
  fr := fr
  doa := halves (k0_pay48 (k0_pay42 g)) (k0_pay49 (k0_pay43 g o) (k0_pay46 g o) (k0_pay47 g o))
  qa := halves (k0_pay53 (k0_pay40 q)) (k0_pay54 (iota .tc S512x64 32 [1] iota_S512x64_d1_w32)
    (k0_pay50 (k0_pay41 lse)) (k0_pay51 (k0_pay41 lse)) (k0_pay52 (k0_pay41 lse)))
  q8 := k0_pay40 q
  do8 := k0_pay42 g

/-- The state the loop starts from, the three accumulated arrays at `dk`, `dv`, `ks`. -/
def stOf (E : Env F) (dk dv : Vec F S1x8192x64 .f32) (ks : Vec F S1x16x8x512 .f32) (z1 p1 : Vec F S512x512 .f32) : St F where
  dk := dk
  dv := dv
  ks := ks
  dq := k0_pay44
  qs := k0_pay45
  z0 := prod E.qa (kwin E.kk (jb 0))
  z1 := z1
  p0 := prod E.doa (kwin E.vv (jb 0))
  p1 := p1

/-- The state a point of query block `i` ends in. -/
def finSt (E : Env F) (i : ℕ) (s : St F) : St F :=
  tripM E (BitVec.ofNat 32 i) (BitVec.ofNat 32 (2 * (i / 2))) (i / 2) (trips E s (i / 2))

/-- The second pair of products a point starts with is overwritten before it is read. -/
theorem finSt_fresh (E : Env F) (i : ℕ) (dk dv : Vec F S1x8192x64 .f32) (ks : Vec F S1x16x8x512 .f32) (z1 p1 z1' p1' : Vec F S512x512 .f32) :
    finSt E i (stOf E dk dv ks z1 p1) = finSt E i (stOf E dk dv ks z1' p1') := by
  have h : ∀ n, trips E (stOf E dk dv ks z1 p1) (n + 1) = trips E (stOf E dk dv ks z1' p1') (n + 1) := by
    intro n
    induction n with
    | zero => rfl
    | succ n ih => exact congrArg (trip E (n + 1)) ih
  unfold finSt
  rcases i / 2 with _ | n
  · rfl
  · rw [h n]

/-- The masked pair, its probabilities and their gradients named by the state before it. -/
theorem tripM_eq (E : Env F) (i v : BitVec 32) (k : ℕ) (s : St F) :
    tripM E i v k s = grads E (jb (2 * k + 1))
      (probMask (Scalar.muli (Scalar.subi i (Scalar.addi v 1#32)) 512#32) (prod E.qa (kwin E.kk (jb (2 * k + 1)))) (fwin E.fr (jb (2 * k + 1))))
      (mulf (probMask (Scalar.muli (Scalar.subi i (Scalar.addi v 1#32)) 512#32) (prod E.qa (kwin E.kk (jb (2 * k + 1)))) (fwin E.fr (jb (2 * k + 1))))
        (prod E.doa (kwin E.vv (jb (2 * k + 1)))))
      (setP0 E (jb (2 * k + 2)) (grads E (jb (2 * k)) (probMask (Scalar.muli (Scalar.subi i v) 512#32) s.z0 (fwin E.fr (jb (2 * k))))
        (mulf (probMask (Scalar.muli (Scalar.subi i v) 512#32) s.z0 (fwin E.fr (jb (2 * k)))) s.p0) (setP1 E (jb (2 * k + 1)) s))) := rfl

end Cert.KernelIdeal.Hand

end
-- ==== Proof.TripI.lean ====
/- One trip of the attention gradient's loop over pairs of key blocks, run once over a symbolic trip: the buffers hold the
   state's values before it and the next state's after. -/
module

public import proofs.«01_k».proof.Proof.StateI
public import proofs.«01_k».proof.Proof.Gen.KernelIdeal.Loops
public import proofs.«01_k».proof.Proof.Gen.KernelIdeal.Frame
public import Idealize.ShloMosaic.Lib.VecWindow
public import Idealize.ShloMosaic.Lib.LoopRemainder

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's buffer on core `c` held whole at the values `x`. -/
abbrev own (c : Dev nD) {S : Shape} {e : EltTy} (M : Memref sig .tc .vmem S e) (x : S.Idx → Elt F e) : sProp 𝕄 :=
  owns (c : Thread nD τ) M fullShare x

/-- The buffers the key blocks' work touches, at the read-only values `E` and the state `s`. -/
def held (c : Dev nD) (arg3 : Memref sig .tc .vmem S1x8192x128 .bf16) (arg4 : Memref sig .tc .vmem S1x8192x128 .bf16) (arg5 : Memref sig .tc .vmem S1x16x1x512 .f32) (arg20 : Memref sig .tc .vmem S512x128 .bf16) (arg21 : Memref sig .tc .vmem S512x128 .bf16) (arg10 : Memref sig .tc .vmem S1x8192x64 .f32) (arg11 : Memref sig .tc .vmem S1x8192x64 .f32) (arg12 : Memref sig .tc .vmem S1x16x8x512 .f32) (arg14 : Memref sig .tc .vmem S512x64 .f32) (arg15 : Memref sig .tc .vmem S512x1 .f32) (arg16 : Memref sig .tc .vmem S512x512 .f32) (arg17 : Memref sig .tc .vmem S512x512 .f32) (arg18 : Memref sig .tc .vmem S512x512 .f32) (arg19 : Memref sig .tc .vmem S512x512 .f32)
    (E : Env F) (s : St F) : sProp 𝕄 :=
  iprop(own c arg3 E.kk ∗ own c arg4 E.vv ∗ own c arg5 E.fr ∗ own c arg20 E.doa ∗ own c arg21 E.qa ∗ own c arg10 s.dk ∗ own c arg11 s.dv ∗ own c arg12 s.ks ∗ own c arg14 s.dq ∗ own c arg15 s.qs ∗ own c arg16 s.z0 ∗ own c arg17 s.z1 ∗ own c arg18 s.p0 ∗ own c arg19 s.p1)

theorem trip_run (c : Dev nD) (i : grid0.Coords) (arg2 : Memref sig .tc .vmem S1x512x64 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x64 .f32) (harg8 : arg8.IsWhole) (arg9 : Memref sig .tc .vmem S1x512x64 .f32) (harg9 : arg9.IsWhole) (arg10 : Memref sig .tc .vmem S1x8192x64 .f32) (harg10 : arg10.IsWhole) (arg11 : Memref sig .tc .vmem S1x8192x64 .f32) (harg11 : arg11.IsWhole) (arg12 : Memref sig .tc .vmem S1x16x8x512 .f32) (harg12 : arg12.IsWhole) (arg13 : Memref sig .tc .vmem S1x512x1 .f32) (harg13 : arg13.IsWhole) (arg14 : Memref sig .tc .vmem S512x64 .f32) (harg14 : arg14.IsWhole) (arg15 : Memref sig .tc .vmem S512x1 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x128 .bf16) (harg20 : arg20.IsWhole) (arg21 : Memref sig .tc .vmem S512x128 .bf16) (harg21 : arg21.IsWhole)
    (arg1 : BitVec 32) (v110 : BitVec 32) (v115 : FVec F S512x512 .f32) (v116 : Vec F S512x128 .bf16) (E : Env F) (s : St F)
    (k : Fin (k0_t1_loop i).trips) :
    held c arg3 arg4 arg5 arg20 arg21 arg10 arg11 arg12 arg14 arg15 arg16 arg17 arg18 arg19 E s
      ⊢ wp frame (wpE (defs₀ (F := F)) Variants.none (c : Thread nD τ) none) Set.univ
          (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 E.q8 E.do8 v110 v115 v116 k ())
          (fun _ => held c arg3 arg4 arg5 arg20 arg21 arg10 arg11 arg12 arg14 arg15 arg16 arg17 arg18 arg19 E (trip E k.val s)) := by
  unfold held own owns k0_t1_body
  simp only [k0_part1_eq_skeleton, k0_part2_eq_skeleton, k0_part3_eq_skeleton, k0_part4_eq_skeleton]
  unfold k0_part1_skel k0_part2_skel k0_part3_skel k0_part4_skel
  iintro ⟨⟨%f3, %h3, H3⟩, ⟨%f4, %h4, H4⟩, ⟨%f5, %h5, H5⟩, ⟨%f20, %h20, H20⟩, ⟨%f21, %h21, H21⟩, ⟨%f10, %h10, H10⟩, ⟨%f11, %h11, H11⟩, ⟨%f12, %h12, H12⟩, ⟨%f14, %h14, H14⟩, ⟨%f15, %h15, H15⟩, ⟨%f16, %h16, H16⟩, ⟨%f17, %h17, H17⟩, ⟨%f18, %h18, H18⟩, ⟨%f19, %h19, H19⟩⟩
  sl_exec
  sl_step
  have hk : k.val ≤ 6 := by
    have h := k.isLt
    have h1 : (k0_t1_loop i).trips = (i 1).val / 2 := trips_eq i
    have h2 : (i 1).val < 16 := (i 1).isLt
    omega
  have ja : (jb (2 * k.val)).val = 2 * k.val := jb_of_le (by omega)
  have jB : (jb (2 * k.val + 1)).val = 2 * k.val + 1 := jb_of_le (by omega)
  have jc : (jb (2 * k.val + 2)).val = 2 * k.val + 2 := jb_of_le (by omega)
  have hne : jb (2 * k.val) ≠ jb (2 * k.val + 1) := fun e => by have := congrArg Fin.val e; omega
  have o2a : k0_off2 i k 1#32 = ![0, 512 * (jb (2 * k.val + 1)).val, 0] := by rw [jB]; exact off2a_eq i k
  have o2b : k0_off2 i k 2#32 = ![0, 512 * (jb (2 * k.val + 2)).val, 0] := by rw [jc]; exact off2b_eq i k
  have o3 : k0_off3 i k = ![0, (jb (2 * k.val)).val, 0, 0] := by rw [ja]; exact off3_eq i k
  have o4 : k0_off4 i k = ![0, 512 * (jb (2 * k.val)).val, 0] := by rw [ja]; exact off4_eq i k
  have o5 : k0_off5 i k = ![0, 512 * (jb (2 * k.val)).val, 0] := by rw [ja]; exact off5_eq i k
  have o6 : k0_off6 i k = ![0, (jb (2 * k.val)).val, 0, 0] := by rw [ja]; exact off6_eq i k
  have o7 : k0_off7 i k = ![0, (jb (2 * k.val + 1)).val, 0, 0] := by rw [jB]; exact off7_eq i k
  have o8 : k0_off8 i k = ![0, 512 * (jb (2 * k.val + 1)).val, 0] := by rw [jB]; exact off8_eq i k
  have o9 : k0_off9 i k = ![0, (jb (2 * k.val + 1)).val, 0, 0] := by rw [jB]; exact off9_eq i k
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H20]
  · iexists _; isplitr; swap; · iexact H20
    ipureintro
    exact h20
  isplitl [H21]
  · iexists _; isplitr; swap; · iexact H21
    ipureintro
    exact h21
  isplitl [H10]
  · iexists _; isplitr; swap; · iexact H10
    ipureintro
    sl_unfold_run_names
    dsimp only
    rw [trip_eq, pair_dk _ hne, wrD _ _ _ _ _ o8, wrD _ _ _ _ _ o5, View.writes_nil, h10]
    simp only [rdQ, rdB, rdC, rdA, cvQ, cvA, cvC, rdK _ _ _ o2a, rdK _ _ _ o2b, rdK _ _ _ o4, rdK _ _ _ o8, rdF _ _ _ o3, rdF _ _ _ o7, h3, h4, h5, h20, h21, h14, h15, h16, h18, pay1_eq, pay2_eq, pay12_eq, pay13_eq, pay3_eq, pay14_eq, pay4_eq, pay15_eq, pay6_eq, pay17_eq, pay7_eq, pay18_eq, pay8_eq, pay60_eq, pay9_eq, pay10_eq, rdD _ _ _ o5, rdD _ _ _ o8, h10]
  isplitl [H11]
  · iexists _; isplitr; swap; · iexact H11
    ipureintro
    sl_unfold_run_names
    dsimp only
    rw [trip_eq, pair_dv _ hne, wrD _ _ _ _ _ o8, wrD _ _ _ _ _ o5, View.writes_nil, h11]
    simp only [rdQ, rdB, rdC, rdA, cvQ, cvA, cvC, rdK _ _ _ o2a, rdK _ _ _ o2b, rdK _ _ _ o4, rdK _ _ _ o8, rdF _ _ _ o3, rdF _ _ _ o7, h3, h4, h5, h20, h21, h14, h15, h16, h18, pay1_eq, pay2_eq, pay12_eq, pay13_eq, pay3_eq, pay14_eq, pay4_eq, pay15_eq, pay6_eq, pay17_eq, pay7_eq, pay18_eq, pay8_eq, pay60_eq, pay9_eq, pay10_eq, rdD _ _ _ o5, rdD _ _ _ o8, h11]
  isplitl [H12]
  · iexists _; isplitr; swap; · iexact H12
    ipureintro
    sl_unfold_run_names
    dsimp only
    rw [trip_eq, pair_ks _ hne, wrS _ _ _ _ _ o9, wrS _ _ _ _ _ o6, View.writes_nil, h12]
    simp only [rdQ, rdB, rdC, rdA, cvQ, cvA, cvC, rdK _ _ _ o2a, rdK _ _ _ o2b, rdK _ _ _ o4, rdK _ _ _ o8, rdF _ _ _ o3, rdF _ _ _ o7, h3, h4, h5, h20, h21, h14, h15, h16, h18, pay1_eq, pay2_eq, pay12_eq, pay13_eq, pay3_eq, pay14_eq, pay4_eq, pay15_eq, pay6_eq, pay17_eq, pay7_eq, pay18_eq, pay8_eq, pay60_eq, pay9_eq, pay10_eq, rdS _ _ _ o6, rdS _ _ _ o9, h12]
  isplitl [H14]
  · iexists _; isplitr; swap; · iexact H14
    ipureintro
    sl_unfold_run_names
    dsimp only
    rw [trip_eq, wrA]
    simp only [rdQ, rdB, rdC, rdA, cvQ, cvA, cvC, rdK _ _ _ o2a, rdK _ _ _ o2b, rdK _ _ _ o4, rdK _ _ _ o8, rdF _ _ _ o3, rdF _ _ _ o7, h3, h4, h5, h20, h21, h14, h15, h16, h18, pay1_eq, pay2_eq, pay12_eq, pay13_eq, pay3_eq, pay14_eq, pay4_eq, pay15_eq, pay6_eq, pay17_eq, pay7_eq, pay18_eq, pay8_eq, pay60_eq, pay9_eq, pay10_eq]
    rfl
  isplitl [H15]
  · iexists _; isplitr; swap; · iexact H15
    ipureintro
    sl_unfold_run_names
    dsimp only
    rw [trip_eq, wrC]
    simp only [rdQ, rdB, rdC, rdA, cvQ, cvA, cvC, rdK _ _ _ o2a, rdK _ _ _ o2b, rdK _ _ _ o4, rdK _ _ _ o8, rdF _ _ _ o3, rdF _ _ _ o7, h3, h4, h5, h20, h21, h14, h15, h16, h18, pay1_eq, pay2_eq, pay12_eq, pay13_eq, pay3_eq, pay14_eq, pay4_eq, pay15_eq, pay6_eq, pay17_eq, pay7_eq, pay18_eq, pay8_eq, pay60_eq, pay9_eq, pay10_eq]
    rfl
  isplitl [H16]
  · iexists _; isplitr; swap; · iexact H16
    ipureintro
    sl_unfold_run_names
    dsimp only
    rw [trip_eq, wrQ]
    simp only [rdQ, rdB, rdC, rdA, cvQ, cvA, cvC, rdK _ _ _ o2a, rdK _ _ _ o2b, rdK _ _ _ o4, rdK _ _ _ o8, rdF _ _ _ o3, rdF _ _ _ o7, h3, h4, h5, h20, h21, h14, h15, h16, h18, pay1_eq, pay2_eq, pay12_eq, pay13_eq, pay3_eq, pay14_eq, pay4_eq, pay15_eq, pay6_eq, pay17_eq, pay7_eq, pay18_eq, pay8_eq, pay60_eq, pay9_eq, pay10_eq]
    rfl
  isplitl [H17]
  · iexists _; isplitr; swap; · iexact H17
    ipureintro
    sl_unfold_run_names
    dsimp only
    rw [trip_eq, wrQ]
    simp only [rdQ, rdB, rdC, rdA, cvQ, cvA, cvC, rdK _ _ _ o2a, rdK _ _ _ o2b, rdK _ _ _ o4, rdK _ _ _ o8, rdF _ _ _ o3, rdF _ _ _ o7, h3, h4, h5, h20, h21, h14, h15, h16, h18, pay1_eq, pay2_eq, pay12_eq, pay13_eq, pay3_eq, pay14_eq, pay4_eq, pay15_eq, pay6_eq, pay17_eq, pay7_eq, pay18_eq, pay8_eq, pay60_eq, pay9_eq, pay10_eq]
    rfl
  isplitl [H18]
  · iexists _; isplitr; swap; · iexact H18
    ipureintro
    sl_unfold_run_names
    dsimp only
    rw [trip_eq, wrQ]
    simp only [rdQ, rdB, rdC, rdA, cvQ, cvA, cvC, rdK _ _ _ o2a, rdK _ _ _ o2b, rdK _ _ _ o4, rdK _ _ _ o8, rdF _ _ _ o3, rdF _ _ _ o7, h3, h4, h5, h20, h21, h14, h15, h16, h18, pay1_eq, pay2_eq, pay12_eq, pay13_eq, pay3_eq, pay14_eq, pay4_eq, pay15_eq, pay6_eq, pay17_eq, pay7_eq, pay18_eq, pay8_eq, pay60_eq, pay9_eq, pay10_eq]
    rfl
  · iexists _; isplitr; swap; · iexact H19
    ipureintro
    sl_unfold_run_names
    dsimp only
    rw [trip_eq, wrQ]
    simp only [rdQ, rdB, rdC, rdA, cvQ, cvA, cvC, rdK _ _ _ o2a, rdK _ _ _ o2b, rdK _ _ _ o4, rdK _ _ _ o8, rdF _ _ _ o3, rdF _ _ _ o7, h3, h4, h5, h20, h21, h14, h15, h16, h18, pay1_eq, pay2_eq, pay12_eq, pay13_eq, pay3_eq, pay14_eq, pay4_eq, pay15_eq, pay6_eq, pay17_eq, pay7_eq, pay18_eq, pay8_eq, pay60_eq, pay9_eq, pay10_eq]
    rfl

end Cert.KernelIdeal.Hand

end
-- ==== Proof.PartsI.lean ====
/- The attention gradient's body at a grid point, run once: from its windows' blocks to the state the loop ends in. -/
module

public import proofs.«01_k».proof.Proof.TripI
public import proofs.«01_k».proof.Proof.Gen.KernelIdeal.Loops
public import proofs.«01_k».proof.Proof.Gen.KernelIdeal.Frame
public import Idealize.ShloMosaic.Lib.VecWindow
public import Idealize.ShloMosaic.Lib.LoopRemainder

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- An accumulated array as a point of query block `i` goes on with it: cleared at the head's first point. -/
def dkAt (i : ℕ) (x : Vec F S1x8192x64 .f32) : Vec F S1x8192x64 .f32 := if i = 0 then k0_pay37 else x
def dvAt (i : ℕ) (x : Vec F S1x8192x64 .f32) : Vec F S1x8192x64 .f32 := if i = 0 then k0_pay38 else x
def ksAt (i : ℕ) (x : Vec F S1x16x8x512 .f32) : Vec F S1x16x8x512 .f32 := if i = 0 then k0_pay39 else x

theorem rdO (v : View sig .tc .vmem S1x512x64 .bf16) (f : v.ty.Contents (Elt F)) (inb) :
    v.readAt (Elt F) (Rect.unit (s := S1x512x64) ![0, 0, 0] ![1, 512, 64] inb).toLoadRect f = v.read (Elt F) f := View.readAt_full v f inb
theorem rdO' (v : View sig .tc .vmem S1x512x64 .f32) (f : v.ty.Contents (Elt F)) (inb) :
    v.readAt (Elt F) (Rect.unit (s := S1x512x64) ![0, 0, 0] ![1, 512, 64] inb).toLoadRect f = v.read (Elt F) f := View.readAt_full v f inb
theorem rdL (v : View sig .tc .vmem S1x512x1 .f32) (f : v.ty.Contents (Elt F)) (inb) :
    v.readAt (Elt F) (Rect.unit (s := S1x512x1) ![0, 0, 0] ![1, 512, 1] inb).toLoadRect f = v.read (Elt F) f := View.readAt_full v f inb

theorem part9_run (c : Dev nD) (i : grid0.Coords) (arg2 : Memref sig .tc .vmem S1x512x64 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x64 .f32) (harg8 : arg8.IsWhole) (arg9 : Memref sig .tc .vmem S1x512x64 .f32) (harg9 : arg9.IsWhole) (arg10 : Memref sig .tc .vmem S1x8192x64 .f32) (harg10 : arg10.IsWhole) (arg11 : Memref sig .tc .vmem S1x8192x64 .f32) (harg11 : arg11.IsWhole) (arg12 : Memref sig .tc .vmem S1x16x8x512 .f32) (harg12 : arg12.IsWhole) (arg13 : Memref sig .tc .vmem S1x512x1 .f32) (harg13 : arg13.IsWhole) (arg14 : Memref sig .tc .vmem S512x64 .f32) (harg14 : arg14.IsWhole) (arg15 : Memref sig .tc .vmem S512x1 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x128 .bf16) (harg20 : arg20.IsWhole) (arg21 : Memref sig .tc .vmem S512x128 .bf16) (harg21 : arg21.IsWhole)
    (q : Vec F S1x512x64 .bf16) (lse : Vec F S1x512x1 .f32) (g : Vec F S1x512x64 .f32) (o : Vec F S1x512x64 .f32) (dk dv : Vec F S1x8192x64 .f32) (ks : Vec F S1x16x8x512 .f32) (d14 : Vec F S512x64 .f32) (d15 : Vec F S512x1 .f32) (R : sProp 𝕄) :
    iprop(own c arg2 q ∗ own c arg7 lse ∗ own c arg8 g ∗ own c arg6 o ∗ own c arg10 dk ∗ own c arg11 dv ∗ own c arg12 ks ∗ own c arg14 d14 ∗ own c arg15 d15 ∗ R)
      ⊢ wp frame (wpE (defs₀ (F := F)) Variants.none (c : Thread nD τ) none) Set.univ
          (k0_part9_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun r => iprop(⌜r = ⟨BitVec.ofNat 32 (i 1).val, k0_pay40 q, k0_pay41 lse, k0_pay42 g, k0_pay43 g o, k0_pay46 g o, k0_pay47 g o⟩⌝
            ∗ own c arg2 q ∗ own c arg7 lse ∗ own c arg8 g ∗ own c arg6 o ∗ own c arg10 (dkAt (i 1).val dk) ∗ own c arg11 (dvAt (i 1).val dv)
            ∗ own c arg12 (ksAt (i 1).val ks) ∗ own c arg14 (k0_pay44 (F := F)) ∗ own c arg15 (k0_pay45 (F := F)) ∗ R)) := by
  have hw : (Scalar.cmpi .ne (Scalar.extui (Scalar.cmpi .eq (BitVec.ofNat 32 (i 1).val) 0#32)) 0#32 : BitVec 1) = 1#1 ↔ (i 1).val = 0 := by
    revert i; decide +kernel
  unfold own owns k0_part9_skel
  by_cases hz : (i 1).val = 0
  · have hc := hw.mpr hz
    iintro ⟨⟨%f2, %h2, H2⟩, ⟨%f7, %h7, H7⟩, ⟨%f8, %h8, H8⟩, ⟨%f6, %h6, H6⟩, ⟨%f10, %h10, H10⟩, ⟨%f11, %h11, H11⟩, ⟨%f12, %h12, H12⟩, ⟨%f14, %h14, H14⟩, ⟨%f15, %h15, H15⟩, HR⟩
    sl_exec
    sl_step
    isplitr
    · ipureintro
      sl_unfold_run_names
      simp only [rdO, rdO', rdL, h2, h7, h8, h6]
    isplitl [H2]
    · iexists _; isplitr; swap; · iexact H2
      ipureintro
      exact h2
    isplitl [H7]
    · iexists _; isplitr; swap; · iexact H7
      ipureintro
      exact h7
    isplitl [H8]
    · iexists _; isplitr; swap; · iexact H8
      ipureintro
      exact h8
    isplitl [H6]
    · iexists _; isplitr; swap; · iexact H6
      ipureintro
      exact h6
    isplitl [H10]
    · iexists _; isplitr; swap; · iexact H10
      ipureintro
      rw [dkAt, if_pos hz]
      exact View.read_writes_full _ _ _ _ _
    isplitl [H11]
    · iexists _; isplitr; swap; · iexact H11
      ipureintro
      rw [dvAt, if_pos hz]
      exact View.read_writes_full _ _ _ _ _
    isplitl [H12]
    · iexists _; isplitr; swap; · iexact H12
      ipureintro
      rw [ksAt, if_pos hz]
      exact View.read_writes_full _ _ _ _ _
    isplitl [H14]
    · iexists _; isplitr; swap; · iexact H14
      ipureintro
      exact View.read_writes_full _ _ _ _ _
    isplitl [H15]
    · iexists _; isplitr; swap; · iexact H15
      ipureintro
      exact View.read_writes_full _ _ _ _ _
    iexact HR
  · have hc := mt hw.mp hz
    iintro ⟨⟨%f2, %h2, H2⟩, ⟨%f7, %h7, H7⟩, ⟨%f8, %h8, H8⟩, ⟨%f6, %h6, H6⟩, ⟨%f10, %h10, H10⟩, ⟨%f11, %h11, H11⟩, ⟨%f12, %h12, H12⟩, ⟨%f14, %h14, H14⟩, ⟨%f15, %h15, H15⟩, HR⟩
    sl_exec
    sl_step
    isplitr
    · ipureintro
      sl_unfold_run_names
      simp only [rdO, rdO', rdL, h2, h7, h8, h6]
    isplitl [H2]
    · iexists _; isplitr; swap; · iexact H2
      ipureintro
      exact h2
    isplitl [H7]
    · iexists _; isplitr; swap; · iexact H7
      ipureintro
      exact h7
    isplitl [H8]
    · iexists _; isplitr; swap; · iexact H8
      ipureintro
      exact h8
    isplitl [H6]
    · iexists _; isplitr; swap; · iexact H6
      ipureintro
      exact h6
    isplitl [H10]
    · iexists _; isplitr; swap; · iexact H10
      ipureintro
      rw [dkAt, if_neg hz]
      exact h10
    isplitl [H11]
    · iexists _; isplitr; swap; · iexact H11
      ipureintro
      rw [dvAt, if_neg hz]
      exact h11
    isplitl [H12]
    · iexists _; isplitr; swap; · iexact H12
      ipureintro
      rw [ksAt, if_neg hz]
      exact h12
    isplitl [H14]
    · iexists _; isplitr; swap; · iexact H14
      ipureintro
      exact View.read_writes_full _ _ _ _ _
    isplitl [H15]
    · iexists _; isplitr; swap; · iexact H15
      ipureintro
      exact View.read_writes_full _ _ _ _ _
    iexact HR

theorem pairWord_fin : ∀ n : Fin 16, Scalar.muli (2#32) (Scalar.select (Scalar.andi (Scalar.cmpi CmpIPredicate.ne
        (Scalar.subi (Scalar.extui (Scalar.cmpi CmpIPredicate.sgt (BitVec.ofNat 32 n.val) 0#32) : BitVec 32)
          (Scalar.extui (Scalar.cmpi CmpIPredicate.slt (BitVec.ofNat 32 n.val) 0#32))) 1#32)
        (Scalar.cmpi CmpIPredicate.ne (Scalar.remsi (BitVec.ofNat 32 n.val) 2#32) 0#32))
      (Scalar.subi (Scalar.divsi (BitVec.ofNat 32 n.val) 2#32) 1#32) (Scalar.divsi (BitVec.ofNat 32 n.val) 2#32)) = BitVec.ofNat 32 (2 * (n.val / 2)) := by decide +kernel

/-- The word the body computes for twice its pair's number. -/
theorem pairWord (i : grid0.Coords) : Scalar.muli (2#32) (Scalar.select (Scalar.andi (Scalar.cmpi CmpIPredicate.ne
        (Scalar.subi (Scalar.extui (Scalar.cmpi CmpIPredicate.sgt (BitVec.ofNat 32 (i 1).val) 0#32) : BitVec 32)
          (Scalar.extui (Scalar.cmpi CmpIPredicate.slt (BitVec.ofNat 32 (i 1).val) 0#32))) 1#32)
        (Scalar.cmpi CmpIPredicate.ne (Scalar.remsi (BitVec.ofNat 32 (i 1).val) 2#32) 0#32))
      (Scalar.subi (Scalar.divsi (BitVec.ofNat 32 (i 1).val) 2#32) 1#32) (Scalar.divsi (BitVec.ofNat 32 (i 1).val) 2#32)) = BitVec.ofNat 32 (2 * ((i 1).val / 2)) := pairWord_fin (i 1)

section
variable (v : View sig .tc .vmem S1x512x64 .f32) (f : v.ty.Contents (Elt F))
theorem wrO (inb) (w : S1x512x64.Idx → Elt F .f32) (L) :
    v.read (Elt F) (v.writes (Elt F) f (⟨Rect.unit (s := S1x512x64) ![0, 0, 0] ![1, 512, 64] inb, w⟩ :: L)) = w := View.read_writes_full v f inb w L
end
section
variable (v : View sig .tc .vmem S1x512x1 .f32) (f : v.ty.Contents (Elt F))
theorem wrL (inb) (w : S1x512x1.Idx → Elt F .f32) (L) :
    v.read (Elt F) (v.writes (Elt F) f (⟨Rect.unit (s := S1x512x1) ![0, 0, 0] ![1, 512, 1] inb, w⟩ :: L)) = w := View.read_writes_full v f inb w L
end

theorem off1_eq : k0_off1 = ![0, 512 * (jb 0).val, 0] := rfl

theorem part10_run (c : Dev nD) (i : grid0.Coords) (arg2 : Memref sig .tc .vmem S1x512x64 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x64 .f32) (harg8 : arg8.IsWhole) (arg9 : Memref sig .tc .vmem S1x512x64 .f32) (harg9 : arg9.IsWhole) (arg10 : Memref sig .tc .vmem S1x8192x64 .f32) (harg10 : arg10.IsWhole) (arg11 : Memref sig .tc .vmem S1x8192x64 .f32) (harg11 : arg11.IsWhole) (arg12 : Memref sig .tc .vmem S1x16x8x512 .f32) (harg12 : arg12.IsWhole) (arg13 : Memref sig .tc .vmem S1x512x1 .f32) (harg13 : arg13.IsWhole) (arg14 : Memref sig .tc .vmem S512x64 .f32) (harg14 : arg14.IsWhole) (arg15 : Memref sig .tc .vmem S512x1 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x128 .bf16) (harg20 : arg20.IsWhole) (arg21 : Memref sig .tc .vmem S512x128 .bf16) (harg21 : arg21.IsWhole)
    (v10 : FVec F S512x1 .f32) (v13 : FVec F S512x64 .bf16) (v19 v29 v32 : FVec F S512x1 .f32) (d d' : Vec F S512x128 .bf16) (R : sProp 𝕄) :
    iprop(own c arg20 d ∗ own c arg21 d' ∗ R)
      ⊢ wp frame (wpE (defs₀ (F := F)) Variants.none (c : Thread nD τ) none) Set.univ
          (k0_part10_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v10 v13 v19 v29 v32)
          (fun r => iprop(⌜r = ⟨iota .tc S512x64 32 [1] iota_S512x64_d1_w32, k0_pay50 v10, k0_pay51 v10, k0_pay52 v10⟩⌝ ∗ own c arg20 (halves (k0_pay48 v13) (k0_pay49 v19 v29 v32)) ∗ own c arg21 d' ∗ R)) := by
  unfold own owns k0_part10_skel
  iintro ⟨⟨%f, %h, H⟩, ⟨%f21, %h21, H21⟩, HR⟩
  sl_exec
  sl_step
  isplitr
  · ipureintro; rfl
  isplitl [H]
  · iexists _; isplitr; swap; · iexact H
    ipureintro
    sl_unfold_run_names
    exact wrH _ _ _ _ _ _
  isplitl [H21]
  · iexists _; isplitr; swap; · iexact H21
    ipureintro; exact h21
  iexact HR

theorem part11_run (c : Dev nD) (i : grid0.Coords) (arg2 : Memref sig .tc .vmem S1x512x64 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x64 .f32) (harg8 : arg8.IsWhole) (arg9 : Memref sig .tc .vmem S1x512x64 .f32) (harg9 : arg9.IsWhole) (arg10 : Memref sig .tc .vmem S1x8192x64 .f32) (harg10 : arg10.IsWhole) (arg11 : Memref sig .tc .vmem S1x8192x64 .f32) (harg11 : arg11.IsWhole) (arg12 : Memref sig .tc .vmem S1x16x8x512 .f32) (harg12 : arg12.IsWhole) (arg13 : Memref sig .tc .vmem S1x512x1 .f32) (harg13 : arg13.IsWhole) (arg14 : Memref sig .tc .vmem S512x64 .f32) (harg14 : arg14.IsWhole) (arg15 : Memref sig .tc .vmem S512x1 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x128 .bf16) (harg20 : arg20.IsWhole) (arg21 : Memref sig .tc .vmem S512x128 .bf16) (harg21 : arg21.IsWhole)
    (v8 : FVec F S512x64 .bf16) (v37 : IVec S512x64 32) (v68 v71 v75 : FVec F S512x1 .f32) (d doa : Vec F S512x128 .bf16) (kk : Vec F S1x8192x128 .bf16) (R : sProp 𝕄) :
    iprop(own c arg21 d ∗ own c arg20 doa ∗ own c arg3 kk ∗ R)
      ⊢ wp frame (wpE (defs₀ (F := F)) Variants.none (c : Thread nD τ) none) Set.univ
          (k0_part11_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v37 v68 v71 v75)
          (fun r => iprop(⌜r = ⟨k0_pay55, 0#32, k0_pay56 (halves (k0_pay53 v8) (k0_pay54 v37 v68 v71 v75)) (kwin kk (jb 0)), doa⟩⌝
            ∗ own c arg21 (halves (k0_pay53 v8) (k0_pay54 v37 v68 v71 v75)) ∗ own c arg20 doa ∗ own c arg3 kk ∗ R)) := by
  unfold own owns k0_part11_skel
  iintro ⟨⟨%f, %h, H⟩, ⟨%f20, %h20, H20⟩, ⟨%f3, %h3, H3⟩, HR⟩
  sl_exec
  sl_step
  isplitr
  · ipureintro
    sl_unfold_run_names
    dsimp only
    simp only [cvH, rdB, rdK _ _ _ off1_eq, h20, h3]
  isplitl [H]
  · iexists _; isplitr; swap; · iexact H
    ipureintro
    sl_unfold_run_names
    exact wrH _ _ _ _ _ _
  isplitl [H20]
  · iexists _; isplitr; swap; · iexact H20
    ipureintro; exact h20
  isplitl [H3]
  · iexists _; isplitr; swap; · iexact H3
    ipureintro; exact h3
  iexact HR

theorem part12_run (c : Dev nD) (i : grid0.Coords) (arg2 : Memref sig .tc .vmem S1x512x64 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x64 .f32) (harg8 : arg8.IsWhole) (arg9 : Memref sig .tc .vmem S1x512x64 .f32) (harg9 : arg9.IsWhole) (arg10 : Memref sig .tc .vmem S1x8192x64 .f32) (harg10 : arg10.IsWhole) (arg11 : Memref sig .tc .vmem S1x8192x64 .f32) (harg11 : arg11.IsWhole) (arg12 : Memref sig .tc .vmem S1x16x8x512 .f32) (harg12 : arg12.IsWhole) (arg13 : Memref sig .tc .vmem S1x512x1 .f32) (harg13 : arg13.IsWhole) (arg14 : Memref sig .tc .vmem S512x64 .f32) (harg14 : arg14.IsWhole) (arg15 : Memref sig .tc .vmem S512x1 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x128 .bf16) (harg20 : arg20.IsWhole) (arg21 : Memref sig .tc .vmem S512x128 .bf16) (harg21 : arg21.IsWhole)
    (arg1 v110 : BitVec 32) (E : Env F) (dk dv : Vec F S1x8192x64 .f32) (ks : Vec F S1x16x8x512 .f32) (d16 d17 d18 d19 : Vec F S512x512 .f32) (R : sProp 𝕄) :
    iprop(own c arg3 E.kk ∗ own c arg4 E.vv ∗ own c arg5 E.fr ∗ own c arg20 E.doa ∗ own c arg21 E.qa ∗ own c arg10 dk ∗ own c arg11 dv ∗ own c arg12 ks ∗ own c arg14 (k0_pay44 (F := F)) ∗ own c arg15 (k0_pay45 (F := F)) ∗ own c arg16 d16 ∗ own c arg17 d17 ∗ own c arg18 d18 ∗ own c arg19 d19 ∗ R)
      ⊢ wp frame (wpE (defs₀ (F := F)) Variants.none (c : Thread nD τ) none) Set.univ
          (k0_part12_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 E.q8 E.do8 v110 (k0_pay56 E.qa (kwin E.kk (jb 0))) E.doa)
          (fun r => iprop(⌜r = ⟨2#32, Scalar.divsi arg1 2#32, Scalar.extui (Scalar.cmpi .sgt arg1 0#32)⟩⌝
            ∗ held c arg3 arg4 arg5 arg20 arg21 arg10 arg11 arg12 arg14 arg15 arg16 arg17 arg18 arg19 E (trips E (stOf E dk dv ks d17 d19) ((i 1).val / 2)) ∗ R)) := by
  have tt : Scf.trips (k0_t1_loop i).lb (k0_t1_loop i).ub (k0_t1_loop i).st = (i 1).val / 2 := trips_eq i
  rw [← tt]
  unfold own owns k0_part12_skel
  iintro ⟨⟨%f3, %h3, H3⟩, ⟨%f4, %h4, H4⟩, ⟨%f5, %h5, H5⟩, ⟨%f20, %h20, H20⟩, ⟨%f21, %h21, H21⟩, ⟨%f10, %h10, H10⟩, ⟨%f11, %h11, H11⟩, ⟨%f12, %h12, H12⟩, ⟨%f14, %h14, H14⟩, ⟨%f15, %h15, H15⟩, ⟨%f16, %h16, H16⟩, ⟨%f17, %h17, H17⟩, ⟨%f18, %h18, H18⟩, ⟨%f19, %h19, H19⟩, HR⟩
  sl_exec
  sl_for (fun k _ => held c arg3 arg4 arg5 arg20 arg21 arg10 arg11 arg12 arg14 arg15 arg16 arg17 arg18 arg19 E (trips E (stOf E dk dv ks d17 d19) k)) $$ [H3 H4 H5 H20 H21 H10 H11 H12 H14 H15 H16 H17 H18 H19]
  · intro k _
    exact trip_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ E _ k
  · unfold held own owns
    isplitl [H3]
    · iexists _; isplitr; swap; · iexact H3
      ipureintro
      exact h3
    isplitl [H4]
    · iexists _; isplitr; swap; · iexact H4
      ipureintro
      exact h4
    isplitl [H5]
    · iexists _; isplitr; swap; · iexact H5
      ipureintro
      exact h5
    isplitl [H20]
    · iexists _; isplitr; swap; · iexact H20
      ipureintro
      exact h20
    isplitl [H21]
    · iexists _; isplitr; swap; · iexact H21
      ipureintro
      exact h21
    isplitl [H10]
    · iexists _; isplitr; swap; · iexact H10
      ipureintro
      exact h10
    isplitl [H11]
    · iexists _; isplitr; swap; · iexact H11
      ipureintro
      exact h11
    isplitl [H12]
    · iexists _; isplitr; swap; · iexact H12
      ipureintro
      exact h12
    isplitl [H14]
    · iexists _; isplitr; swap; · iexact H14
      ipureintro
      exact h14
    isplitl [H15]
    · iexists _; isplitr; swap; · iexact H15
      ipureintro
      exact h15
    isplitl [H16]
    · iexists _; isplitr; swap; · iexact H16
      ipureintro
      sl_unfold_run_names
      dsimp only
      rw [wrQ]
      simp only [rdK _ _ _ off1_eq, h4, pay57_eq, pay58_eq]
      rfl
    isplitl [H17]
    · iexists _; isplitr; swap; · iexact H17
      ipureintro
      exact h17
    isplitl [H18]
    · iexists _; isplitr; swap; · iexact H18
      ipureintro
      sl_unfold_run_names
      dsimp only
      rw [wrQ]
      simp only [rdK _ _ _ off1_eq, h4, pay57_eq, pay58_eq]
      rfl
    · iexists _; isplitr; swap; · iexact H19
      ipureintro
      exact h19
  iintro %u HI
  sl_exec
  sl_step
  isplitr
  · ipureintro; rfl
  isplitl [HI]
  · iexact HI
  iexact HR

end Cert.KernelIdeal.Hand

end
-- ==== Proof.TailI.lean ====
/- The end of the attention gradient's body, the masked pair of key blocks and the stores of the results, run once. -/
module

public import proofs.«01_k».proof.Proof.PartsI
public import proofs.«01_k».proof.Proof.Gen.KernelIdeal.Loops
public import proofs.«01_k».proof.Proof.Gen.KernelIdeal.Frame
public import Idealize.ShloMosaic.Lib.VecWindow
public import Idealize.ShloMosaic.Lib.LoopRemainder

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The body after its loop. -/
def tailProg (i : grid0.Coords) (arg2 : Memref sig .tc .vmem S1x512x64 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x64 .f32) (harg8 : arg8.IsWhole) (arg9 : Memref sig .tc .vmem S1x512x64 .f32) (harg9 : arg9.IsWhole) (arg10 : Memref sig .tc .vmem S1x8192x64 .f32) (harg10 : arg10.IsWhole) (arg11 : Memref sig .tc .vmem S1x8192x64 .f32) (harg11 : arg11.IsWhole) (arg12 : Memref sig .tc .vmem S1x16x8x512 .f32) (harg12 : arg12.IsWhole) (arg13 : Memref sig .tc .vmem S1x512x1 .f32) (harg13 : arg13.IsWhole) (arg14 : Memref sig .tc .vmem S512x64 .f32) (harg14 : arg14.IsWhole) (arg15 : Memref sig .tc .vmem S512x1 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x128 .bf16) (harg20 : arg20.IsWhole) (arg21 : Memref sig .tc .vmem S512x128 .bf16) (harg21 : arg21.IsWhole) (arg1 : BitVec 32) (v8 v13 : FVec F S512x64 .bf16) (v107 : IVec S512x512 32) (v149 v151 : BitVec 32) :
    Prog (TpuEff nD τ sig (Elt F) Λ₀ .tc) (FVec F S1x512x1 .f32) := do
  let v166 : BitVec 32 ← k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 2#32 v149 v151
  let ⟨v191, v204, v205, v221⟩ : Σ' (v191 : BitVec 32) (v204 : FVec F S512x512 .f32) (v205 : FVec F S512x512 .f32), FVec F S512x64 .f32 ← k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v8 v107 v166
  let v256 : BitVec 32 ← k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v13 v166 v191 v204 v205 v221
  let ⟨v274, v276, v279, v285, v288⟩ : Σ' (v274 : BitVec 32) (v276 : Vec F S512x512 .f32) (v279 : BitVec 32) (v285 : FVec F S512x512 .f32), IVec S512x512 32 ← k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg1 v166 v256
  let ⟨v293, v324⟩ : Σ' (v293 : FVec F S512x512 .f32), BitVec 32 ← k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v8 v13 v107 v274 v276 v279 v285 v288
  let v326 : Vec F S1x1x8x512 .f32 ← Prog.lift (.load arg12 (Rect.unit (s := S1x16x8x512) (k0_off25 i) S1x1x8x512.size (k0_off25_inb i)).toLoadRect (View.loadsAt_vmem h_S1x1x8x512))
  let v332 : Vec F S1x1x8x512 .f32 ← Prog.lift (.load arg12 (Rect.unit (s := S1x16x8x512) (k0_off25 i) S1x1x8x512.size (k0_off25_inb i)).toLoadRect (View.loadsAt_vmem h_S1x1x8x512))
  Prog.lift (.store arg12 (Rect.unit (s := S1x16x8x512) (k0_off25 i) S1x1x8x512.size (k0_off25_inb i)) (k0_pay88 v293 v326) Finset.univ (View.stores_vmem_bits_univ h_S1x1x8x512 rfl) (.inl rfl))
  let v335 : Vec F S512x1 .f32 ← Prog.lift (.load arg15 (Rect.unit (s := S512x1) ![0, 0] S512x1.size inb_S512x1_S512x1_0_0).toLoadRect (View.loadsAt_vmem h_S512x1))
  let v339 : Vec F S512x1 .f32 ← Prog.lift (.load arg15 (Rect.unit (s := S512x1) ![0, 0] S512x1.size inb_S512x1_S512x1_0_0).toLoadRect (View.loadsAt_vmem h_S512x1))
  Prog.lift (.store arg15 (Rect.unit (s := S512x1) ![0, 0] S512x1.size inb_S512x1_S512x1_0_0) (k0_pay89 v293 v335) Finset.univ (View.stores_vmem_bits_univ h_S512x1 rfl) (.inl rfl))
  let v342 : Vec F S512x64 .f32 ← Prog.lift (.load arg14 (Rect.unit (s := S512x64) ![0, 0] S512x64.size inb_S512x64_S512x64_0_0).toLoadRect (View.loadsAt_vmem h_S512x64))
  let v345 : Vec F S1x512x64 .f32 ← Prog.lift (.load arg9 (Rect.unit (s := S1x512x64) ![0, 0, 0] S1x512x64.size inb_S1x512x64_S1x512x64_0_0_0).toLoadRect (View.loadsAt_vmem h_S1x512x64))
  Prog.lift (.store arg9 (Rect.unit (s := S1x512x64) ![0, 0, 0] S1x512x64.size inb_S1x512x64_S1x512x64_0_0_0) (k0_pay90 v342) Finset.univ (View.stores_vmem_bits_univ h_S1x512x64 rfl) (.inl rfl))
  let v348 : Vec F S512x1 .f32 ← Prog.lift (.load arg15 (Rect.unit (s := S512x1) ![0, 0] S512x1.size inb_S512x1_S512x1_0_0).toLoadRect (View.loadsAt_vmem h_S512x1))
  let v349 : Vec F S1x512x1 .f32 ← Prog.lift (.load arg13 (Rect.unit (s := S1x512x1) ![0, 0, 0] S1x512x1.size inb_S1x512x1_S1x512x1_0_0_0).toLoadRect (View.loadsAt_vmem h_S1x512x1))
  pure (k0_pay91 v348)

theorem tail_run (c : Dev nD) (i : grid0.Coords) (arg2 : Memref sig .tc .vmem S1x512x64 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x64 .f32) (harg8 : arg8.IsWhole) (arg9 : Memref sig .tc .vmem S1x512x64 .f32) (harg9 : arg9.IsWhole) (arg10 : Memref sig .tc .vmem S1x8192x64 .f32) (harg10 : arg10.IsWhole) (arg11 : Memref sig .tc .vmem S1x8192x64 .f32) (harg11 : arg11.IsWhole) (arg12 : Memref sig .tc .vmem S1x16x8x512 .f32) (harg12 : arg12.IsWhole) (arg13 : Memref sig .tc .vmem S1x512x1 .f32) (harg13 : arg13.IsWhole) (arg14 : Memref sig .tc .vmem S512x64 .f32) (harg14 : arg14.IsWhole) (arg15 : Memref sig .tc .vmem S512x1 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x128 .bf16) (harg20 : arg20.IsWhole) (arg21 : Memref sig .tc .vmem S512x128 .bf16) (harg21 : arg21.IsWhole) (E : Env F) (s : St F) (d9 : Vec F S1x512x64 .f32) (d13 : Vec F S1x512x1 .f32) (R : sProp 𝕄) :
    iprop(held c arg3 arg4 arg5 arg20 arg21 arg10 arg11 arg12 arg14 arg15 arg16 arg17 arg18 arg19 E s ∗ own c arg9 d9 ∗ own c arg13 d13 ∗ R)
      ⊢ wp frame (wpE (defs₀ (F := F)) Variants.none (c : Thread nD τ) none) Set.univ
          (tailProg (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 1).val) E.q8 E.do8 k0_pay55 (Scalar.divsi (BitVec.ofNat 32 (i 1).val) 2#32) (Scalar.extui (Scalar.cmpi .sgt (BitVec.ofNat 32 (i 1).val) 0#32)))
          (fun r => iprop(⌜r = k0_pay91 (tripM E (BitVec.ofNat 32 (i 1).val) (BitVec.ofNat 32 (2 * ((i 1).val / 2))) ((i 1).val / 2) s).qs⌝ ∗ own c arg3 E.kk ∗ own c arg4 E.vv ∗ own c arg5 E.fr ∗ own c arg20 E.doa ∗ own c arg21 E.qa ∗ own c arg9 (k0_pay90 (tripM E (BitVec.ofNat 32 (i 1).val) (BitVec.ofNat 32 (2 * ((i 1).val / 2))) ((i 1).val / 2) s).dq) ∗ own c arg10 (tripM E (BitVec.ofNat 32 (i 1).val) (BitVec.ofNat 32 (2 * ((i 1).val / 2))) ((i 1).val / 2) s).dk ∗ own c arg11 (tripM E (BitVec.ofNat 32 (i 1).val) (BitVec.ofNat 32 (2 * ((i 1).val / 2))) ((i 1).val / 2) s).dv ∗ own c arg12 (tripM E (BitVec.ofNat 32 (i 1).val) (BitVec.ofNat 32 (2 * ((i 1).val / 2))) ((i 1).val / 2) s).ks ∗ (∃ d, own c arg14 d) ∗ (∃ d, own c arg15 d) ∗ (∃ d, own c arg16 d) ∗ (∃ d, own c arg17 d) ∗ (∃ d, own c arg18 d) ∗ (∃ d, own c arg19 d) ∗ own c arg13 d13 ∗ R)) := by
  have hi : (i 1).val < 16 := (i 1).isLt
  have ja : (jb (2 * ((i 1).val / 2))).val = 2 * ((i 1).val / 2) := jb_of_le (by omega)
  have jB : (jb (2 * ((i 1).val / 2) + 1)).val = 2 * ((i 1).val / 2) + 1 := jb_of_le (by omega)
  have hne : jb (2 * ((i 1).val / 2)) ≠ jb (2 * ((i 1).val / 2) + 1) := fun e => by have := congrArg Fin.val e; omega
  have o18a : k0_off18 i 1#32 = ![0, 512 * (jb (2 * ((i 1).val / 2) + 1)).val, 0] := by rw [jB]; exact off18a_eq i
  have o18b : k0_off18 i 2#32 = ![0, 512 * (jb (2 * ((i 1).val / 2) + 2)).val, 0] := off18b_eq i
  have o19 : k0_off19 i = ![0, (jb (2 * ((i 1).val / 2))).val, 0, 0] := by rw [ja]; exact off19_eq i
  have o20 : k0_off20 i = ![0, 512 * (jb (2 * ((i 1).val / 2))).val, 0] := by rw [ja]; exact off20_eq i
  have o21 : k0_off21 i = ![0, 512 * (jb (2 * ((i 1).val / 2))).val, 0] := by rw [ja]; exact off21_eq i
  have o22 : k0_off22 i = ![0, (jb (2 * ((i 1).val / 2))).val, 0, 0] := by rw [ja]; exact off22_eq i
  have o23 : k0_off23 i = ![0, (jb (2 * ((i 1).val / 2) + 1)).val, 0, 0] := by rw [jB]; exact off23_eq i
  have o24 : k0_off24 i = ![0, 512 * (jb (2 * ((i 1).val / 2) + 1)).val, 0] := by rw [jB]; exact off24_eq i
  have o25 : k0_off25 i = ![0, (jb (2 * ((i 1).val / 2) + 1)).val, 0, 0] := by rw [jB]; exact off25_eq i
  unfold held own owns tailProg
  simp only [k0_part13_eq_skeleton, k0_part14_eq_skeleton, k0_part15_eq_skeleton, k0_part16_eq_skeleton, k0_part17_eq_skeleton]
  unfold k0_part13_skel k0_part14_skel k0_part15_skel k0_part16_skel k0_part17_skel
  iintro ⟨⟨⟨%e3, %t3, H3⟩, ⟨%e4, %t4, H4⟩, ⟨%e5, %t5, H5⟩, ⟨%e20, %t20, H20⟩, ⟨%e21, %t21, H21⟩, ⟨%e10, %t10, H10⟩, ⟨%e11, %t11, H11⟩, ⟨%e12, %t12, H12⟩, ⟨%e14, %t14, H14⟩, ⟨%e15, %t15, H15⟩, ⟨%e16, %t16, H16⟩, ⟨%e17, %t17, H17⟩, ⟨%e18, %t18, H18⟩, ⟨%e19, %t19, H19⟩⟩, ⟨%e9, %t9, H9⟩, ⟨%e13, %t13, H13⟩, HR⟩
  sl_exec
  sl_step
  isplitr
  · ipureintro
    sl_unfold_run_names
    dsimp only
    rw [tripM_eq]
    simp only [rdQ, rdB, rdC, rdA, cvQ, cvA, cvC, rdK _ _ _ o18a, rdK _ _ _ o18b, rdK _ _ _ o20, rdK _ _ _ o24, rdF _ _ _ o19, rdF _ _ _ o23, t3, t4, t5, t20, t21, t14, t15, t16, t18, pairWord i]
    rfl
  isplitl [H3]
  · iexists _; isplitr; swap; · iexact H3
    ipureintro; exact t3
  isplitl [H4]
  · iexists _; isplitr; swap; · iexact H4
    ipureintro; exact t4
  isplitl [H5]
  · iexists _; isplitr; swap; · iexact H5
    ipureintro; exact t5
  isplitl [H20]
  · iexists _; isplitr; swap; · iexact H20
    ipureintro; exact t20
  isplitl [H21]
  · iexists _; isplitr; swap; · iexact H21
    ipureintro; exact t21
  isplitl [H9]
  · iexists _; isplitr; swap; · iexact H9
    ipureintro
    sl_unfold_run_names
    dsimp only
    rw [tripM_eq, wrO]
    simp only [rdQ, rdB, rdC, rdA, cvQ, cvA, cvC, rdK _ _ _ o18a, rdK _ _ _ o18b, rdK _ _ _ o20, rdK _ _ _ o24, rdF _ _ _ o19, rdF _ _ _ o23, t3, t4, t5, t20, t21, t14, t15, t16, t18, pairWord i]
    rfl
  isplitl [H10]
  · iexists _; isplitr; swap; · iexact H10
    ipureintro
    sl_unfold_run_names
    dsimp only
    rw [tripM_eq, pair_dk _ hne, wrD _ _ _ _ _ o24, wrD _ _ _ _ _ o21, View.writes_nil, t10]
    simp only [rdQ, rdB, rdC, rdA, cvQ, cvA, cvC, rdK _ _ _ o18a, rdK _ _ _ o18b, rdK _ _ _ o20, rdK _ _ _ o24, rdF _ _ _ o19, rdF _ _ _ o23, t3, t4, t5, t20, t21, t14, t15, t16, t18, pairWord i, rdD _ _ _ o21, rdD _ _ _ o24, t10]
    rfl
  isplitl [H11]
  · iexists _; isplitr; swap; · iexact H11
    ipureintro
    sl_unfold_run_names
    dsimp only
    rw [tripM_eq, pair_dv _ hne, wrD _ _ _ _ _ o24, wrD _ _ _ _ _ o21, View.writes_nil, t11]
    simp only [rdQ, rdB, rdC, rdA, cvQ, cvA, cvC, rdK _ _ _ o18a, rdK _ _ _ o18b, rdK _ _ _ o20, rdK _ _ _ o24, rdF _ _ _ o19, rdF _ _ _ o23, t3, t4, t5, t20, t21, t14, t15, t16, t18, pairWord i, rdD _ _ _ o21, rdD _ _ _ o24, t11]
    rfl
  isplitl [H12]
  · iexists _; isplitr; swap; · iexact H12
    ipureintro
    sl_unfold_run_names
    dsimp only
    rw [tripM_eq, pair_ks _ hne, wrS _ _ _ _ _ o25, wrS _ _ _ _ _ o22, View.writes_nil, t12]
    simp only [rdQ, rdB, rdC, rdA, cvQ, cvA, cvC, rdK _ _ _ o18a, rdK _ _ _ o18b, rdK _ _ _ o20, rdK _ _ _ o24, rdF _ _ _ o19, rdF _ _ _ o23, t3, t4, t5, t20, t21, t14, t15, t16, t18, pairWord i, rdS _ _ _ o22, rdS _ _ _ o25, t12]
    rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  isplitl [H13]
  · iexists _; isplitr; swap; · iexact H13
    ipureintro; exact t13
  iexact HR

end Cert.KernelIdeal.Hand

end
-- ==== Proof.BodyI.lean ====
/- The attention gradient's body at a grid point: from its windows' blocks to the blocks it leaves. -/
module

public import proofs.«01_k».proof.Proof.TailI
public import proofs.«01_k».proof.Proof.Gen.KernelIdeal.Loops
public import proofs.«01_k».proof.Proof.Gen.KernelIdeal.Frame
public import Idealize.ShloMosaic.Lib.VecWindow
public import Idealize.ShloMosaic.Lib.LoopRemainder

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The state a point of query block `i` ends in, from its windows' blocks and what the accumulated arrays hold before it. -/
def ptSt (i : ℕ) (q : Vec F S1x512x64 .bf16) (kk : Vec F S1x8192x128 .bf16) (vv : Vec F S1x8192x128 .bf16) (fr : Vec F S1x16x1x512 .f32) (o : Vec F S1x512x64 .f32) (lse : Vec F S1x512x1 .f32) (g : Vec F S1x512x64 .f32) (dk dv : Vec F S1x8192x64 .f32) (ks : Vec F S1x16x8x512 .f32) : St F :=
  finSt (envOf q kk vv fr o lse g) i (stOf (envOf q kk vv fr o lse g) (dkAt i dk) (dvAt i dv) (ksAt i ks) (constant S512x512 .f32 0x00000000#32) (constant S512x512 .f32 0x00000000#32))

theorem bind_eq {α β : Type} (c : Dev nD) {P : sProp 𝕄} {p : Prog (TpuEff nD τ sig (Elt F) Λ₀ .tc) α} {x : α} {Q' : sProp 𝕄}
    {k : α → Prog (TpuEff nD τ sig (Elt F) Λ₀ .tc) β} {Q : β → sProp 𝕄}
    (h : P ⊢ wp frame (wpE (defs₀ (F := F)) Variants.none (c : Thread nD τ) none) Set.univ p (fun r => iprop(⌜r = x⌝ ∗ Q')))
    (hk : Q' ⊢ wp frame (wpE (defs₀ (F := F)) Variants.none (c : Thread nD τ) none) Set.univ (k x) Q) :
    P ⊢ wp frame (wpE (defs₀ (F := F)) Variants.none (c : Thread nD τ) none) Set.univ (p >>= k) Q := by
  rw [wp_bind]
  refine h.trans (wp_mono _ _ _ fun r => ?_)
  iintro ⟨%hr, H⟩
  subst hr
  iapply hk $$ H

theorem body_run (c : Dev nD) (i : grid0.Coords) (arg2 : Memref sig .tc .vmem S1x512x64 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S1x512x64 .f32) (harg8 : arg8.IsWhole) (arg9 : Memref sig .tc .vmem S1x512x64 .f32) (harg9 : arg9.IsWhole) (arg10 : Memref sig .tc .vmem S1x8192x64 .f32) (harg10 : arg10.IsWhole) (arg11 : Memref sig .tc .vmem S1x8192x64 .f32) (harg11 : arg11.IsWhole) (arg12 : Memref sig .tc .vmem S1x16x8x512 .f32) (harg12 : arg12.IsWhole) (arg13 : Memref sig .tc .vmem S1x512x1 .f32) (harg13 : arg13.IsWhole) (arg14 : Memref sig .tc .vmem S512x64 .f32) (harg14 : arg14.IsWhole) (arg15 : Memref sig .tc .vmem S512x1 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x128 .bf16) (harg20 : arg20.IsWhole) (arg21 : Memref sig .tc .vmem S512x128 .bf16) (harg21 : arg21.IsWhole)
    (q : Vec F S1x512x64 .bf16) (kk : Vec F S1x8192x128 .bf16) (vv : Vec F S1x8192x128 .bf16) (fr : Vec F S1x16x1x512 .f32) (o : Vec F S1x512x64 .f32) (lse : Vec F S1x512x1 .f32) (g : Vec F S1x512x64 .f32) (dk dv : Vec F S1x8192x64 .f32) (ks : Vec F S1x16x8x512 .f32) (d9 : Vec F S1x512x64 .f32) (d13 : Vec F S1x512x1 .f32) (d14 : Vec F S512x64 .f32) (d15 : Vec F S512x1 .f32)
    (d16 d17 d18 d19 : Vec F S512x512 .f32) (d20 d21 : Vec F S512x128 .bf16) :
    iprop(own c arg2 q ∗ own c arg3 kk ∗ own c arg4 vv ∗ own c arg5 fr ∗ own c arg6 o ∗ own c arg7 lse ∗ own c arg8 g ∗ own c arg9 d9 ∗ own c arg10 dk ∗ own c arg11 dv ∗ own c arg12 ks ∗ own c arg13 d13 ∗ own c arg14 d14 ∗ own c arg15 d15 ∗ own c arg16 d16 ∗ own c arg17 d17 ∗ own c arg18 d18 ∗ own c arg19 d19 ∗ own c arg20 d20 ∗ own c arg21 d21)
      ⊢ wp frame (wpE (defs₀ (F := F)) Variants.none (c : Thread nD τ) none) Set.univ
          (cc0_fox_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21)
          (fun _ => iprop(own c arg2 q ∗ own c arg3 kk ∗ own c arg4 vv ∗ own c arg5 fr ∗ own c arg6 o ∗ own c arg7 lse ∗ own c arg8 g ∗ own c arg9 (k0_pay90 (ptSt (i 1).val q kk vv fr o lse g dk dv ks).dq) ∗ own c arg10 (ptSt (i 1).val q kk vv fr o lse g dk dv ks).dk ∗ own c arg11 (ptSt (i 1).val q kk vv fr o lse g dk dv ks).dv ∗ own c arg12 (ptSt (i 1).val q kk vv fr o lse g dk dv ks).ks ∗ own c arg13 (k0_pay91 (ptSt (i 1).val q kk vv fr o lse g dk dv ks).qs) ∗ (∃ d, own c arg14 d) ∗ (∃ d, own c arg15 d) ∗ (∃ d, own c arg16 d) ∗ (∃ d, own c arg17 d) ∗ (∃ d, own c arg18 d) ∗ (∃ d, own c arg19 d) ∗ (∃ d, own c arg20 d) ∗ (∃ d, own c arg21 d))) := by
  have PT : (ptSt (i 1).val q kk vv fr o lse g dk dv ks) = tripM (envOf q kk vv fr o lse g) (BitVec.ofNat 32 (i 1).val) (BitVec.ofNat 32 (2 * ((i 1).val / 2))) ((i 1).val / 2) (trips (envOf q kk vv fr o lse g) (stOf (envOf q kk vv fr o lse g) (dkAt (i 1).val dk) (dvAt (i 1).val dv) (ksAt (i 1).val ks) d17 d19) ((i 1).val / 2)) :=
    finSt_fresh _ _ _ _ _ _ _ _ _
  rw [PT]
  simp only [cc0_fox_bwd_eq_skeleton]; unfold cc0_fox_bwd_skel
  simp only [k0_part18_eq_skeleton]; unfold k0_part18_skel
  refine bind_eq (x := k0_pay91 (tripM (envOf q kk vv fr o lse g) (BitVec.ofNat 32 (i 1).val) (BitVec.ofNat 32 (2 * ((i 1).val / 2))) ((i 1).val / 2) (trips (envOf q kk vv fr o lse g) (stOf (envOf q kk vv fr o lse g) (dkAt (i 1).val dk) (dvAt (i 1).val dv) (ksAt (i 1).val ks) d17 d19) ((i 1).val / 2))).qs) c
    (Q' := iprop(own c arg2 q ∗ own c arg3 kk ∗ own c arg4 vv ∗ own c arg5 fr ∗ own c arg6 o ∗ own c arg7 lse ∗ own c arg8 g ∗ own c arg9 (k0_pay90 (tripM (envOf q kk vv fr o lse g) (BitVec.ofNat 32 (i 1).val) (BitVec.ofNat 32 (2 * ((i 1).val / 2))) ((i 1).val / 2) (trips (envOf q kk vv fr o lse g) (stOf (envOf q kk vv fr o lse g) (dkAt (i 1).val dk) (dvAt (i 1).val dv) (ksAt (i 1).val ks) d17 d19) ((i 1).val / 2))).dq) ∗ own c arg10 (tripM (envOf q kk vv fr o lse g) (BitVec.ofNat 32 (i 1).val) (BitVec.ofNat 32 (2 * ((i 1).val / 2))) ((i 1).val / 2) (trips (envOf q kk vv fr o lse g) (stOf (envOf q kk vv fr o lse g) (dkAt (i 1).val dk) (dvAt (i 1).val dv) (ksAt (i 1).val ks) d17 d19) ((i 1).val / 2))).dk ∗ own c arg11 (tripM (envOf q kk vv fr o lse g) (BitVec.ofNat 32 (i 1).val) (BitVec.ofNat 32 (2 * ((i 1).val / 2))) ((i 1).val / 2) (trips (envOf q kk vv fr o lse g) (stOf (envOf q kk vv fr o lse g) (dkAt (i 1).val dk) (dvAt (i 1).val dv) (ksAt (i 1).val ks) d17 d19) ((i 1).val / 2))).dv ∗ own c arg12 (tripM (envOf q kk vv fr o lse g) (BitVec.ofNat 32 (i 1).val) (BitVec.ofNat 32 (2 * ((i 1).val / 2))) ((i 1).val / 2) (trips (envOf q kk vv fr o lse g) (stOf (envOf q kk vv fr o lse g) (dkAt (i 1).val dk) (dvAt (i 1).val dv) (ksAt (i 1).val ks) d17 d19) ((i 1).val / 2))).ks ∗ own c arg13 d13 ∗ (∃ d, own c arg14 d) ∗ (∃ d, own c arg15 d) ∗ (∃ d, own c arg16 d) ∗ (∃ d, own c arg17 d) ∗ (∃ d, own c arg18 d) ∗ (∃ d, own c arg19 d) ∗ (∃ d, own c arg20 d) ∗ (∃ d, own c arg21 d))) ?_ ?_
  · simp only [k0_part9_eq_skeleton, k0_part10_eq_skeleton, k0_part11_eq_skeleton, k0_part12_eq_skeleton]
    refine BIBase.Entails.trans ?_ (bind_eq c (part9_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 q lse g o dk dv ks d14 d15 iprop(own c arg3 kk ∗ own c arg4 vv ∗ own c arg5 fr ∗ own c arg9 d9 ∗ own c arg13 d13 ∗ own c arg16 d16 ∗ own c arg17 d17 ∗ own c arg18 d18 ∗ own c arg19 d19 ∗ own c arg20 d20 ∗ own c arg21 d21)) ?_)
    · iintro ⟨H2, H3, H4, H5, H6, H7, H8, H9, H10, H11, H12, H13, H14, H15, H16, H17, H18, H19, H20, H21⟩
      isplitl [H2]; · iexact H2
      isplitl [H7]; · iexact H7
      isplitl [H8]; · iexact H8
      isplitl [H6]; · iexact H6
      isplitl [H10]; · iexact H10
      isplitl [H11]; · iexact H11
      isplitl [H12]; · iexact H12
      isplitl [H14]; · iexact H14
      isplitl [H15]; · iexact H15
      isplitl [H3]; · iexact H3
      isplitl [H4]; · iexact H4
      isplitl [H5]; · iexact H5
      isplitl [H9]; · iexact H9
      isplitl [H13]; · iexact H13
      isplitl [H16]; · iexact H16
      isplitl [H17]; · iexact H17
      isplitl [H18]; · iexact H18
      isplitl [H19]; · iexact H19
      isplitl [H20]; · iexact H20
      iexact H21
    refine BIBase.Entails.trans ?_ (bind_eq c (part10_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ d20 d21 iprop(own c arg2 q ∗ own c arg7 lse ∗ own c arg8 g ∗ own c arg6 o ∗ own c arg10 (dkAt (i 1).val dk) ∗ own c arg11 (dvAt (i 1).val dv) ∗ own c arg12 (ksAt (i 1).val ks) ∗ own c arg14 (k0_pay44 (F := F)) ∗ own c arg15 (k0_pay45 (F := F)) ∗ own c arg3 kk ∗ own c arg4 vv ∗ own c arg5 fr ∗ own c arg9 d9 ∗ own c arg13 d13 ∗ own c arg16 d16 ∗ own c arg17 d17 ∗ own c arg18 d18 ∗ own c arg19 d19)) ?_)
    · iintro ⟨H2, H7, H8, H6, H10, H11, H12, H14, H15, H3, H4, H5, H9, H13, H16, H17, H18, H19, H20, H21⟩
      isplitl [H20]; · iexact H20
      isplitl [H21]; · iexact H21
      isplitl [H2]; · iexact H2
      isplitl [H7]; · iexact H7
      isplitl [H8]; · iexact H8
      isplitl [H6]; · iexact H6
      isplitl [H10]; · iexact H10
      isplitl [H11]; · iexact H11
      isplitl [H12]; · iexact H12
      isplitl [H14]; · iexact H14
      isplitl [H15]; · iexact H15
      isplitl [H3]; · iexact H3
      isplitl [H4]; · iexact H4
      isplitl [H5]; · iexact H5
      isplitl [H9]; · iexact H9
      isplitl [H13]; · iexact H13
      isplitl [H16]; · iexact H16
      isplitl [H17]; · iexact H17
      isplitl [H18]; · iexact H18
      iexact H19
    refine BIBase.Entails.trans ?_ (bind_eq c (part11_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ _ _ _ d21 (envOf q kk vv fr o lse g).doa kk iprop(own c arg2 q ∗ own c arg7 lse ∗ own c arg8 g ∗ own c arg6 o ∗ own c arg10 (dkAt (i 1).val dk) ∗ own c arg11 (dvAt (i 1).val dv) ∗ own c arg12 (ksAt (i 1).val ks) ∗ own c arg14 (k0_pay44 (F := F)) ∗ own c arg15 (k0_pay45 (F := F)) ∗ own c arg4 vv ∗ own c arg5 fr ∗ own c arg9 d9 ∗ own c arg13 d13 ∗ own c arg16 d16 ∗ own c arg17 d17 ∗ own c arg18 d18 ∗ own c arg19 d19)) ?_)
    · iintro ⟨H20, H21, H2, H7, H8, H6, H10, H11, H12, H14, H15, H3, H4, H5, H9, H13, H16, H17, H18, H19⟩
      isplitl [H21]; · iexact H21
      isplitl [H20]; · iexact H20
      isplitl [H3]; · iexact H3
      isplitl [H2]; · iexact H2
      isplitl [H7]; · iexact H7
      isplitl [H8]; · iexact H8
      isplitl [H6]; · iexact H6
      isplitl [H10]; · iexact H10
      isplitl [H11]; · iexact H11
      isplitl [H12]; · iexact H12
      isplitl [H14]; · iexact H14
      isplitl [H15]; · iexact H15
      isplitl [H4]; · iexact H4
      isplitl [H5]; · iexact H5
      isplitl [H9]; · iexact H9
      isplitl [H13]; · iexact H13
      isplitl [H16]; · iexact H16
      isplitl [H17]; · iexact H17
      isplitl [H18]; · iexact H18
      iexact H19
    refine BIBase.Entails.trans ?_ (bind_eq c (part12_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 _ _ (envOf q kk vv fr o lse g) (dkAt (i 1).val dk) (dvAt (i 1).val dv) (ksAt (i 1).val ks) d16 d17 d18 d19 iprop(own c arg2 q ∗ own c arg7 lse ∗ own c arg8 g ∗ own c arg6 o ∗ own c arg9 d9 ∗ own c arg13 d13)) ?_)
    · iintro ⟨H21, H20, H3, H2, H7, H8, H6, H10, H11, H12, H14, H15, H4, H5, H9, H13, H16, H17, H18, H19⟩
      isplitl [H3]; · iexact H3
      isplitl [H4]; · iexact H4
      isplitl [H5]; · iexact H5
      isplitl [H20]; · iexact H20
      isplitl [H21]; · iexact H21
      isplitl [H10]; · iexact H10
      isplitl [H11]; · iexact H11
      isplitl [H12]; · iexact H12
      isplitl [H14]; · iexact H14
      isplitl [H15]; · iexact H15
      isplitl [H16]; · iexact H16
      isplitl [H17]; · iexact H17
      isplitl [H18]; · iexact H18
      isplitl [H19]; · iexact H19
      isplitl [H2]; · iexact H2
      isplitl [H7]; · iexact H7
      isplitl [H8]; · iexact H8
      isplitl [H6]; · iexact H6
      isplitl [H9]; · iexact H9
      iexact H13
    refine BIBase.Entails.trans ?_ ((tail_run c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (envOf q kk vv fr o lse g) (trips (envOf q kk vv fr o lse g) (stOf (envOf q kk vv fr o lse g) (dkAt (i 1).val dk) (dvAt (i 1).val dv) (ksAt (i 1).val ks) d17 d19) ((i 1).val / 2)) d9 d13 iprop(own c arg2 q ∗ own c arg7 lse ∗ own c arg8 g ∗ own c arg6 o)).trans (wp_mono _ _ _ fun r => ?_))
    · iintro ⟨H, H2, H7, H8, H6, H9, H13⟩
      isplitl [H]; · iexact H
      isplitl [H9]; · iexact H9
      isplitl [H13]; · iexact H13
      isplitl [H2]; · iexact H2
      isplitl [H7]; · iexact H7
      isplitl [H8]; · iexact H8
      iexact H6
    iintro ⟨%hr, H3, H4, H5, H20, H21, H9, H10, H11, H12, H14, H15, H16, H17, H18, H19, H13, H2, H7, H8, H6⟩
    isplitr
    · ipureintro; exact hr
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexists _; iexact H20
    iexists _; iexact H21
  unfold own owns
  iintro ⟨H2, H3, H4, H5, H6, H7, H8, H9, H10, H11, H12, H13, H14, H15, H16, H17, H18, H19, H20, H21⟩
  icases H13 with ⟨%e13, %t13, H13⟩
  sl_exec
  sl_step
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexists _; isplitr; swap; · iexact H13
    ipureintro; exact wrL _ _ _ _ _
  isplitl [H14]
  · iexact H14
  isplitl [H15]
  · iexact H15
  isplitl [H16]
  · iexact H16
  isplitl [H17]
  · iexact H17
  isplitl [H18]
  · iexact H18
  isplitl [H19]
  · iexact H19
  isplitl [H20]
  · iexact H20
  iexact H21

end Cert.KernelIdeal.Hand

end
-- ==== Proof.FrameI.lean ====
/- The attention gradient's launch: what each of its results' blocks holds after each grid point, and the frame run from the
   body's run. -/
module

public import proofs.«01_k».proof.Proof.BodyI
public import proofs.«01_k».proof.Proof.Gen.KernelIdeal.Loops
public import proofs.«01_k».proof.Proof.Gen.KernelIdeal.Frame
public import proofs.«01_k».proof.Proof.Gen.KernelIdeal.Points
public import Idealize.ShloMosaic.Lib.Pipeline.Frame
public import Idealize.ShloMosaic.Lib.VecWindow
public import Idealize.ShloMosaic.Lib.LoopRemainder

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The grid's second coordinate at point `t`: its query block. -/
theorem coord1 : ∀ t : Fin cfg0.N, ((grid0.coords t) 1).val = t.val % 16 := by decide +kernel

/-- A state that nothing reads. -/
def st0 : St F := stOf (envOf (constant S1x512x64 .bf16 0x0000#16) (constant S1x8192x128 .bf16 0x0000#16) (constant S1x8192x128 .bf16 0x0000#16)
  (constant S1x16x1x512 .f32 0x00000000#32) (constant S1x512x64 .f32 0x00000000#32) (constant S1x512x1 .f32 0x00000000#32) (constant S1x512x64 .f32 0x00000000#32))
  (k0_pay37 (F := F)) (k0_pay38 (F := F)) (k0_pay39 (F := F)) (constant S512x512 .f32 0x00000000#32) (constant S512x512 .f32 0x00000000#32)

/-- One point's step of the state, at any number: the identity past the grid. -/
def stepAt (c : Dev nD) (n : ℕ) (s : St F) : St F :=
  if h : n < cfg0.N then
    ptSt ((grid0.coords ⟨n, h⟩) 1).val (iblk m c 0 ⟨n, h⟩) (iblk m c 1 ⟨n, h⟩) (iblk m c 2 ⟨n, h⟩) (iblk m c 3 ⟨n, h⟩) (iblk m c 4 ⟨n, h⟩) (iblk m c 5 ⟨n, h⟩) (iblk m c 6 ⟨n, h⟩) s.dk s.dv s.ks
  else s

/-- The state before point `n`. -/
def stN (c : Dev nD) : ℕ → St F
  | 0 => st0
  | n + 1 => stepAt m c n (stN c n)

theorem stN_succ (c : Dev nD) (t : Fin cfg0.N) :
    stN m c (t.val + 1) = ptSt ((grid0.coords t) 1).val (iblk m c 0 t) (iblk m c 1 t) (iblk m c 2 t) (iblk m c 3 t) (iblk m c 4 t) (iblk m c 5 t) (iblk m c 6 t) (stN m c t.val).dk (stN m c t.val).dv (stN m c t.val).ks := by
  show stepAt m c t.val (stN m c t.val) = _
  unfold stepAt
  rw [dif_pos t.isLt]

/-- The proof data on core `c`: the inputs' blocks left in place, the results' blocks at the state after the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (k0_pay90 (stN m c (t.val + 1)).dq : Vec F S1x512x64 .f32)
    | ⟨8, _⟩ => (stN m c (t.val + 1)).dk
    | ⟨9, _⟩ => (stN m c (t.val + 1)).dv
    | ⟨10, _⟩ => (stN m c (t.val + 1)).ks
    | ⟨11, _⟩ => (k0_pay91 (stN m c (t.val + 1)).qs : Vec F S1x512x1 .f32)
  Φ _ := Pipeline.ΦA spec0 c
  q _ := fullShare
  owed _ := 0

theorem A_eq (c : Dev nD) (w : Fin cfg0.W) : (dats m 0 c).A w = V m c (Pipeline.arrRef spec0 w) := by dsimp only [dats]

/-! ## What the accumulated arrays' buffers hold before a point -/

theorem prev_flush {w : Fin cfg0.W} (hf : ∀ t : Fin cfg0.N, (cfg0.win w).flush t = true ↔ t.val % 16 = 15) (t : Fin cfg0.N) (h : t.val % 16 ≠ 0) :
    (cfg0.win w).flush ⟨t.val - 1, Nat.lt_of_le_of_lt (Nat.sub_le _ _) t.isLt⟩ = false := by
  rw [← Bool.not_eq_true, hf]
  show ¬ (t.val - 1) % 16 = 15
  omega

theorem before_dk (c : Dev nD) (t : Fin cfg0.N) (d) :
    dkAt ((grid0.coords t) 1).val ((dats m 0 c).before 8 t d) = dkAt ((grid0.coords t) 1).val (stN m c t.val).dk := by
  by_cases h : t.val % 16 = 0
  · rw [dkAt, dkAt, if_pos ((coord1 t).trans h), if_pos ((coord1 t).trans h)]
  · have h0 : t.val ≠ 0 := fun e => h (by rw [e])
    rw [(dats m 0 c).before_out_kept 8 rfl t h0 (prev_flush flush0_8 t h) (fun _ => rfl) (fun _ _ => rfl) d]
    show dkAt _ (stN m c (t.val - 1 + 1)).dk = _
    rw [Nat.sub_add_cancel (Nat.one_le_iff_ne_zero.mpr h0)]

theorem before_dv (c : Dev nD) (t : Fin cfg0.N) (d) :
    dvAt ((grid0.coords t) 1).val ((dats m 0 c).before 9 t d) = dvAt ((grid0.coords t) 1).val (stN m c t.val).dv := by
  by_cases h : t.val % 16 = 0
  · rw [dvAt, dvAt, if_pos ((coord1 t).trans h), if_pos ((coord1 t).trans h)]
  · have h0 : t.val ≠ 0 := fun e => h (by rw [e])
    rw [(dats m 0 c).before_out_kept 9 rfl t h0 (prev_flush flush0_9 t h) (fun _ => rfl) (fun _ _ => rfl) d]
    show dvAt _ (stN m c (t.val - 1 + 1)).dv = _
    rw [Nat.sub_add_cancel (Nat.one_le_iff_ne_zero.mpr h0)]

theorem before_ks (c : Dev nD) (t : Fin cfg0.N) (d) :
    ksAt ((grid0.coords t) 1).val ((dats m 0 c).before 10 t d) = ksAt ((grid0.coords t) 1).val (stN m c t.val).ks := by
  by_cases h : t.val % 16 = 0
  · rw [ksAt, ksAt, if_pos ((coord1 t).trans h), if_pos ((coord1 t).trans h)]
  · have h0 : t.val ≠ 0 := fun e => h (by rw [e])
    rw [(dats m 0 c).before_out_kept 10 rfl t h0 (prev_flush flush0_10 t h) (fun _ => rfl) (fun _ _ => rfl) d]
    show ksAt _ (stN m c (t.val - 1 + 1)).ks = _
    rw [Nat.sub_add_cancel (Nat.one_le_iff_ne_zero.mpr h0)]

theorem ptSt_congr (i : ℕ) (q : Vec F S1x512x64 .bf16) (kk : Vec F S1x8192x128 .bf16) (vv : Vec F S1x8192x128 .bf16) (fr : Vec F S1x16x1x512 .f32) (o : Vec F S1x512x64 .f32) (lse : Vec F S1x512x1 .f32) (g : Vec F S1x512x64 .f32) (dk dv dk' dv' : Vec F S1x8192x64 .f32) (ks ks' : Vec F S1x16x8x512 .f32)
    (h1 : dkAt i dk = dkAt i dk') (h2 : dvAt i dv = dvAt i dv') (h3 : ksAt i ks = ksAt i ks') :
    ptSt i q kk vv fr o lse g dk dv ks = ptSt i q kk vv fr o lse g dk' dv' ks' := by
  unfold ptSt; rw [h1, h2, h3]

/-! ## The body obligation -/

theorem phiA_eq (c : Dev nD) : (Pipeline.ΦA spec0 c : sProp 𝕄)
    = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d)) ∗ (∃ r, prngReg c r)) := by
  unfold Pipeline.ΦA; rw [scopedRest0_eq]; simp only [owns_whole]; try rfl

def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)))
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ owns (c : Thread nD τ) (st0_8 t) fullShare ((dats m 0 c).after 8 t) ∗ owns (c : Thread nD τ) (st0_9 t) fullShare ((dats m 0 c).after 9 t) ∗ owns (c : Thread nD τ) (st0_10 t) fullShare ((dats m 0 c).after 10 t) ∗ owns (c : Thread nD τ) (st0_11 t) fullShare ((dats m 0 c).after 11 t))

theorem point_run (c : Dev nD) (t : Fin cfg0.N) (d7 d8 d9 d10 d11 e0 e1 e2 e3 e4 e5 e6 e7) :
    iprop(own c (st0_0 t) (iblk m c 0 t) ∗ own c (st0_1 t) (iblk m c 1 t) ∗ own c (st0_2 t) (iblk m c 2 t) ∗ own c (st0_3 t) (iblk m c 3 t) ∗ own c (st0_4 t) (iblk m c 4 t) ∗ own c (st0_5 t) (iblk m c 5 t) ∗ own c (st0_6 t) (iblk m c 6 t) ∗ own c (st0_7 t) ((dats m 0 c).before 7 t d7) ∗ own c (st0_8 t) ((dats m 0 c).before 8 t d8) ∗ own c (st0_9 t) ((dats m 0 c).before 9 t d9) ∗ own c (st0_10 t) ((dats m 0 c).before 10 t d10) ∗ own c (st0_11 t) ((dats m 0 c).before 11 t d11) ∗ own c (Memref.whole cc0_scratch0) (e0) ∗ own c (Memref.whole cc0_scratch1) (e1) ∗ own c (Memref.whole cc0_scratch2) (e2) ∗ own c (Memref.whole cc0_scratch3) (e3) ∗ own c (Memref.whole cc0_scratch4) (e4) ∗ own c (Memref.whole cc0_scratch5) (e5) ∗ own c (Memref.whole cc0_scratch6) (e6) ∗ own c (Memref.whole cc0_scratch7) (e7))
    ⊢ wp frame (wpE (defs₀ (F := F)) Variants.none (c : Thread nD τ) none) Set.univ (bodyAt0 t) (fun _ =>
      iprop(own c (st0_0 t) (iblk m c 0 t) ∗ own c (st0_1 t) (iblk m c 1 t) ∗ own c (st0_2 t) (iblk m c 2 t) ∗ own c (st0_3 t) (iblk m c 3 t) ∗ own c (st0_4 t) (iblk m c 4 t) ∗ own c (st0_5 t) (iblk m c 5 t) ∗ own c (st0_6 t) (iblk m c 6 t) ∗ own c (st0_7 t) ((dats m 0 c).after 7 t) ∗ own c (st0_8 t) ((dats m 0 c).after 8 t) ∗ own c (st0_9 t) ((dats m 0 c).after 9 t) ∗ own c (st0_10 t) ((dats m 0 c).after 10 t) ∗ own c (st0_11 t) ((dats m 0 c).after 11 t) ∗ (∃ d, own c (Memref.whole cc0_scratch0) d) ∗ (∃ d, own c (Memref.whole cc0_scratch1) d) ∗ (∃ d, own c (Memref.whole cc0_scratch2) d) ∗ (∃ d, own c (Memref.whole cc0_scratch3) d) ∗ (∃ d, own c (Memref.whole cc0_scratch4) d) ∗ (∃ d, own c (Memref.whole cc0_scratch5) d) ∗ (∃ d, own c (Memref.whole cc0_scratch6) d) ∗ (∃ d, own c (Memref.whole cc0_scratch7) d))) := by
  have he : ptSt ((grid0.coords t) 1).val (iblk m c 0 t) (iblk m c 1 t) (iblk m c 2 t) (iblk m c 3 t) (iblk m c 4 t) (iblk m c 5 t) (iblk m c 6 t) ((dats m 0 c).before 8 t d8) ((dats m 0 c).before 9 t d9) ((dats m 0 c).before 10 t d10) = stN m c (t.val + 1) :=
    ((stN_succ m c t).trans (ptSt_congr _ (iblk m c 0 t) (iblk m c 1 t) (iblk m c 2 t) (iblk m c 3 t) (iblk m c 4 t) (iblk m c 5 t) (iblk m c 6 t) _ _ _ _ _ _
      (before_dk m c t d8).symm (before_dv m c t d9).symm (before_ks m c t d10).symm)).symm
  have key := body_run c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (st0_9 t) (hstage0_9 ((cfg0.slots t 9).cast nbuf0_9)) (st0_10 t) (hstage0_10 ((cfg0.slots t 10).cast nbuf0_10)) (st0_11 t) (hstage0_11 ((cfg0.slots t 11).cast nbuf0_11)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (iblk m c 0 t) (iblk m c 1 t) (iblk m c 2 t) (iblk m c 3 t) (iblk m c 4 t) (iblk m c 5 t) (iblk m c 6 t) ((dats m 0 c).before 8 t d8) ((dats m 0 c).before 9 t d9) ((dats m 0 c).before 10 t d10)
      ((dats m 0 c).before 7 t d7) ((dats m 0 c).before 11 t d11) e0 e1 e2 e3 e4 e5 e6 e7
  rw [he] at key
  exact key

theorem before_in_all (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) ∧ (∀ d, (dats m 0 c).before 4 t d = iblk m c 4 t) ∧ (∀ d, (dats m 0 c).before 5 t d = iblk m c 5 t) ∧ (∀ d, (dats m 0 c).before 6 t d = iblk m c 6 t) :=
  ⟨fun d => before0_0_of m (dats m 0 c) (A_eq m c 0) (fun t => by dsimp only [dats]) t d, fun d => before0_1_of m (dats m 0 c) (A_eq m c 1) (fun t => by dsimp only [dats]) t d, fun d => before0_2_of m (dats m 0 c) (A_eq m c 2) (fun t => by dsimp only [dats]) t d, fun d => before0_3_of m (dats m 0 c) (A_eq m c 3) (fun t => by dsimp only [dats]) t d, fun d => before0_4_of m (dats m 0 c) (A_eq m c 4) (fun t => by dsimp only [dats]) t d, fun d => before0_5_of m (dats m 0 c) (A_eq m c 5) (fun t => by dsimp only [dats]) t d, fun d => before0_6_of m (dats m 0 c) (A_eq m c 6) (fun t => by dsimp only [dats]) t d⟩

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phiA_eq]
  obtain ⟨b0, b1, b2, b3, b4, b5, b6⟩ := before_in_all m c t
  simp only [b0, b1, b2, b3, b4, b5, b6]
  iintro ⟨⟨⟨⟨%e0, E0⟩, ⟨%e1, E1⟩, ⟨%e2, E2⟩, ⟨%e3, E3⟩, ⟨%e4, E4⟩, ⟨%e5, E5⟩, ⟨%e6, E6⟩, ⟨%e7, E7⟩⟩, Hg⟩, HO, ⟨%d0, D0⟩, ⟨%d1, D1⟩, ⟨%d2, D2⟩, ⟨%d3, D3⟩, ⟨%d4, D4⟩, ⟨%d5, D5⟩, ⟨%d6, D6⟩, ⟨%d7, D7⟩, ⟨%d8, D8⟩, ⟨%d9, D9⟩, ⟨%d10, D10⟩, ⟨%d11, D11⟩⟩
  ihave Hw := (point_run m c t d7 d8 d9 d10 d11 e0 e1 e2 e3 e4 e5 e6 e7) $$ [D0 D1 D2 D3 D4 D5 D6 D7 D8 D9 D10 D11 E0 E1 E2 E3 E4 E5 E6 E7]
  · isplitl [D0]
    iexact D0
    isplitl [D1]
    iexact D1
    isplitl [D2]
    iexact D2
    isplitl [D3]
    iexact D3
    isplitl [D4]
    iexact D4
    isplitl [D5]
    iexact D5
    isplitl [D6]
    iexact D6
    isplitl [D7]
    iexact D7
    isplitl [D8]
    iexact D8
    isplitl [D9]
    iexact D9
    isplitl [D10]
    iexact D10
    isplitl [D11]
    iexact D11
    isplitl [E0]
    iexact E0
    isplitl [E1]
    iexact E1
    isplitl [E2]
    iexact E2
    isplitl [E3]
    iexact E3
    isplitl [E4]
    iexact E4
    isplitl [E5]
    iexact E5
    isplitl [E6]
    iexact E6
    iexact E7
  iapply (wp_wand_r Idealize.ShloMosaic.frame (wpE (defs₀ (F := F)) Variants.none (c : Thread nD τ) none) Set.univ)
  isplitl [Hw]
  · iexact Hw
  iintro %_ ⟨A0, A1, A2, A3, A4, A5, A6, A7, A8, A9, A10, A11, A12, A13, A14, A15, A16, A17, A18, A19⟩
  isplitl [A12 A13 A14 A15 A16 A17 A18 A19 Hg]
  · isplitr [Hg]
    · isplitl [A12]
      · iexact A12
      isplitl [A13]
      · iexact A13
      isplitl [A14]
      · iexact A14
      isplitl [A15]
      · iexact A15
      isplitl [A16]
      · iexact A16
      isplitl [A17]
      · iexact A17
      isplitl [A18]
      · iexact A18
      iexact A19
    · iexact Hg
  isplitl [HO]
  · iexact HO
  isplitl [A0]
  · iexact A0
  isplitl [A1]
  · iexact A1
  isplitl [A2]
  · iexact A2
  isplitl [A3]
  · iexact A3
  isplitl [A4]
  · iexact A4
  isplitl [A5]
  · iexact A5
  isplitl [A6]
  · iexact A6
  isplitl [A7]
  · iexact A7
  isplitl [A8]
  · iexact A8
  isplitl [A9]
  · iexact A9
  isplitl [A10]
  · iexact A10
  iexact A11

/-- The configuration's procedure body at point `t` is the kernel's function on the point's buffers. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The launch -/

-- the launch theorem's implicit arguments are found only when unification may unfold definitions in their types
set_option backward.isDefEq.respectTransparency.types false in
/-- Every run of @main ends with each window's array at its proof data's final contents, every other buffer as at the region's entry,
    and every counter zero. -/
theorem run_main : θ_run defs (onTc (τ := τ) (main (F := F))) (s₀ m ρ)
    (fun r => Pipeline.FramePost cfgs (dats m) 0 (V m) r ∧ r.2.sem = fun _ => 0) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl) (Q' := _) (hQ' := fun _ h => h)

/-- What the launch leaves keeps the arguments. -/
theorem args_kept (c : Dev nD) (r) (h : Pipeline.FramePost cfgs (dats m) 0 (V m) r ∧ r.2.sem = fun _ => 0) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  ⟨((h.1 c).1 0).trans (((dats m 0 c).arrAt_in 0 rfl _).trans ((A_eq m c 0).trans (V_main_arg0 m c))),
    ((h.1 c).2 main_arg1 (Pipeline.mem_restRefs_of main_arg1 (by decide) (by decide))).trans (V_main_arg1 m c),
    ((h.1 c).1 6).trans (((dats m 0 c).arrAt_in 6 rfl _).trans ((A_eq m c 6).trans (V_main_arg2 m c)))⟩

/-- The frame: the arguments end as they began, with every counter zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun r h => ⟨fun c => args_kept m c r h, h.2⟩) (run_main m ρ)

end Cert.KernelIdeal.Hand

end
-- ==== Proof.Math.lean ====
/- The gradient of one head of causal attention with a decay per key, over the real numbers: the plain formulas, the
   two ways of writing the probabilities, and reading sums and maxima of extended reals as real numbers. -/
module

public import Idealize.ShloMosaic.Lib.Pointwise

@[expose] public section

noncomputable section

namespace Cert.Fox

open Idealize.ShloMosaic Finset

/-! ## Extended reals that are real -/

theorem ofBits_eighth : Ideal.ofBits .f32 0x3E000000#32 = ((1 / 8 : ℝ) : EReal) := by
  simp [Ideal.ofBits, Ideal.ieee, -EReal.coe_mul]; norm_num
theorem ofBits_bot : Ideal.ofBits .f32 0xFF800000#32 = ⊥ := by
  simp [Ideal.ofBits, Ideal.ieee]
theorem ofBits_top : Ideal.ofBits .f32 0x7F800000#32 = ⊤ := by
  simp [Ideal.ofBits, Ideal.ieee]

theorem coe_sum_fin {n : ℕ} (r : Fin n → ℝ) : (∑ k, ((r k : ℝ) : EReal)) = ((∑ k, r k : ℝ) : EReal) := by
  induction n with
  | zero => simp
  | succ n ih => rw [Fin.sum_univ_castSucc, Fin.sum_univ_castSucc, ih, EReal.coe_add]

theorem coe_congr {a b : ℝ} (h : a = b) : ((a : ℝ) : EReal) = ((b : ℝ) : EReal) := by rw [h]

/-- A sum of extended reals whose terms are the real numbers `r k`. -/
theorem sum_real {n : ℕ} {F : Fin n → EReal} (r : ℕ → ℝ) (h : ∀ k : Fin n, F k = (r k : ℝ)) :
    ∑ k, F k = ((∑ k ∈ range n, r k : ℝ) : EReal) := by
  rw [Finset.sum_congr rfl fun k _ => h k, coe_sum_fin fun k : Fin n => r k, Fin.sum_univ_eq_sum_range]

/-- A maximum over terms none of which is `⊤`, one of them real, is a real number. -/
theorem fold_max_real {n : ℕ} (F : Fin n → EReal) (ht : ∀ k, F k ≠ ⊤) (k0 : Fin n) (hb : F k0 ≠ ⊥) :
    ∃ m : ℝ, (Finset.univ : Finset (Fin n)).fold max ⊥ F = (m : EReal) := by
  have h1 : (Finset.univ : Finset (Fin n)).fold max ⊥ F ≠ ⊤ := by
    have : ∀ s : Finset (Fin n), s.fold max ⊥ F ≠ ⊤ := by
      intro s
      induction s using Finset.induction_on with
      | empty => simp
      | insert a s ha ih =>
        rw [Finset.fold_insert ha]
        rcases max_choice (F a) (s.fold max ⊥ F) with h | h <;> rw [h]
        exacts [ht a, ih]
    exact this _
  have h2 : (Finset.univ : Finset (Fin n)).fold max ⊥ F ≠ ⊥ := by
    intro h
    have : F k0 ≤ (Finset.univ : Finset (Fin n)).fold max ⊥ F :=
      (Finset.le_fold_max _).2 (Or.inr ⟨k0, Finset.mem_univ _, le_rfl⟩)
    rw [h, le_bot_iff] at this
    exact hb this
  exact ⟨_, (EReal.coe_toReal h1 h2).symm⟩

/-- The same for a fold by any operation that is the maximum, from any start that is `⊥`. -/
theorem fold_op_real {n : ℕ} (op : EReal → EReal → EReal) [Std.Commutative op] [Std.Associative op] (hop : ∀ a b, op a b = max a b) (b0 : EReal) (hb0 : b0 = ⊥)
    (F : Fin n → EReal) (ht : ∀ k, F k ≠ ⊤) (k0 : Fin n) (hb : F k0 ≠ ⊥) :
    ∃ m : ℝ, (Finset.univ : Finset (Fin n)).fold op b0 F = (m : EReal) := by
  have h : op = max := by funext a b; exact hop a b
  subst h hb0
  exact fold_max_real F ht k0 hb

theorem exp_coe (x : ℝ) : Ideal.exp (x : EReal) = ((Real.exp x : ℝ) : EReal) := rfl
theorem exp_bot : Ideal.exp ⊥ = ((0 : ℝ) : EReal) := rfl
theorem log_coe {x : ℝ} (h : 0 < x) : Ideal.log (x : EReal) = ((Real.log x : ℝ) : EReal) := if_neg (not_le.2 h)
theorem div_coe (x : ℝ) {y : ℝ} (h : y ≠ 0) : Ideal.div (x : EReal) (y : EReal) = ((x / y : ℝ) : EReal) := by
  unfold Ideal.div
  rw [if_neg (by exact_mod_cast h), ← EReal.coe_inv, ← EReal.coe_mul, div_eq_mul_inv]
theorem bot_sub_coe (x : ℝ) : (⊥ : EReal) - (x : EReal) = ⊥ := by
  rw [sub_eq_add_neg]; exact EReal.bot_add _

/-! ## One head -/

/-- A head's queries, keys, values, the gradient of its output, and the decay of each key; rows and columns by number. -/
structure Head where
  q : ℕ → ℕ → ℝ
  k : ℕ → ℕ → ℝ
  v : ℕ → ℕ → ℝ
  g : ℕ → ℕ → ℝ
  f : ℕ → ℝ

namespace Head

variable (H : Head)

/-- The logit of query `i` and key `j`, without the query's own decay. -/
def sc (i j : ℕ) : ℝ := (∑ d ∈ range 64, H.q i d * H.k j d) * (1 / 8) - H.f j
/-- The weight of key `j`, zero after the query. -/
def W (i j : ℕ) : ℝ := if j ≤ i then Real.exp (H.sc i j) else 0
def L (i : ℕ) : ℝ := ∑ j ∈ range 8192, H.W i j
/-- The probability. -/
def P (i j : ℕ) : ℝ := H.W i j / H.L i
def dP (i j : ℕ) : ℝ := ∑ d ∈ range 64, H.g i d * H.v j d
def o (i d : ℕ) : ℝ := ∑ j ∈ range 8192, H.P i j * H.v j d
def D (i : ℕ) : ℝ := ∑ d ∈ range 64, H.g i d * H.o i d
/-- The gradient of the logit. -/
def dS (i j : ℕ) : ℝ := H.P i j * (H.dP i j - H.D i)
def dq (i d : ℕ) : ℝ := (∑ j ∈ range 8192, H.dS i j * H.k j d) * (1 / 8)
def dk (j d : ℕ) : ℝ := ∑ i ∈ range 8192, H.dS i j * (H.q i d * (1 / 8))
def dv (j d : ℕ) : ℝ := ∑ i ∈ range 8192, H.P i j * H.g i d
def qs (i : ℕ) : ℝ := ∑ j ∈ range 8192, H.dS i j

theorem o_def (i d : ℕ) : H.o i d = ∑ j ∈ range 8192, H.P i j * H.v j d := by unfold o; rfl
theorem dq_def (i d : ℕ) : H.dq i d = (∑ j ∈ range 8192, H.dS i j * H.k j d) * (1 / 8) := by unfold dq; rfl
theorem dk_def (j d : ℕ) : H.dk j d = ∑ i ∈ range 8192, H.dS i j * (H.q i d * (1 / 8)) := by unfold dk; rfl
theorem dv_def (j d : ℕ) : H.dv j d = ∑ i ∈ range 8192, H.P i j * H.g i d := by unfold dv; rfl
theorem qs_def (i : ℕ) : H.qs i = ∑ j ∈ range 8192, H.dS i j := by unfold qs; rfl

theorem W_nonneg (i j : ℕ) : 0 ≤ H.W i j := by
  unfold W; split
  · exact (Real.exp_pos _).le
  · exact le_rfl

theorem L_pos {i : ℕ} (h : i < 8192) : 0 < H.L i :=
  Finset.sum_pos' (fun j _ => H.W_nonneg i j) ⟨i, mem_range.2 h, by unfold W; rw [if_pos le_rfl]; exact Real.exp_pos _⟩

theorem D_eq (i : ℕ) : H.D i = ∑ j ∈ range 8192, H.P i j * H.dP i j := by
  unfold D o dP
  simp only [Finset.mul_sum]
  rw [Finset.sum_comm]
  exact Finset.sum_congr rfl fun j _ => Finset.sum_congr rfl fun d _ => by ring

theorem dS_after {i j : ℕ} (h : i < j) : H.dS i j = 0 := by
  unfold dS P W; rw [if_neg (by omega)]; simp
theorem P_after {i j : ℕ} (h : i < j) : H.P i j = 0 := by
  unfold P W; rw [if_neg (by omega)]; simp

/-- The weight shifted by a number of the row. -/
def e (x : ℝ) (i j : ℕ) : ℝ := if j ≤ i then Real.exp (H.sc i j + x) else 0

theorem e_eq (x : ℝ) (i j : ℕ) : H.e x i j = H.W i j * Real.exp x := by
  unfold e W; split
  · rw [Real.exp_add]
  · simp

theorem sum_e (x : ℝ) (i : ℕ) : ∑ j ∈ range 8192, H.e x i j = H.L i * Real.exp x := by
  unfold L; rw [Finset.sum_mul]; exact Finset.sum_congr rfl fun j _ => H.e_eq x i j

theorem sum_e_pos (x : ℝ) {i : ℕ} (h : i < 8192) : 0 < ∑ j ∈ range 8192, H.e x i j := by
  rw [sum_e]; exact mul_pos (H.L_pos h) (Real.exp_pos x)

theorem e_div (x : ℝ) (i j : ℕ) : H.e x i j / (∑ j ∈ range 8192, H.e x i j) = H.P i j := by
  rw [e_eq, sum_e]; unfold P; exact mul_div_mul_right _ _ (Real.exp_pos x).ne'

/-- The row's log of the sum of weights, from the shifted weights. -/
theorem lse_eq (m : ℝ) {i : ℕ} (h : i < 8192) : m + Real.log (∑ j ∈ range 8192, H.e (-m) i j) = Real.log (H.L i) := by
  rw [sum_e, Real.log_mul (H.L_pos h).ne' (Real.exp_pos _).ne', Real.log_exp]; ring

theorem P_exp {i j : ℕ} (h : i < 8192) : H.P i j = if j ≤ i then Real.exp (H.sc i j - Real.log (H.L i)) else 0 := by
  unfold P W; split
  · rw [Real.exp_sub, Real.exp_log (H.L_pos h)]
  · simp

/-- The gradient of a softmax as its quotient rule states it, over the shifted weights. -/
theorem dS_quot (x : ℝ) {i : ℕ} (h : i < 8192) (j : ℕ) {l : ℝ} (hl : l = ∑ j ∈ range 8192, H.e x i j) :
    (H.dP i j / l + -(∑ j' ∈ range 8192, H.dP i j' * (1 / (l * l)) * H.e x i j')) * H.e x i j = H.dS i j := by
  have hL := (H.L_pos h).ne'
  have hx := (Real.exp_pos x).ne'
  have hs : ∑ j' ∈ range 8192, H.dP i j' * (1 / (l * l)) * H.e x i j' = H.D i / l := by
    rw [D_eq, Finset.sum_div]
    refine Finset.sum_congr rfl fun j' _ => ?_
    rw [e_eq, hl, sum_e]; unfold P; field_simp
  rw [hs, hl, e_eq, sum_e]; unfold dS P; field_simp; ring

end Head

/-- Head `h`'s part of the arguments is the real numbers of `H`. -/
structure Args (x0 : FVec Ideal ⟨3, ![50, 8192, 64]⟩ .bf16) (x1 : FVec Ideal ⟨2, ![8, 8192]⟩ .f32)
    (x2 : FVec Ideal ⟨3, ![8, 8192, 64]⟩ .f32) (h : Fin 8) (H : Head) : Prop where
  q : ∀ (i : Fin 8192) (d : Fin 64), x0 (ix3 ⟨h.val, by omega⟩ i d) = ((H.q i d : ℝ) : EReal)
  k : ∀ (i : Fin 8192) (d : Fin 64), x0 (ix3 ⟨8 + h.val, by omega⟩ i d) = ((H.k i d : ℝ) : EReal)
  v : ∀ (i : Fin 8192) (d : Fin 64), x0 (ix3 ⟨16 + h.val, by omega⟩ i d) = ((H.v i d : ℝ) : EReal)
  f : ∀ i : Fin 8192, x1 (ix2 h i) = ((H.f i : ℝ) : EReal)
  g : ∀ (i : Fin 8192) (d : Fin 64), x2 (ix3 h i d) = ((H.g i d : ℝ) : EReal)

theorem select_ofBool {α : Type} (p : Prop) [Decidable p] (x y : α) : Scalar.select (BitVec.ofBool (decide p)) x y = if p then x else y := by
  by_cases hp : p <;> simp [Scalar.select, hp]

end Cert.Fox

end
-- ==== Proof.HostTerms.lean ====
/- What the attention gradient's region is given: the arrays the host computes before it, as terms of the arguments, read
   at an index over the real numbers. -/
module

public import proofs.«01_k».proof.Proof.Math
public import proofs.«01_k».proof.Proof.Gen.KernelIdeal.Frame
public import Idealize.ShloMosaic.Lib.WordCmp
public import Idealize.ShloMosaic.Lib.StableHlo.RunRead

@[expose] public section

noncomputable section

namespace Cert.KernelIdeal.Hand

open Cert.KernelIdeal Cert.KernelIdeal.Gen Cert.Fox
open Idealize.ShloMosaic Idealize.ShloMosaic.TcCoe

variable (x0 : FVec Ideal S50x8192x64 .bf16) (x1 : FVec Ideal S8x8192 .f32)

def one : FVec Ideal S8x8192x64 .bf16 := broadcastInDim S8x8192x64 ![] bcast_S_S8x8192x64 (constant S_ .bf16 0x3F80#16)
def hq : FVec Ideal S8x8192x64 .bf16 := extractStridedSlice S8x8192x64 ![0, 0, 0] x0 slices_S50x8192x64_S8x8192x64_0_0_0
def hk : FVec Ideal S8x8192x64 .bf16 := extractStridedSlice S8x8192x64 ![8, 0, 0] x0 slices_S50x8192x64_S8x8192x64_8_0_0
def hv : FVec Ideal S8x8192x64 .bf16 := extractStridedSlice S8x8192x64 ![16, 0, 0] x0 slices_S50x8192x64_S8x8192x64_16_0_0
def kOnes : FVec Ideal S8x8192x128 .bf16 := concatenate S8x8192x128 2 [⟨S8x8192x64, hk x0⟩, ⟨S8x8192x64, one⟩] concatenates_S8x8192x64_S8x8192x64_S8x8192x128_d2
def vOnes : FVec Ideal S8x8192x128 .bf16 := concatenate S8x8192x128 2 [⟨S8x8192x64, hv x0⟩, ⟨S8x8192x64, one⟩] concatenates_S8x8192x64_S8x8192x64_S8x8192x128_d2
def fRow : FVec Ideal S8x16x1x512 .f32 := shapeCast S8x16x1x512 x1 shapeCasts_S8x8192_S8x16x1x512
def msk : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
def lg : FVec Ideal S8x8192x8192 .f32 :=
  select msk (subf (mulf (Host.dotGeneral dot_S8x8192x64_S8x8192x64_S8x8192x8192_2_2_1_1_0_0 none (extf .f32 (hq x0) bitsLt_bf16_f32) (extf .f32 (hk x0) bitsLt_bf16_f32)) (broadcastInDim S8x8192x8192 ![] bcast_S_S8x8192x8192 (constant S_ .f32 0x3E000000#32))) (broadcastInDim S8x8192x8192 ![0, 1, 2] bcast_S8x1x8192_S8x8192x8192_0_1_2 (broadcastInDim S8x1x8192 ![0, 2] bcast_S8x8192_S8x1x8192_0_2 x1))) (broadcastInDim S8x8192x8192 ![] bcast_S_S8x8192x8192 (id (constant S_ .f32 0xFF800000#32)))
def mx : FVec Ideal S8x8192 .f32 := Host.reduce FloatOps.maximumf (lg x0 x1) (constant S_ .f32 0xFF800000#32) reducesTo_S8x8192x8192_S8x8192_d2 h_S_
def mx3 : FVec Ideal S8x8192x1 .f32 := broadcastInDim S8x8192x1 ![0, 1] bcast_S8x8192_S8x8192x1_0_1 (mx x0 x1)
def ex : FVec Ideal S8x8192x8192 .f32 := Host.exp (subf (lg x0 x1) (broadcastInDim S8x8192x8192 ![0, 1, 2] bcast_S8x8192x1_S8x8192x8192_0_1_2 (mx3 x0 x1)))
def sm : FVec Ideal S8x8192 .f32 := Host.reduceAdd (ex x0 x1) (constant S_ .f32 0x00000000#32) reducesTo_S8x8192x8192_S8x8192_d2 h_S_
def sm3 : FVec Ideal S8x8192x1 .f32 := broadcastInDim S8x8192x1 ![0, 1] bcast_S8x8192_S8x8192x1_0_1 (sm x0 x1)
def lse : FVec Ideal S8x8192x1 .f32 := addf (mx3 x0 x1) (Host.log (sm3 x0 x1))
def pr : FVec Ideal S8x8192x8192 .f32 := Host.divf (ex x0 x1) (broadcastInDim S8x8192x8192 ![0, 1, 2] bcast_S8x8192x1_S8x8192x8192_0_1_2 (sm3 x0 x1))
def oo : FVec Ideal S8x8192x64 .f32 := Host.dotGeneral dot_S8x8192x8192_S8x8192x64_S8x8192x64_2_1_1_2_0_0 none (pr x0 x1) (extf .f32 (hv x0) bitsLt_bf16_f32)

section
open Idealize.ShloMosaic.StableHlo
variable (m : (ℓ : Loc nD τ sig) → Buf (Elt Ideal) ℓ) (c : Dev nD)
theorem V_v6 : V m c main_v6 = kOnes (m ((c.tc : Thread nD τ).loc main_arg0)) := by
  unfold V; simp only [hostOps0, hostOps0_1, hostOps0_2, List.flatten_cons, List.flatten_nil, List.append_nil, List.cons_append, List.nil_append]; after_reads_simp; rfl
theorem V_v3 : V m c main_v3 = vOnes (m ((c.tc : Thread nD τ).loc main_arg0)) := by
  unfold V; simp only [hostOps0, hostOps0_1, hostOps0_2, List.flatten_cons, List.flatten_nil, List.append_nil, List.cons_append, List.nil_append]; after_reads_simp; rfl
theorem V_v1 : V m c main_v1 = fRow (m ((c.tc : Thread nD τ).loc main_arg1)) := by
  unfold V; simp only [hostOps0, hostOps0_1, hostOps0_2, List.flatten_cons, List.flatten_nil, List.append_nil, List.cons_append, List.nil_append]; after_reads_simp; rfl
theorem V_v33 : V m c main_v33 = lse (m ((c.tc : Thread nD τ).loc main_arg0)) (m ((c.tc : Thread nD τ).loc main_arg1)) := by
  unfold V; simp only [hostOps0, hostOps0_1, hostOps0_2, List.flatten_cons, List.flatten_nil, List.append_nil, List.cons_append, List.nil_append]; after_reads_simp; rfl
theorem V_v36 : V m c main_v36 = oo (m ((c.tc : Thread nD τ).loc main_arg0)) (m ((c.tc : Thread nD τ).loc main_arg1)) := by
  unfold V; simp only [hostOps0, hostOps0_1, hostOps0_2, List.flatten_cons, List.flatten_nil, List.append_nil, List.cons_append, List.nil_append]; after_reads_simp; rfl
end

end Cert.KernelIdeal.Hand

end
-- ==== Proof.HostI.lean ====
/- What the attention gradient's region is given, read at an index over the real numbers. -/
module

public import proofs.«01_k».proof.Proof.HostTerms

@[expose] public section

noncomputable section

namespace Cert.KernelIdeal.Hand

open Cert.KernelIdeal Cert.KernelIdeal.Gen Cert.Fox
open Idealize.ShloMosaic Idealize.ShloMosaic.TcCoe

/-- The maximum of a row that has no `⊤` and a number on its diagonal is a real number. -/
theorem reduce_real (h : Fin 8) (i : Fin 8192) (y : FVec Ideal S8x8192x8192 .f32) (ht : ∀ k, y (ix3 h i k) ≠ ⊤) (hb : y (ix3 h i i) ≠ ⊥) :
    ∃ m : ℝ, Host.reduce FloatOps.maximumf y (constant S_ .f32 0xFF800000#32) reducesTo_S8x8192x8192_S8x8192_d2 h_S_ (ix2 h i) = (m : EReal) := by
  rw [Host.reduce_eq_fold, Shape.ReducesTo.fold_fiber_r3_a2]
  exact fold_op_real (fun a b : EReal => FloatOps.maximumf (F := Ideal) (φ := .f32) a b) (fun _ _ => rfl) _ ofBits_bot _ ht i hb

theorem msk_apply (h : Fin 8) (i j : Fin 8192) : msk (ix3 h i j) = BitVec.ofBool (decide (j.val ≤ i.val)) := by
  pointwise [msk]
  exact WordCmp.cmpi_sle_ofNat (by have := j.isLt; omega) (by have := i.isLt; omega)

variable {x0 : FVec Ideal S50x8192x64 .bf16} {x1 : FVec Ideal S8x8192 .f32} {x2 : FVec Ideal S8x8192x64 .f32}
variable {h : Fin 8} {H : Head} (A : Args x0 x1 x2 h H)
include A

theorem hq_apply (i : Fin 8192) (d : Fin 64) : hq x0 (ix3 h i d) = ((H.q i d : ℝ) : EReal) := by
  pointwise [hq]
  simpa using A.q i d
theorem hk_apply (i : Fin 8192) (d : Fin 64) : hk x0 (ix3 h i d) = ((H.k i d : ℝ) : EReal) := by
  pointwise [hk]
  simpa using A.k i d
theorem hv_apply (i : Fin 8192) (d : Fin 64) : hv x0 (ix3 h i d) = ((H.v i d : ℝ) : EReal) := by
  pointwise [hv]
  simpa using A.v i d
theorem kOnes_apply (j : Fin 8192) (d : Fin 128) : kOnes x0 (ix3 h j d) = ((if d.val < 64 then H.k j d else 1 : ℝ) : EReal) := by
  pointwise [kOnes, one]
  split
  · exact hk_apply A j ⟨d, by assumption⟩
  · rfl
theorem vOnes_apply (j : Fin 8192) (d : Fin 128) : vOnes x0 (ix3 h j d) = ((if d.val < 64 then H.v j d else 1 : ℝ) : EReal) := by
  pointwise [vOnes, one]
  split
  · exact hv_apply A j ⟨d, by assumption⟩
  · rfl
theorem fRow_apply (b : Fin 16) (c : Fin 512) : fRow x1 (ix4 h b 0 c) = ((H.f (512 * b.val + c.val) : ℝ) : EReal) := by
  pointwise [fRow]
  rw [A.f]
  refine coe_congr (congrArg _ ?_)
  show b.val * 512 + c.val = _
  omega

theorem lg_apply (i j : Fin 8192) : lg x0 x1 (ix3 h i j) = if j.val ≤ i.val then ((H.sc i j : ℝ) : EReal) else ⊥ := by
  pointwise [lg]
  rw [msk_apply, select_ofBool]
  split
  · rw [sum_real (fun d => H.q i d * H.k j d) fun d => by rw [hq_apply A, hk_apply A, EReal.coe_mul], ofBits_eighth, A.f,
      ← EReal.coe_mul, ← EReal.coe_sub]
    rfl
  · exact ofBits_bot

theorem mx_real (i : Fin 8192) : ∃ m : ℝ, mx x0 x1 (ix2 h i) = (m : EReal) := by
  unfold mx
  exact reduce_real h i (lg x0 x1) (fun k => by rw [lg_apply A]; split; exacts [EReal.coe_ne_top _, bot_ne_top])
    (by rw [lg_apply A, if_pos le_rfl]; exact EReal.coe_ne_bot _)

theorem row (i : Fin 8192) : ∃ m : ℝ, mx3 x0 x1 (ix3 h i 0) = (m : EReal) ∧ ∀ j : Fin 8192, ex x0 x1 (ix3 h i j) = ((H.e (-m) i j : ℝ) : EReal) := by
  obtain ⟨m, hm⟩ := mx_real A i
  have h3 : mx3 x0 x1 (ix3 h i 0) = (m : EReal) := by
    pointwise [mx3]
    exact hm
  refine ⟨m, h3, fun j => ?_⟩
  pointwise [ex]
  rw [h3, lg_apply A]
  unfold Head.e
  split
  · rw [← EReal.coe_sub, exp_coe]; refine coe_congr (congrArg _ ?_); ring
  · rw [bot_sub_coe, exp_bot]

omit A
theorem sm3_apply {i : Fin 8192} {x : ℝ} (hx : ∀ j : Fin 8192, ex x0 x1 (ix3 h i j) = ((H.e x i j : ℝ) : EReal)) :
    sm3 x0 x1 (ix3 h i 0) = ((∑ j ∈ Finset.range 8192, H.e x i j : ℝ) : EReal) := by
  pointwise [sm3, sm]
  exact sum_real (fun j => H.e x i j) hx
theorem log_ideal (x : EReal) : (FloatOps.hostUnary (F := Ideal) (φ := .f32) .log x : EReal) = Ideal.log x := rfl
include A

theorem lse_apply (i : Fin 8192) : lse x0 x1 (ix3 h i 0) = ((Real.log (H.L i) : ℝ) : EReal) := by
  obtain ⟨m, hm, hx⟩ := row A i
  have hl : Ideal.log (sm3 x0 x1 (ix3 h i 0)) = ((Real.log (∑ j ∈ Finset.range 8192, H.e (-m) i j) : ℝ) : EReal) := by
    rw [sm3_apply hx, log_coe (H.sum_e_pos (-m) i.isLt)]
  have he := H.lse_eq m i.isLt
  generalize Real.log (∑ j ∈ Finset.range 8192, H.e (-m) i j) = y at hl he
  rw [← he, EReal.coe_add, ← hm, ← hl]
  unfold lse
  rw [addf_apply]
  exact congrArg (fun z : EReal => mx3 x0 x1 (ix3 h i 0) + z) (log_ideal _)
theorem pr_apply (i j : Fin 8192) : pr x0 x1 (ix3 h i j) = ((H.P i j : ℝ) : EReal) := by
  obtain ⟨m, hm, hx⟩ := row A i
  pointwise [pr]
  rw [sm3_apply hx, hx, div_coe _ (H.sum_e_pos _ i.isLt).ne', H.e_div]
theorem oo_apply (i : Fin 8192) (d : Fin 64) : oo x0 x1 (ix3 h i d) = ((H.o i d : ℝ) : EReal) := by
  pointwise [oo]
  rw [sum_real (fun j => H.P i j * H.v j d) fun j => by rw [pr_apply A, hv_apply A, EReal.coe_mul], H.o_def]

end Cert.KernelIdeal.Hand

end
-- ==== Proof.BlockI.lean ====
/- One key block of the attention gradient, read at an index over the real numbers. -/
module

public import proofs.«01_k».proof.Proof.StateI
public import proofs.«01_k».proof.Proof.Math
public import Idealize.ShloMosaic.Lib.Pointwise
public import Idealize.ShloMosaic.Lib.WordCmp
public import Idealize.ShloMosaic.Lib.VecWindow

@[expose] public section

noncomputable section

namespace Cert.KernelIdeal.Hand

open Cert.KernelIdeal Cert.KernelIdeal.Gen Cert.Fox
open Idealize.ShloMosaic Idealize.ShloMosaic.TcCoe

/-! ## Windows -/

theorem kwin_apply (x : Vec Ideal S1x8192x128 .bf16) (j : Fin 16) (c : Fin 512) (d : Fin 128) :
    kwin x j (ix3 0 c d) = x (ix3 0 ⟨512 * j.val + c.val, by omega⟩ d) := by
  unfold kwin
  rw [VecWindow.window_eq_ld]
  pointwise []
theorem dwin_apply (x : Vec Ideal S1x8192x64 .f32) (j : Fin 16) (c : Fin 512) (d : Fin 64) :
    dwin x j (ix3 0 c d) = x (ix3 0 ⟨512 * j.val + c.val, by omega⟩ d) := by
  unfold dwin
  rw [VecWindow.window_eq_ld]
  pointwise []
theorem fwin_apply (x : Vec Ideal S1x16x1x512 .f32) (j : Fin 16) (c : Fin 512) :
    fwin x j (ix4 0 0 0 c) = x (ix4 0 j 0 c) := by
  unfold fwin
  rw [VecWindow.window_eq_ld]
  pointwise []
theorem put_apply (x : Vec Ideal S1x8192x64 .f32) (j : Fin 16) (w : Vec Ideal S1x512x64 .f32) (i : Fin 8192) (d : Fin 64) :
    (VecWindow.put x ![0, 512 * j.val, 0] S1x512x64.size w : Vec Ideal S1x8192x64 .f32) (ix3 0 i d)
      = if h : 512 * j.val ≤ i.val ∧ i.val < 512 * j.val + 512 then w (ix3 0 ⟨i.val - 512 * j.val, by omega⟩ d) else x (ix3 0 i d) := by
  rw [VecWindow.put_eq_updateSlice x _ _ (inbD j)]
  pointwise []
theorem halves_apply (a b : Vec Ideal S512x64 .bf16) (r : Fin 512) (d : Fin 128) :
    halves a b (ix2 r d) = if h : d.val < 64 then a (ix2 r ⟨d.val, h⟩) else b (ix2 r ⟨d.val - 64, by omega⟩) := by
  unfold halves
  have i0 : ∀ c, (![0, 0] : Fin 2 → ℕ) c + S512x64.size c ≤ S512x128.size c := by decide
  have i1 : ∀ c, (![0, 64] : Fin 2 → ℕ) c + S512x64.size c ≤ S512x128.size c := by decide
  rw [VecWindow.put_eq_updateSlice (s := S512x128) _ ![0, 0] S512x64.size i0, VecWindow.put_eq_updateSlice (s := S512x128) _ ![0, 64] S512x64.size i1]
  pointwise []
  by_cases h : d.val < 64
  · rw [dif_neg (by omega), dif_pos h, dif_pos h]
  · rw [dif_pos (by omega), dif_neg h]

/-! ## Payloads -/

theorem lane_eq (d : Fin 64) (k : Fin 3) :
    IntOp.cmpi .eq (BitVec.ofNat 32 d.val) (BitVec.ofNat 32 k.val) = BitVec.ofBool (decide (d.val = k.val)) := by
  revert d k; decide +kernel
theorem ahead_eq (d : BitVec 32) (r c : Fin 512) :
    IntOp.cmpi .sle (IntOp.subi (BitVec.ofNat 32 c.val) (BitVec.ofNat 32 r.val)) d = BitVec.ofBool (decide ((c.val : ℤ) - r.val ≤ d.toInt)) := by
  have h : (IntOp.subi (BitVec.ofNat 32 c.val) (BitVec.ofNat 32 r.val) : BitVec 32).toInt = (c.val : ℤ) - r.val := by
    show (BitVec.ofNat 32 c.val - BitVec.ofNat 32 r.val).toInt = _
    rw [BitVec.toInt_sub, BitVec.toInt_ofNat', BitVec.toInt_ofNat', Int.bmod_def, Int.bmod_def, Int.bmod_def]
    have := c.isLt; have := r.isLt
    norm_num
    omega
  rw [WordCmp.cmpi_sle_eq, h]
theorem mask_bot : (Named.named κ "mask" 0xF149F2CA#32 : Ideal .f32) = (⊥ : EReal) := rfl
/-- The lanes of ones: the number, what its first part leaves, what the second leaves. -/
theorem lanes (d : Fin 64) (x : ℝ) :
    Scalar.select (IntOp.cmpi .eq (BitVec.ofNat 32 d.val) 0#32) (0 - (x : EReal))
      (Scalar.select (IntOp.cmpi .eq (BitVec.ofNat 32 d.val) 1#32) (0 - ((x : EReal) - x))
        (Scalar.select (IntOp.cmpi .eq (BitVec.ofNat 32 d.val) 2#32) (0 - ((x : EReal) - x - ((x : EReal) - x))) 0))
      = ((if d.val = 0 then -x else 0 : ℝ) : EReal) := by
  have h0 := lane_eq d 0
  have h1 := lane_eq d 1
  have h2 := lane_eq d 2
  have e : (x : EReal) - x = 0 := by rw [← EReal.coe_sub, sub_self, EReal.coe_zero]
  change IntOp.cmpi .eq _ 0#32 = _ at h0
  change IntOp.cmpi .eq _ 1#32 = _ at h1
  change IntOp.cmpi .eq _ 2#32 = _ at h2
  rw [h0, h1, h2, select_ofBool, select_ofBool, select_ofBool, e]
  change (if d.val = 0 then _ else _) = _
  by_cases hd : d.val = 0
  · rw [if_pos hd, if_pos hd, EReal.coe_neg, sub_eq_add_neg, zero_add]
  · rw [if_neg hd, if_neg hd]
    simp

theorem prod_apply (x : Vec Ideal S512x128 .bf16) (w : Vec Ideal S1x512x128 .bf16) (r c : Fin 512) :
    prod x w (ix2 r c) = ∑ d : Fin 128, x (ix2 r d) * w (ix3 0 c d) := by
  pointwise [prod, k0_pay1]
theorem prob_apply (z : Vec Ideal S512x512 .f32) (fr : Vec Ideal S1x1x1x512 .f32) (r c : Fin 512) :
    prob z fr (ix2 r c) = Ideal.exp (z (ix2 r c) - fr (ix4 0 0 0 c)) := by
  pointwise [prob, k0_pay3]
theorem probMask_apply (d : BitVec 32) (z : Vec Ideal S512x512 .f32) (fr : Vec Ideal S1x1x1x512 .f32) (r c : Fin 512) :
    probMask d z fr (ix2 r c) = if ((c.val : ℤ) - r.val ≤ d.toInt) then Ideal.exp (z (ix2 r c) - fr (ix4 0 0 0 c)) else 0 := by
  pointwise [probMask, k0_pay82, k0_pay55, k0_pay80]
  rw [ahead_eq, select_ofBool, mask_bot]
  split
  · rfl
  · exact exp_bot
theorem dqU_apply (ds : FVec Ideal S512x512 .f32) (dq : Vec Ideal S512x64 .f32) (w : Vec Ideal S1x512x128 .bf16) (r : Fin 512) (d : Fin 64) :
    dqU ds dq w (ix2 r d) = dq (ix2 r d) + ∑ c : Fin 512, ds (ix2 r c) * w (ix3 0 c ⟨d.val, by omega⟩) := by
  pointwise [dqU]
theorem dkU_apply (y : FVec Ideal S512x64 .bf16) (x : FVec Ideal S512x512 .f32) (w : Vec Ideal S1x512x64 .f32) (c : Fin 512) (d : Fin 64) :
    dkU y x w (ix3 0 c d) = w (ix3 0 c d) + ∑ r : Fin 512, x (ix2 r c) * y (ix2 r d) := by
  pointwise [dkU, k0_pay60]
theorem qsU_apply (ds : FVec Ideal S512x512 .f32) (qs : Vec Ideal S512x1 .f32) (r : Fin 512) :
    k0_pay62 ds qs (ix2 r 0) = qs (ix2 r 0) + ∑ c : Fin 512, ds (ix2 r c) := by
  pointwise [k0_pay62]
theorem pay90_apply (x : Vec Ideal S512x64 .f32) (r : Fin 512) (d : Fin 64) :
    k0_pay90 x (ix3 0 r d) = x (ix2 r d) * ((1 / 8 : ℝ) : EReal) := by
  pointwise [k0_pay90]
  rw [ofBits_eighth]
theorem pay91_apply (x : Vec Ideal S512x1 .f32) (r : Fin 512) : k0_pay91 x (ix3 0 r 0) = x (ix2 r 0) := by
  pointwise [k0_pay91]
theorem pay40_apply (q : Vec Ideal S1x512x64 .bf16) (r : Fin 512) (d : Fin 64) :
    k0_pay40 q (ix2 r d) = q (ix3 0 r d) * ((1 / 8 : ℝ) : EReal) := by
  pointwise [k0_pay40]
  rw [ofBits_eighth]
theorem pay42_apply (g : Vec Ideal S1x512x64 .f32) (r : Fin 512) (d : Fin 64) : k0_pay42 g (ix2 r d) = g (ix3 0 r d) := by
  pointwise [k0_pay42]
theorem pay43_apply (g o : Vec Ideal S1x512x64 .f32) (r : Fin 512) :
    k0_pay43 g o (ix2 r 0) = ∑ d : Fin 64, g (ix3 0 r d) * o (ix3 0 r d) := by
  pointwise [k0_pay43, k0_pay42]
theorem pay44_apply (r : Fin 512) (d : Fin 64) : (k0_pay44 (F := Ideal)) (ix2 r d) = 0 := by
  pointwise [k0_pay44]
theorem pay45_apply (r : Fin 512) : (k0_pay45 (F := Ideal)) (ix2 r 0) = 0 := by
  pointwise [k0_pay45]
theorem pay37_apply (i : Fin 8192) (d : Fin 64) : (k0_pay37 (F := Ideal)) (ix3 0 i d) = 0 := by
  pointwise [k0_pay37]
theorem pay38_apply (i : Fin 8192) (d : Fin 64) : (k0_pay38 (F := Ideal)) (ix3 0 i d) = 0 := by
  pointwise [k0_pay38]
theorem pay49_apply (g o : Vec Ideal S1x512x64 .f32) (r : Fin 512) (d : Fin 64) (x : ℝ) (hx : k0_pay43 g o (ix2 r 0) = (x : EReal)) :
    k0_pay49 (k0_pay43 g o) (k0_pay46 g o) (k0_pay47 g o) (ix2 r d) = ((if d.val = 0 then -x else 0 : ℝ) : EReal) := by
  pointwise [k0_pay49, k0_pay46, k0_pay47]
  rw [hx]
  exact lanes d x
theorem pay54_apply (l : Vec Ideal S1x512x1 .f32) (r : Fin 512) (d : Fin 64) (x : ℝ) (hx : l (ix3 0 r 0) = (x : EReal)) :
    k0_pay54 (iota .tc S512x64 32 [1] iota_S512x64_d1_w32) (k0_pay50 (k0_pay41 l)) (k0_pay51 (k0_pay41 l)) (k0_pay52 (k0_pay41 l)) (ix2 r d)
      = ((if d.val = 0 then -x else 0 : ℝ) : EReal) := by
  pointwise [k0_pay54, k0_pay50, k0_pay51, k0_pay52, k0_pay41]
  rw [hx]
  exact lanes d x

end Cert.KernelIdeal.Hand

end
-- ==== Proof.PointI.lean ====
/- A grid point of the attention gradient over the real numbers: the tile of one key block, the buffers after so many key
   blocks, and the buffers the point ends with. Row `r` of query block `i` is row `512 i + r` of the head. -/
module

public import proofs.«01_k».proof.Proof.BlockI

@[expose] public section

noncomputable section

namespace Cert.KernelIdeal.Hand

open Cert.KernelIdeal Cert.KernelIdeal.Gen Cert.Fox
open Idealize.ShloMosaic Idealize.ShloMosaic.TcCoe
open Finset (range)

/-- The buffers a point only reads hold head `H`'s keys, values and decays, and rows of query block `i`. -/
structure EnvOk (E : Env Ideal) (H : Head) (i : ℕ) : Prop where
  kk : ∀ (j : Fin 8192) (d : Fin 128), E.kk (ix3 0 j d) = ((if d.val < 64 then H.k j d else 1 : ℝ) : EReal)
  vv : ∀ (j : Fin 8192) (d : Fin 128), E.vv (ix3 0 j d) = ((if d.val < 64 then H.v j d else 1 : ℝ) : EReal)
  fr : ∀ (b : Fin 16) (c : Fin 512), E.fr (ix4 0 b 0 c) = ((H.f (512 * b.val + c.val) : ℝ) : EReal)
  qa : ∀ (r : Fin 512) (d : Fin 128), E.qa (ix2 r d)
    = ((if d.val < 64 then H.q (512 * i + r.val) d * (1 / 8) else if d.val = 64 then -Real.log (H.L (512 * i + r.val)) else 0 : ℝ) : EReal)
  doa : ∀ (r : Fin 512) (d : Fin 128), E.doa (ix2 r d)
    = ((if d.val < 64 then H.g (512 * i + r.val) d else if d.val = 64 then -H.D (512 * i + r.val) else 0 : ℝ) : EReal)
  q8 : ∀ (r : Fin 512) (d : Fin 64), E.q8 (ix2 r d) = ((H.q (512 * i + r.val) d * (1 / 8) : ℝ) : EReal)
  do8 : ∀ (r : Fin 512) (d : Fin 64), E.do8 (ix2 r d) = ((H.g (512 * i + r.val) d : ℝ) : EReal)

theorem envOk_of {q : Vec Ideal S1x512x64 .bf16} {kk vv : Vec Ideal S1x8192x128 .bf16} {fr : Vec Ideal S1x16x1x512 .f32}
    {o : Vec Ideal S1x512x64 .f32} {lse : Vec Ideal S1x512x1 .f32} {g : Vec Ideal S1x512x64 .f32} {H : Head} {i : ℕ}
    (hq : ∀ (r : Fin 512) (d : Fin 64), q (ix3 0 r d) = ((H.q (512 * i + r.val) d : ℝ) : EReal))
    (hk : ∀ (j : Fin 8192) (d : Fin 128), kk (ix3 0 j d) = ((if d.val < 64 then H.k j d else 1 : ℝ) : EReal))
    (hv : ∀ (j : Fin 8192) (d : Fin 128), vv (ix3 0 j d) = ((if d.val < 64 then H.v j d else 1 : ℝ) : EReal))
    (hf : ∀ (b : Fin 16) (c : Fin 512), fr (ix4 0 b 0 c) = ((H.f (512 * b.val + c.val) : ℝ) : EReal))
    (ho : ∀ (r : Fin 512) (d : Fin 64), o (ix3 0 r d) = ((H.o (512 * i + r.val) d : ℝ) : EReal))
    (hl : ∀ r : Fin 512, lse (ix3 0 r 0) = ((Real.log (H.L (512 * i + r.val)) : ℝ) : EReal))
    (hg : ∀ (r : Fin 512) (d : Fin 64), g (ix3 0 r d) = ((H.g (512 * i + r.val) d : ℝ) : EReal)) :
    EnvOk (envOf q kk vv fr o lse g) H i where
  kk := hk
  vv := hv
  fr := hf
  q8 r d := by
    show k0_pay40 q (ix2 r d) = _
    rw [pay40_apply, hq, ← EReal.coe_mul]
  do8 r d := by
    show k0_pay42 g (ix2 r d) = _
    rw [pay42_apply, hg]
  qa r d := by
    show halves _ _ (ix2 r d) = _
    rw [halves_apply]
    by_cases h : d.val < 64
    · rw [dif_pos h, if_pos h]
      pointwise [k0_pay53]
      rw [pay40_apply, hq, ← EReal.coe_mul]
    · rw [dif_neg h, if_neg h, pay54_apply lse r _ _ (hl r)]
      exact coe_congr (if_congr (by show d.val - 64 = 0 ↔ _; omega) rfl rfl)
  doa r d := by
    show halves _ _ (ix2 r d) = _
    rw [halves_apply]
    by_cases h : d.val < 64
    · rw [dif_pos h, if_pos h]
      pointwise [k0_pay48]
      rw [pay42_apply, hg]
    · have hD : k0_pay43 g o (ix2 r 0) = ((H.D (512 * i + r.val) : ℝ) : EReal) := by
        rw [pay43_apply]
        exact sum_real (fun d => H.g (512 * i + r.val) d * H.o (512 * i + r.val) d) fun d => by rw [hg, ho, EReal.coe_mul]
      rw [dif_neg h, if_neg h, pay49_apply g o r _ _ hD]
      exact coe_congr (if_congr (by show d.val - 64 = 0 ↔ _; omega) rfl rfl)

/-- A row with a number in the first lane past the head against columns of ones there. -/
theorem sum_lanes (a b : ℕ → ℝ) (x : ℝ) :
    ∑ d ∈ range 128, (if d < 64 then a d else if d = 64 then x else 0) * (if d < 64 then b d else 1) = (∑ d ∈ range 64, a d * b d) + x := by
  have h1 : ∑ d ∈ range 64, (if d < 64 then a d else if d = 64 then x else 0) * (if d < 64 then b d else 1) = ∑ d ∈ range 64, a d * b d :=
    Finset.sum_congr rfl fun d hd => by
      have := Finset.mem_range.1 hd
      rw [if_pos this, if_pos this]
  have h2 : ∑ d ∈ range 64, (if 64 + d < 64 then a (64 + d) else if 64 + d = 64 then x else 0) * (if 64 + d < 64 then b (64 + d) else 1) = x := by
    rw [Finset.sum_eq_single 0]
    · simp
    · intro d _ h
      rw [if_neg (by omega), if_neg (by omega), zero_mul]
    · intro h; exact absurd (Finset.mem_range.2 (by omega)) h
  rw [show 128 = 64 + 64 from rfl, Finset.sum_range_add, h1, h2]

section
variable {E : Env Ideal} {H : Head} {i : ℕ} (A : EnvOk E H i) (j : Fin 16) (r c : Fin 512)
include A

theorem z_apply : prod E.qa (kwin E.kk j) (ix2 r c)
    = ((H.sc (512 * i + r.val) (512 * j.val + c.val) + H.f (512 * j.val + c.val) - Real.log (H.L (512 * i + r.val)) : ℝ) : EReal) := by
  rw [prod_apply, sum_real (fun d => (if d < 64 then H.q (512 * i + r.val) d * (1 / 8) else if d = 64 then -Real.log (H.L (512 * i + r.val)) else 0)
    * (if d < 64 then H.k (512 * j.val + c.val) d else 1)) fun d => by rw [A.qa, kwin_apply, A.kk, ← EReal.coe_mul]]
  refine coe_congr ?_
  rw [sum_lanes]
  unfold Head.sc
  rw [Finset.sum_mul, Finset.sum_congr rfl fun d _ => (by ring :
    H.q (512 * i + r.val) d * (1 / 8) * H.k (512 * j.val + c.val) d = H.q (512 * i + r.val) d * H.k (512 * j.val + c.val) d * (1 / 8))]
  ring
theorem p_apply : prod E.doa (kwin E.vv j) (ix2 r c)
    = ((H.dP (512 * i + r.val) (512 * j.val + c.val) - H.D (512 * i + r.val) : ℝ) : EReal) := by
  rw [prod_apply, sum_real (fun d => (if d < 64 then H.g (512 * i + r.val) d else if d = 64 then -H.D (512 * i + r.val) else 0)
    * (if d < 64 then H.v (512 * j.val + c.val) d else 1)) fun d => by rw [A.doa, kwin_apply, A.vv, ← EReal.coe_mul]]
  refine coe_congr ?_
  rw [sum_lanes]
  unfold Head.dP
  ring

/-- The exponential of a product less its decay. -/
theorem exp_apply : Ideal.exp (prod E.qa (kwin E.kk j) (ix2 r c) - fwin E.fr j (ix4 0 0 0 c))
    = ((Real.exp (H.sc (512 * i + r.val) (512 * j.val + c.val) - Real.log (H.L (512 * i + r.val))) : ℝ) : EReal) := by
  rw [z_apply A, fwin_apply, A.fr, ← EReal.coe_sub, exp_coe]
  refine coe_congr (congrArg _ ?_)
  ring

theorem prob_val (hi : i < 16) (hj : j.val < i) :
    prob (prod E.qa (kwin E.kk j)) (fwin E.fr j) (ix2 r c) = ((H.P (512 * i + r.val) (512 * j.val + c.val) : ℝ) : EReal) := by
  rw [prob_apply, exp_apply A, H.P_exp (by omega), if_pos (by omega)]
theorem probMask_val (hi : i < 16) (d : BitVec 32) (hd : d.toInt = 512 * ((i : ℤ) - j.val)) :
    probMask d (prod E.qa (kwin E.kk j)) (fwin E.fr j) (ix2 r c) = ((H.P (512 * i + r.val) (512 * j.val + c.val) : ℝ) : EReal) := by
  rw [probMask_apply, exp_apply A, H.P_exp (by omega), hd]
  by_cases h : 512 * j.val + c.val ≤ 512 * i + r.val
  · rw [if_pos (by omega), if_pos h]
  · rw [if_neg (by omega), if_neg h, EReal.coe_zero]
theorem ds_val {p : FVec Ideal S512x512 .f32} (hp : p (ix2 r c) = ((H.P (512 * i + r.val) (512 * j.val + c.val) : ℝ) : EReal)) :
    (mulf p (prod E.doa (kwin E.vv j)) : FVec Ideal S512x512 .f32) (ix2 r c) = ((H.dS (512 * i + r.val) (512 * j.val + c.val) : ℝ) : EReal) := by
  pointwise []
  rw [hp, p_apply A, ← EReal.coe_mul]
  rfl
end

/-- The buffers a point writes after its first `n` key blocks; `bk` and `bv` are what the accumulated arrays held before. -/
structure StOk (H : Head) (i : ℕ) (bk bv : ℕ → ℕ → ℝ) (n : ℕ) (s : St Ideal) : Prop where
  dq : ∀ (r : Fin 512) (d : Fin 64), s.dq (ix2 r d) = ((∑ x ∈ range (512 * n), H.dS (512 * i + r.val) x * H.k x d : ℝ) : EReal)
  qs : ∀ r : Fin 512, s.qs (ix2 r 0) = ((∑ x ∈ range (512 * n), H.dS (512 * i + r.val) x : ℝ) : EReal)
  dk : ∀ (x : Fin 8192) (d : Fin 64), s.dk (ix3 0 x d) = ((bk x d
    + if x.val < 512 * n then ∑ r ∈ range 512, H.dS (512 * i + r) x * (H.q (512 * i + r) d * (1 / 8)) else 0 : ℝ) : EReal)
  dv : ∀ (x : Fin 8192) (d : Fin 64), s.dv (ix3 0 x d) = ((bv x d
    + if x.val < 512 * n then ∑ r ∈ range 512, H.P (512 * i + r) x * H.g (512 * i + r) d else 0 : ℝ) : EReal)

/-- A key block's rows of an accumulated array, the others as they were. -/
theorem acc_step {y : FVec Ideal S512x64 .bf16} {t : FVec Ideal S512x512 .f32} {a : Vec Ideal S1x8192x64 .f32} {T Y b : ℕ → ℕ → ℝ} (j : Fin 16)
    (ht : ∀ r c : Fin 512, t (ix2 r c) = ((T r (512 * j.val + c.val) : ℝ) : EReal)) (hy : ∀ (r : Fin 512) (d : Fin 64), y (ix2 r d) = ((Y r d : ℝ) : EReal))
    (ha : ∀ (x : Fin 8192) (d : Fin 64), a (ix3 0 x d) = ((b x d + if x.val < 512 * j.val then ∑ r ∈ range 512, T r x * Y r d else 0 : ℝ) : EReal))
    (x : Fin 8192) (d : Fin 64) :
    (VecWindow.put a ![0, 512 * j.val, 0] S1x512x64.size (dkU y t (dwin a j)) : Vec Ideal S1x8192x64 .f32) (ix3 0 x d)
      = ((b x d + if x.val < 512 * (j.val + 1) then ∑ r ∈ range 512, T r x * Y r d else 0 : ℝ) : EReal) := by
  rw [put_apply]
  by_cases h : 512 * j.val ≤ x.val ∧ x.val < 512 * j.val + 512
  · have e : (⟨512 * j.val + (⟨x.val - 512 * j.val, by omega⟩ : Fin 512).val, by have := x.isLt; show 512 * j.val + (x.val - 512 * j.val) < 8192; omega⟩ : Fin 8192) = x :=
      Fin.ext (by show 512 * j.val + (x.val - 512 * j.val) = x.val; omega)
    have e' : 512 * j.val + (x.val - 512 * j.val) = x.val := by omega
    rw [dif_pos h, dkU_apply, dwin_apply, e, ha, if_neg (by omega), if_pos (by omega),
      sum_real (fun r => T r x * Y r d) fun r => by rw [ht, hy, ← EReal.coe_mul]; exact coe_congr (by rw [e']), ← EReal.coe_add]
    exact coe_congr (by ring)
  · rw [dif_neg h, ha]
    refine coe_congr (congrArg _ ?_)
    by_cases h' : x.val < 512 * j.val
    · rw [if_pos h', if_pos (by omega)]
    · rw [if_neg h', if_neg (by omega)]

section
variable {E : Env Ideal} {H : Head} {i : ℕ} (A : EnvOk E H i) {bk bv : ℕ → ℕ → ℝ} {s : St Ideal}
include A

theorem grads_ok (j : Fin 16) {p ds : FVec Ideal S512x512 .f32}
    (hp : ∀ r c : Fin 512, p (ix2 r c) = ((H.P (512 * i + r.val) (512 * j.val + c.val) : ℝ) : EReal))
    (hds : ∀ r c : Fin 512, ds (ix2 r c) = ((H.dS (512 * i + r.val) (512 * j.val + c.val) : ℝ) : EReal))
    (S : StOk H i bk bv j.val s) : StOk H i bk bv (j.val + 1) (grads E j p ds s) where
  dq r d := by
    show dqU ds s.dq (kwin E.kk j) (ix2 r d) = _
    rw [dqU_apply, S.dq, sum_real (fun c => H.dS (512 * i + r.val) (512 * j.val + c) * H.k (512 * j.val + c) d) fun c => by
      rw [hds, kwin_apply, A.kk, ← EReal.coe_mul]; exact coe_congr (by rw [if_pos d.isLt]), ← EReal.coe_add]
    refine coe_congr ?_
    rw [show 512 * (j.val + 1) = 512 * j.val + 512 by omega, Finset.sum_range_add]
  qs r := by
    show k0_pay62 ds s.qs (ix2 r 0) = _
    rw [qsU_apply, S.qs, sum_real (fun c => H.dS (512 * i + r.val) (512 * j.val + c)) fun c => hds r c, ← EReal.coe_add]
    refine coe_congr ?_
    rw [show 512 * (j.val + 1) = 512 * j.val + 512 by omega, Finset.sum_range_add]
  dk := acc_step (T := fun r x => H.dS (512 * i + r) x) (Y := fun r d => H.q (512 * i + r) d * (1 / 8)) j hds A.q8 S.dk
  dv := acc_step (T := fun r x => H.P (512 * i + r) x) (Y := fun r d => H.g (512 * i + r) d) j hp A.do8 S.dv

omit A in
theorem setP1_ok {n : ℕ} (E : Env Ideal) (j : Fin 16) (S : StOk H i bk bv n s) : StOk H i bk bv n (setP1 E j s) := ⟨S.dq, S.qs, S.dk, S.dv⟩
omit A in
theorem setP0_ok {n : ℕ} (E : Env Ideal) (j : Fin 16) (S : StOk H i bk bv n s) : StOk H i bk bv n (setP0 E j s) := ⟨S.dq, S.qs, S.dk, S.dv⟩

/-- `grads_ok` at the number of a key block. -/
theorem grads_jb {n : ℕ} (hn : n ≤ 15) {p ds : FVec Ideal S512x512 .f32}
    (hp : ∀ r c : Fin 512, p (ix2 r c) = ((H.P (512 * i + r.val) (512 * (jb n).val + c.val) : ℝ) : EReal))
    (hds : ∀ r c : Fin 512, ds (ix2 r c) = ((H.dS (512 * i + r.val) (512 * (jb n).val + c.val) : ℝ) : EReal))
    (S : StOk H i bk bv n s) : StOk H i bk bv (n + 1) (grads E (jb n) p ds s) := by
  have e := jb_of_le hn
  have h := grads_ok A (jb n) hp hds (e.symm ▸ S)
  rwa [e] at h

/-- The state before trip `k`: the first `2k` key blocks done, the next one's products ready. -/
structure Before (E : Env Ideal) (H : Head) (i : ℕ) (bk bv : ℕ → ℕ → ℝ) (k : ℕ) (s : St Ideal) : Prop where
  st : StOk H i bk bv (2 * k) s
  z0 : s.z0 = prod E.qa (kwin E.kk (jb (2 * k)))
  p0 : s.p0 = prod E.doa (kwin E.vv (jb (2 * k)))

theorem trip_ok (hi : i < 16) {k : ℕ} (hk : 2 * k + 1 < i) (B : Before E H i bk bv k s) : Before E H i bk bv (k + 1) (trip E k s) := by
  have e0 : (jb (2 * k)).val = 2 * k := jb_of_le (by omega)
  have e1 : (jb (2 * k + 1)).val = 2 * k + 1 := jb_of_le (by omega)
  refine ⟨?_, rfl, rfl⟩
  rw [trip_eq, B.z0, B.p0]
  have p0 := fun r c => prob_val A (jb (2 * k)) r c hi (by omega)
  have p1 := fun r c => prob_val A (jb (2 * k + 1)) r c hi (by omega)
  exact grads_jb A (n := 2 * k + 1) (by omega) p1 (fun r c => ds_val A _ r c (p1 r c))
    (setP0_ok E _ (grads_jb A (n := 2 * k) (by omega) p0 (fun r c => ds_val A _ r c (p0 r c)) (setP1_ok E _ B.st)))

theorem trips_ok (hi : i < 16) (B : Before E H i bk bv 0 s) : ∀ k, 2 * k ≤ i → Before E H i bk bv k (trips E s k)
  | 0, _ => B
  | k + 1, h => trip_ok A hi (by omega) (trips_ok hi B k (by omega))

omit A in
theorem ahead0 : ∀ i : Fin 16, (Scalar.muli (Scalar.subi (BitVec.ofNat 32 i.val) (BitVec.ofNat 32 (2 * (i.val / 2)))) 512#32 : BitVec 32).toInt
    = 512 * ((i.val : ℤ) - (2 * (i.val / 2) : ℕ)) := by decide +kernel
omit A in
theorem ahead1 : ∀ i : Fin 16, (Scalar.muli (Scalar.subi (BitVec.ofNat 32 i.val) (Scalar.addi (BitVec.ofNat 32 (2 * (i.val / 2))) 1#32)) 512#32 : BitVec 32).toInt
    = 512 * ((i.val : ℤ) - (2 * (i.val / 2) + 1 : ℕ)) := by decide +kernel

theorem fin_ok (hi : i < 16) (B : Before E H i bk bv 0 s) : StOk H i bk bv (2 * (i / 2) + 2) (finSt E i s) := by
  have e0 : (jb (2 * (i / 2))).val = 2 * (i / 2) := jb_of_le (by omega)
  have e1 : (jb (2 * (i / 2) + 1)).val = 2 * (i / 2) + 1 := jb_of_le (by omega)
  have C := trips_ok A hi B (i / 2) (by omega)
  unfold finSt
  rw [tripM_eq, C.z0, C.p0]
  have p0 := fun r c => probMask_val A (jb (2 * (i / 2))) r c hi _ (by rw [e0]; exact ahead0 ⟨i, hi⟩)
  have p1 := fun r c => probMask_val A (jb (2 * (i / 2) + 1)) r c hi _ (by rw [e1]; exact ahead1 ⟨i, hi⟩)
  exact grads_jb A (by omega) p1 (fun r c => ds_val A _ r c (p1 r c))
    (setP0_ok E _ (grads_jb A (by omega) p0 (fun r c => ds_val A _ r c (p0 r c)) (setP1_ok E _ C.st)))
end

/-- The buffers a point of query block `i` ends with. -/
structure PtOk (H : Head) (i : ℕ) (bk bv : ℕ → ℕ → ℝ) (s : St Ideal) : Prop where
  dq : ∀ (r : Fin 512) (d : Fin 64), s.dq (ix2 r d) = ((∑ x ∈ range 8192, H.dS (512 * i + r.val) x * H.k x d : ℝ) : EReal)
  qs : ∀ r : Fin 512, s.qs (ix2 r 0) = ((H.qs (512 * i + r.val) : ℝ) : EReal)
  dk : ∀ (x : Fin 8192) (d : Fin 64), s.dk (ix3 0 x d)
    = ((bk x d + ∑ r ∈ range 512, H.dS (512 * i + r) x * (H.q (512 * i + r) d * (1 / 8)) : ℝ) : EReal)
  dv : ∀ (x : Fin 8192) (d : Fin 64), s.dv (ix3 0 x d) = ((bv x d + ∑ r ∈ range 512, H.P (512 * i + r) x * H.g (512 * i + r) d : ℝ) : EReal)

/-- Keys past the row add nothing. -/
theorem sum_past {n m : ℕ} (h : n ≤ m) (f : ℕ → ℝ) (hf : ∀ x, n ≤ x → f x = 0) : ∑ x ∈ range n, f x = ∑ x ∈ range m, f x :=
  Finset.sum_subset (Finset.range_mono h) fun x _ hx => hf x (by simpa using hx)

theorem ptOk_of {H : Head} {i n : ℕ} {bk bv : ℕ → ℕ → ℝ} {s : St Ideal} (hn : i < n) (hn' : n ≤ 16) (S : StOk H i bk bv n s) : PtOk H i bk bv s where
  dq r d := by
    rw [S.dq, sum_past (show 512 * n ≤ 8192 by omega) _ fun x hx => by rw [H.dS_after (by have := r.isLt; omega), zero_mul]]
  qs r := by
    rw [S.qs, H.qs_def, sum_past (show 512 * n ≤ 8192 by omega) _ fun x hx => by rw [H.dS_after (by have := r.isLt; omega)]]
  dk x d := by
    rw [S.dk]
    refine coe_congr (congrArg _ ?_)
    split
    · rfl
    · symm
      exact Finset.sum_eq_zero fun r hr => by rw [H.dS_after (by have := Finset.mem_range.1 hr; omega), zero_mul]
  dv x d := by
    rw [S.dv]
    refine coe_congr (congrArg _ ?_)
    split
    · rfl
    · symm
      exact Finset.sum_eq_zero fun r hr => by rw [H.P_after (by have := Finset.mem_range.1 hr; omega), zero_mul]

/-- A point of query block `i` from accumulated arrays at `bk` and `bv`. -/
theorem point_ok {E : Env Ideal} {H : Head} {i : ℕ} (A : EnvOk E H i) (hi : i < 16) {bk bv : ℕ → ℕ → ℝ}
    {dk dv : Vec Ideal S1x8192x64 .f32} (ks : Vec Ideal S1x16x8x512 .f32) (z1 p1 : Vec Ideal S512x512 .f32)
    (hk : ∀ (x : Fin 8192) (d : Fin 64), dk (ix3 0 x d) = ((bk x d : ℝ) : EReal))
    (hv : ∀ (x : Fin 8192) (d : Fin 64), dv (ix3 0 x d) = ((bv x d : ℝ) : EReal)) :
    PtOk H i bk bv (finSt E i (stOf E dk dv ks z1 p1)) := by
  refine ptOk_of (n := 2 * (i / 2) + 2) (by omega) (by omega) (fin_ok A hi ⟨⟨?_, ?_, ?_, ?_⟩, rfl, rfl⟩)
  · intro r d
    show (k0_pay44 (F := Ideal)) (ix2 r d) = _
    rw [pay44_apply, mul_zero, mul_zero, Finset.sum_range_zero, EReal.coe_zero]
  · intro r
    show (k0_pay45 (F := Ideal)) (ix2 r 0) = _
    rw [pay45_apply, mul_zero, mul_zero, Finset.sum_range_zero, EReal.coe_zero]
  · intro x d
    show dk (ix3 0 x d) = _
    rw [hk]
    exact coe_congr (by rw [if_neg (by omega), add_zero])
  · intro x d
    show dv (ix3 0 x d) = _
    rw [hv]
    exact coe_congr (by rw [if_neg (by omega), add_zero])

end Cert.KernelIdeal.Hand

end
-- ==== Proof.FoldI.lean ====
/- The attention gradient's launch over the real numbers: each window's block at a point, and the head's accumulated arrays
   from one query block to the next. Point `t` is query block `t % 16` of head `t / 16`. -/
module

public import proofs.«01_k».proof.Proof.FrameI
public import proofs.«01_k».proof.Proof.HostI
public import proofs.«01_k».proof.Proof.PointI
public import Idealize.ShloMosaic.Lib.Pipeline.ValueKit

@[expose] public section

noncomputable section

namespace Cert.KernelIdeal.Hand

open Cert.KernelIdeal Cert.KernelIdeal.Gen Cert.Fox
open Idealize.ShloMosaic Idealize.ShloMosaic.TcCoe
open Finset (range)

/-! ## Blocks -/

theorem idx0 : ∀ t : Fin cfg0.N, win0_0.index t = ![t.val / 16, t.val % 16, 0] := (by decide +kernel : ∀ t : Fin grid0.N, _)
theorem idx1 : ∀ t : Fin cfg0.N, win0_1.index t = ![t.val / 16, 0, 0] := (by decide +kernel : ∀ t : Fin grid0.N, _)
theorem idx2 : ∀ t : Fin cfg0.N, win0_2.index t = ![t.val / 16, 0, 0] := (by decide +kernel : ∀ t : Fin grid0.N, _)
theorem idx3 : ∀ t : Fin cfg0.N, win0_3.index t = ![t.val / 16, 0, 0, 0] := (by decide +kernel : ∀ t : Fin grid0.N, _)
theorem idx4 : ∀ t : Fin cfg0.N, win0_4.index t = ![t.val / 16, t.val % 16, 0] := (by decide +kernel : ∀ t : Fin grid0.N, _)
theorem idx5 : ∀ t : Fin cfg0.N, win0_5.index t = ![t.val / 16, t.val % 16, 0] := (by decide +kernel : ∀ t : Fin grid0.N, _)
theorem idx6 : ∀ t : Fin cfg0.N, win0_6.index t = ![t.val / 16, t.val % 16, 0] := (by decide +kernel : ∀ t : Fin grid0.N, _)
theorem idx7 : ∀ t : Fin cfg0.N, win0_7.index t = ![t.val / 16, t.val % 16, 0] := (by decide +kernel : ∀ t : Fin grid0.N, _)
theorem idx8 : ∀ t : Fin cfg0.N, win0_8.index t = ![t.val / 16, 0, 0] := (by decide +kernel : ∀ t : Fin grid0.N, _)
theorem idx9 : ∀ t : Fin cfg0.N, win0_9.index t = ![t.val / 16, 0, 0] := (by decide +kernel : ∀ t : Fin grid0.N, _)
theorem idx11 : ∀ t : Fin cfg0.N, win0_11.index t = ![t.val / 16, t.val % 16, 0] := (by decide +kernel : ∀ t : Fin grid0.N, _)

theorem lt128 (t : Fin cfg0.N) : t.val < 128 := t.isLt

/-- The head of a point, and row `r` of its query block. -/
def hd (t : Fin cfg0.N) : Fin 8 := ⟨t.val / 16, by have := lt128 t; omega⟩
def row' (t : Fin cfg0.N) (r : Fin 512) : Fin 8192 := ⟨512 * (t.val % 16) + r.val, by omega⟩

variable (m : (ℓ : Loc nD τ sig) → Buf (Elt Ideal) ℓ) (c : Dev nD) (t : Fin cfg0.N)

theorem at0 (X : FVec Ideal S50x8192x64 .bf16) (r : Fin 512) (d : Fin 64) :
    (((cfg0.win 0).blk t).view.read (Elt Ideal) X : Vec Ideal S1x512x64 .bf16) (ix3 0 r d) = X (ix3 ⟨t.val / 16, by have := lt128 t; omega⟩ (row' t r) d) := by
  blk_ext [idx0 t, row']
theorem blk0 (r : Fin 512) (d : Fin 64) : (iblk m c 0 t : Vec Ideal S1x512x64 .bf16) (ix3 0 r d) = (V m c main_arg0 : FVec Ideal S50x8192x64 .bf16) (ix3 ⟨t.val / 16, by have := lt128 t; omega⟩ (row' t r) d) := by
  unfold iblk
  exact at0 t (V m c main_arg0) r d
theorem at1 (X : FVec Ideal S8x8192x128 .bf16) (j : Fin 8192) (d : Fin 128) :
    (((cfg0.win 1).blk t).view.read (Elt Ideal) X : Vec Ideal S1x8192x128 .bf16) (ix3 0 j d) = X (ix3 (hd t) j d) := by
  blk_ext [idx1 t, hd]
theorem blk1 (j : Fin 8192) (d : Fin 128) : (iblk m c 1 t : Vec Ideal S1x8192x128 .bf16) (ix3 0 j d) = (V m c main_v6 : FVec Ideal S8x8192x128 .bf16) (ix3 (hd t) j d) := by
  unfold iblk
  exact at1 t (V m c main_v6) j d
theorem at2 (X : FVec Ideal S8x8192x128 .bf16) (j : Fin 8192) (d : Fin 128) :
    (((cfg0.win 2).blk t).view.read (Elt Ideal) X : Vec Ideal S1x8192x128 .bf16) (ix3 0 j d) = X (ix3 (hd t) j d) := by
  blk_ext [idx2 t, hd]
theorem blk2 (j : Fin 8192) (d : Fin 128) : (iblk m c 2 t : Vec Ideal S1x8192x128 .bf16) (ix3 0 j d) = (V m c main_v3 : FVec Ideal S8x8192x128 .bf16) (ix3 (hd t) j d) := by
  unfold iblk
  exact at2 t (V m c main_v3) j d
theorem at3 (X : FVec Ideal S8x16x1x512 .f32) (b : Fin 16) (x : Fin 512) :
    (((cfg0.win 3).blk t).view.read (Elt Ideal) X : Vec Ideal S1x16x1x512 .f32) (ix4 0 b 0 x) = X (ix4 (hd t) b 0 x) := by
  blk_ext [idx3 t, hd]
theorem blk3 (b : Fin 16) (x : Fin 512) : (iblk m c 3 t : Vec Ideal S1x16x1x512 .f32) (ix4 0 b 0 x) = (V m c main_v1 : FVec Ideal S8x16x1x512 .f32) (ix4 (hd t) b 0 x) := by
  unfold iblk
  exact at3 t (V m c main_v1) b x
theorem at4 (X : FVec Ideal S8x8192x64 .f32) (r : Fin 512) (d : Fin 64) :
    (((cfg0.win 4).blk t).view.read (Elt Ideal) X : Vec Ideal S1x512x64 .f32) (ix3 0 r d) = X (ix3 (hd t) (row' t r) d) := by
  blk_ext [idx4 t, hd, row']
theorem blk4 (r : Fin 512) (d : Fin 64) : (iblk m c 4 t : Vec Ideal S1x512x64 .f32) (ix3 0 r d) = (V m c main_v36 : FVec Ideal S8x8192x64 .f32) (ix3 (hd t) (row' t r) d) := by
  unfold iblk
  exact at4 t (V m c main_v36) r d
theorem at5 (X : FVec Ideal S8x8192x1 .f32) (r : Fin 512) :
    (((cfg0.win 5).blk t).view.read (Elt Ideal) X : Vec Ideal S1x512x1 .f32) (ix3 0 r 0) = X (ix3 (hd t) (row' t r) 0) := by
  blk_ext [idx5 t, hd, row']
theorem blk5 (r : Fin 512) : (iblk m c 5 t : Vec Ideal S1x512x1 .f32) (ix3 0 r 0) = (V m c main_v33 : FVec Ideal S8x8192x1 .f32) (ix3 (hd t) (row' t r) 0) := by
  unfold iblk
  exact at5 t (V m c main_v33) r
theorem at6 (X : FVec Ideal S8x8192x64 .f32) (r : Fin 512) (d : Fin 64) :
    (((cfg0.win 6).blk t).view.read (Elt Ideal) X : Vec Ideal S1x512x64 .f32) (ix3 0 r d) = X (ix3 (hd t) (row' t r) d) := by
  blk_ext [idx6 t, hd, row']
theorem blk6 (r : Fin 512) (d : Fin 64) : (iblk m c 6 t : Vec Ideal S1x512x64 .f32) (ix3 0 r d) = (V m c main_arg2 : FVec Ideal S8x8192x64 .f32) (ix3 (hd t) (row' t r) d) := by
  unfold iblk
  exact at6 t (V m c main_arg2) r d

/-- Head `h`'s part of the arguments a core is given is `H`. -/
abbrev ArgsAt (h : Fin 8) (H : Head) : Prop :=
  Args (m ((c.tc : Thread nD τ).loc main_arg0)) (m ((c.tc : Thread nD τ).loc main_arg1)) (m ((c.tc : Thread nD τ).loc main_arg2)) h H

theorem env_ok {H : Head} (A : ArgsAt m c (hd t) H) :
    EnvOk (envOf (iblk m c 0 t) (iblk m c 1 t) (iblk m c 2 t) (iblk m c 3 t) (iblk m c 4 t) (iblk m c 5 t) (iblk m c 6 t)) H (t.val % 16) := by
  refine envOk_of ?_ ?_ ?_ ?_ ?_ ?_ ?_
  · intro r d
    rw [blk0, V_main_arg0]
    exact A.q (row' t r) d
  · intro j d
    rw [blk1, V_v6]
    exact kOnes_apply A j d
  · intro j d
    rw [blk2, V_v3]
    exact vOnes_apply A j d
  · intro b x
    rw [blk3, V_v1]
    exact fRow_apply A b x
  · intro r d
    rw [blk4, V_v36]
    exact oo_apply A (row' t r) d
  · intro r
    rw [blk5, V_v33]
    exact lse_apply A (row' t r)
  · intro r d
    rw [blk6, V_main_arg2]
    exact A.g (row' t r) d

/-! ## The accumulated arrays -/

/-- What the key and value gradients hold before query block `i`. -/
def accK (H : Head) (i x d : ℕ) : ℝ := ∑ R ∈ range (512 * i), H.dS R x * (H.q R d * (1 / 8))
def accV (H : Head) (i x d : ℕ) : ℝ := ∑ R ∈ range (512 * i), H.P R x * H.g R d

theorem accK_zero (H : Head) (x d : ℕ) : accK H 0 x d = 0 := by unfold accK; rw [mul_zero, Finset.sum_range_zero]
theorem accV_zero (H : Head) (x d : ℕ) : accV H 0 x d = 0 := by unfold accV; rw [mul_zero, Finset.sum_range_zero]
theorem accK_succ (H : Head) (i x d : ℕ) :
    accK H i x d + ∑ r ∈ range 512, H.dS (512 * i + r) x * (H.q (512 * i + r) d * (1 / 8)) = accK H (i + 1) x d := by
  unfold accK; rw [show 512 * (i + 1) = 512 * i + 512 by omega, Finset.sum_range_add]
theorem accV_succ (H : Head) (i x d : ℕ) :
    accV H i x d + ∑ r ∈ range 512, H.P (512 * i + r) x * H.g (512 * i + r) d = accV H (i + 1) x d := by
  unfold accV; rw [show 512 * (i + 1) = 512 * i + 512 by omega, Finset.sum_range_add]

/-- One point of a head, from accumulated arrays that are right unless it is the head's first point. -/
theorem step_ok {H : Head} (A : ArgsAt m c (hd t) H)
    (hk : t.val % 16 ≠ 0 → ∀ (x : Fin 8192) (d : Fin 64), (stN m c t.val).dk (ix3 0 x d) = ((accK H (t.val % 16) x d : ℝ) : EReal))
    (hv : t.val % 16 ≠ 0 → ∀ (x : Fin 8192) (d : Fin 64), (stN m c t.val).dv (ix3 0 x d) = ((accV H (t.val % 16) x d : ℝ) : EReal)) :
    PtOk H (t.val % 16) (accK H (t.val % 16)) (accV H (t.val % 16)) (stN m c (t.val + 1)) := by
  rw [stN_succ, coord1]
  unfold ptSt
  refine point_ok (env_ok m c t A) (by omega) _ _ _ ?_ ?_
  · intro x d
    unfold dkAt
    split
    next h0 => rw [pay37_apply, h0, accK_zero, EReal.coe_zero]
    next h0 => exact hk h0 x d
  · intro x d
    unfold dvAt
    split
    next h0 => rw [pay38_apply, h0, accV_zero, EReal.coe_zero]
    next h0 => exact hv h0 x d

/-- Every point of the launch. -/
theorem all_ok (Hd : Fin 8 → Head) (A : ∀ h, ArgsAt m c h (Hd h)) : ∀ (n : ℕ) (hn : n < cfg0.N),
    PtOk (Hd (hd ⟨n, hn⟩)) (n % 16) (accK (Hd (hd ⟨n, hn⟩)) (n % 16)) (accV (Hd (hd ⟨n, hn⟩)) (n % 16)) (stN m c (n + 1))
  | 0, hn => step_ok m c ⟨0, hn⟩ (A _) (fun h => absurd rfl h) (fun h => absurd rfl h)
  | n + 1, hn => by
    have ih := all_ok Hd A n (Nat.lt_of_succ_lt hn)
    refine step_ok m c ⟨n + 1, hn⟩ (A _) ?_ ?_
    · intro h x d
      change (n + 1) % 16 ≠ 0 at h
      have e : hd ⟨n + 1, hn⟩ = hd ⟨n, Nat.lt_of_succ_lt hn⟩ := Fin.ext (by show (n + 1) / 16 = n / 16; omega)
      have e' : (n + 1) % 16 = n % 16 + 1 := by omega
      show (stN m c (n + 1)).dk (ix3 0 x d) = ((accK _ ((n + 1) % 16) x d : ℝ) : EReal)
      rw [ih.dk, accK_succ, e, e']
    · intro h x d
      change (n + 1) % 16 ≠ 0 at h
      have e : hd ⟨n + 1, hn⟩ = hd ⟨n, Nat.lt_of_succ_lt hn⟩ := Fin.ext (by show (n + 1) / 16 = n / 16; omega)
      have e' : (n + 1) % 16 = n % 16 + 1 := by omega
      show (stN m c (n + 1)).dv (ix3 0 x d) = ((accV _ ((n + 1) % 16) x d : ℝ) : EReal)
      rw [ih.dv, accV_succ, e, e']

end Cert.KernelIdeal.Hand

end
-- ==== Proof.ArrI.lean ====
/- The attention gradient's results after the launch, over the real numbers. -/
module

public import proofs.«01_k».proof.Proof.FoldI
public import Idealize.ShloMosaic.Lib.Pipeline.ValueKit

@[expose] public section

noncomputable section

namespace Cert.KernelIdeal.Hand

open Cert.KernelIdeal Cert.KernelIdeal.Gen Cert.Fox
open Idealize.ShloMosaic Idealize.ShloMosaic.TcCoe

variable (m : (ℓ : Loc nD τ sig) → Buf (Elt Ideal) ℓ) (c : Dev nD) (t : Fin cfg0.N)
variable (Hd : Fin 8 → Head) (A : ∀ h, ArgsAt m c h (Hd h))
include A

theorem out_dq (r : Fin 512) (d : Fin 64) :
    (k0_pay90 (stN m c (t.val + 1)).dq : FVec Ideal S1x512x64 .f32) (ix3 0 r d) = (((Hd (hd t)).dq (row' t r) d : ℝ) : EReal) := by
  have P := all_ok m c Hd A t.val t.isLt
  rw [pay90_apply, P.dq, Head.dq_def, ← EReal.coe_mul]
  rfl
theorem out_qs (r : Fin 512) :
    (k0_pay91 (stN m c (t.val + 1)).qs : FVec Ideal S1x512x1 .f32) (ix3 0 r 0) = (((Hd (hd t)).qs (row' t r) : ℝ) : EReal) := by
  have P := all_ok m c Hd A t.val t.isLt
  rw [pay91_apply, P.qs]
  rfl
theorem out_dk (ht : t.val % 16 = 15) (x : Fin 8192) (d : Fin 64) :
    (stN m c (t.val + 1)).dk (ix3 0 x d) = (((Hd (hd t)).dk x d : ℝ) : EReal) := by
  have P := all_ok m c Hd A t.val t.isLt
  rw [P.dk, accK_succ, ht]
  unfold accK
  rw [Head.dk_def]
theorem out_dv (ht : t.val % 16 = 15) (x : Fin 8192) (d : Fin 64) :
    (stN m c (t.val + 1)).dv (ix3 0 x d) = (((Hd (hd t)).dv x d : ℝ) : EReal) := by
  have P := all_ok m c Hd A t.val t.isLt
  rw [P.dv, accV_succ, ht]
  unfold accV
  rw [Head.dv_def]

omit A in
theorem emb7 (y : ((cfg0.win 7).xblock (cfg0.grid.coords t)).Idx) :
    (((cfg0.win 7).blk t).view.emb y : S8x8192x64.Idx) = ix3 (hd t) (row' t (y 1)) (y 2) := by
  blk_ext [idx7 t, hd, row']
omit A in
theorem emb8 (y : ((cfg0.win 8).xblock (cfg0.grid.coords t)).Idx) :
    (((cfg0.win 8).blk t).view.emb y : S8x8192x64.Idx) = ix3 (hd t) (y 1) (y 2) := by
  blk_ext [idx8 t, hd]
omit A in
theorem emb9 (y : ((cfg0.win 9).xblock (cfg0.grid.coords t)).Idx) :
    (((cfg0.win 9).blk t).view.emb y : S8x8192x64.Idx) = ix3 (hd t) (y 1) (y 2) := by
  blk_ext [idx9 t, hd]
omit A in
theorem emb11 (y : ((cfg0.win 11).xblock (cfg0.grid.coords t)).Idx) :
    (((cfg0.win 11).blk t).view.emb y : S8x8192x1.Idx) = ix3 (hd t) (row' t (y 1)) 0 := by
  blk_ext [idx11 t, hd, row']
omit A in
theorem at512 (y : S1x512x64.Idx) : y = ix3 0 (y 1) (y 2) := by blk_ext []
omit A in
theorem at512c (y : S1x512x1.Idx) : y = ix3 0 (y 1) 0 := by blk_ext []
omit A in
theorem at8192 (y : S1x8192x64.Idx) : y = ix3 0 (y 1) (y 2) := by blk_ext []

theorem arr_dq (G : FVec Ideal S8x8192x64 .f32) (hG : ∀ (h : Fin 8) (i : Fin 8192) (d : Fin 64), G (ix3 h i d) = (((Hd h).dq i d : ℝ) : EReal)) :
    (dats m 0 c).arrAt 7 cfg0.N = G := by
  refine (dats m 0 c).arrAt_eq_of_covers 7 _ (by decide +kernel) fun t hf y => ?_
  rw [emb7]
  refine Eq.trans ?_ (hG _ _ _).symm
  show (k0_pay90 (stN m c (t.val + 1)).dq : FVec Ideal S1x512x64 .f32) y = _
  exact (congrArg (k0_pay90 (stN m c (t.val + 1)).dq : FVec Ideal S1x512x64 .f32) (at512 y)).trans (out_dq m c t Hd A (y 1) (y 2))
theorem arr_dk (G : FVec Ideal S8x8192x64 .f32) (hG : ∀ (h : Fin 8) (i : Fin 8192) (d : Fin 64), G (ix3 h i d) = (((Hd h).dk i d : ℝ) : EReal)) :
    (dats m 0 c).arrAt 8 cfg0.N = G := by
  refine (dats m 0 c).arrAt_eq_of_covers 8 _ (by decide +kernel) fun t hf y => ?_
  rw [emb8]
  refine Eq.trans ?_ (hG _ _ _).symm
  show (stN m c (t.val + 1)).dk y = _
  exact (congrArg (stN m c (t.val + 1)).dk (at8192 y)).trans (out_dk m c t Hd A ((flush0_8 t).mp hf) (y 1) (y 2))
theorem arr_dv (G : FVec Ideal S8x8192x64 .f32) (hG : ∀ (h : Fin 8) (i : Fin 8192) (d : Fin 64), G (ix3 h i d) = (((Hd h).dv i d : ℝ) : EReal)) :
    (dats m 0 c).arrAt 9 cfg0.N = G := by
  refine (dats m 0 c).arrAt_eq_of_covers 9 _ (by decide +kernel) fun t hf y => ?_
  rw [emb9]
  refine Eq.trans ?_ (hG _ _ _).symm
  show (stN m c (t.val + 1)).dv y = _
  exact (congrArg (stN m c (t.val + 1)).dv (at8192 y)).trans (out_dv m c t Hd A ((flush0_9 t).mp hf) (y 1) (y 2))
theorem arr_qs (G : FVec Ideal S8x8192x1 .f32) (hG : ∀ (h : Fin 8) (i : Fin 8192), G (ix3 h i 0) = (((Hd h).qs i : ℝ) : EReal)) :
    (dats m 0 c).arrAt 11 cfg0.N = G := by
  refine (dats m 0 c).arrAt_eq_of_covers 11 _ (by decide +kernel) fun t hf y => ?_
  rw [emb11]
  refine Eq.trans ?_ (hG _ _).symm
  show (k0_pay91 (stN m c (t.val + 1)).qs : FVec Ideal S1x512x1 .f32) y = _
  exact (congrArg (k0_pay91 (stN m c (t.val + 1)).qs : FVec Ideal S1x512x1 .f32) (at512c y)).trans (out_qs m c t Hd A (y 1))

end Cert.KernelIdeal.Hand

end
-- ==== Proof.RefTerms.lean ====
/- The reference's results, read at an index: the plain gradient of one head over the real numbers. -/
module

public import proofs.«01_k».proof.Proof.Math
public import proofs.«01_k».proof.Proof.Gen.ReferenceIdeal.Run
public import Idealize.ShloMosaic.Lib.WordCmp

@[expose] public section

noncomputable section

namespace Cert.ReferenceIdeal.Hand

open Cert.ReferenceIdeal Cert.ReferenceIdeal.Gen Cert.ReferenceIdeal.Value Cert.Fox
open Idealize.ShloMosaic Idealize.ShloMosaic.TcCoe

variable (x0 : FVec Ideal S50x8192x64 .bf16) (x1 : FVec Ideal S8x8192 .f32) (x2 : FVec Ideal S8x8192x64 .f32)

/-! ## The reference's intermediate arrays -/

def rq : FVec Ideal S8x8192x64 .f32 := extf .f32 (extractStridedSlice S8x8192x64 ![0, 0, 0] x0 slices_S50x8192x64_S8x8192x64_0_0_0) bitsLt_bf16_f32
def rk : FVec Ideal S8x8192x64 .f32 := extf .f32 (extractStridedSlice S8x8192x64 ![8, 0, 0] x0 slices_S50x8192x64_S8x8192x64_8_0_0) bitsLt_bf16_f32
def rv : FVec Ideal S8x8192x64 .f32 := extf .f32 (extractStridedSlice S8x8192x64 ![16, 0, 0] x0 slices_S50x8192x64_S8x8192x64_16_0_0) bitsLt_bf16_f32
def msk : IVec S8x8192x8192 1 :=
  broadcastInDim S8x8192x8192 ![1, 2] bcast_S8192x8192_S8x8192x8192_1_2 (cmpi .sle (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
def lg : FVec Ideal S8x8192x8192 .f32 :=
  select msk (subf (addf (mulf (Host.dotGeneral dot_S8x8192x64_S8x8192x64_S8x8192x8192_2_2_1_1_0_0 none (rq x0) (rk x0)) (broadcastInDim S8x8192x8192 ![] bcast_S_S8x8192x8192 (constant S_ .f32 0x3E000000#32))) (broadcastInDim S8x8192x8192 ![0, 1, 2] bcast_S8x8192x1_S8x8192x8192_0_1_2 (broadcastInDim S8x8192x1 ![0, 1] bcast_S8x8192_S8x8192x1_0_1 x1))) (broadcastInDim S8x8192x8192 ![0, 1, 2] bcast_S8x1x8192_S8x8192x8192_0_1_2 (broadcastInDim S8x1x8192 ![0, 2] bcast_S8x8192_S8x1x8192_0_2 x1))) (broadcastInDim S8x8192x8192 ![] bcast_S_S8x8192x8192 (id (constant S_ .f32 0xFF800000#32)))
def mx : FVec Ideal S8x8192 .f32 :=
  maximumf (broadcastInDim S8x8192 ![] bcast_S_S8x8192 (constant S_ .f32 0xFF800000#32)) (Host.reduce FloatOps.maximumf (lg x0 x1) (constant S_ .f32 0xFF800000#32) reducesTo_S8x8192x8192_S8x8192_d2 h_S_)
def ex : FVec Ideal S8x8192x8192 .f32 :=
  Host.exp (subf (lg x0 x1) (broadcastInDim S8x8192x8192 ![0, 1, 2] bcast_S8x8192x1_S8x8192x8192_0_1_2 (broadcastInDim S8x8192x1 ![0, 1] bcast_S8x8192_S8x8192x1_0_1 (mx x0 x1))))
def sm : FVec Ideal S8x8192 .f32 := Host.reduceAdd (ex x0 x1) (constant S_ .f32 0x00000000#32) reducesTo_S8x8192x8192_S8x8192_d2 h_S_
def sm3 : FVec Ideal S8x8192x1 .f32 := broadcastInDim S8x8192x1 ![0, 1] bcast_S8x8192_S8x8192x1_0_1 (sm x0 x1)
def pr : FVec Ideal S8x8192x8192 .f32 := Host.divf (ex x0 x1) (broadcastInDim S8x8192x8192 ![0, 1, 2] bcast_S8x8192x1_S8x8192x8192_0_1_2 (sm3 x0 x1))
def dp : FVec Ideal S8x8192x8192 .f32 := Host.dotGeneral dot_S8x8192x64_S8x8192x64_S8x8192x8192_2_2_1_1_0_0 none x2 (rv x0)
def sq : FVec Ideal S8x8192x1 .f32 :=
  Host.divf (broadcastInDim S8x8192x1 ![] bcast_S_S8x8192x1 (constant S_ .f32 0x3F800000#32)) (mulf (sm3 x0 x1) (sm3 x0 x1))
def corr : FVec Ideal S8x8192 .f32 :=
  Host.reduceAdd (Host.negf (shapeCast S8x8192x1 (Host.reduceAdd (mulf (mulf (dp x0 x2) (broadcastInDim S8x8192x8192 ![0, 1, 2] bcast_S8x8192x1_S8x8192x8192_0_1_2 (sq x0 x1))) (ex x0 x1)) (constant S_ .f32 0x00000000#32) reducesTo_S8x8192x8192_S8x8192_d2 h_S_) shapeCasts_S8x8192_S8x8192x1)) (constant S_ .f32 0x00000000#32) reducesTo_S8x8192x1_S8x8192_d2 h_S_
def ds : FVec Ideal S8x8192x8192 .f32 :=
  select msk (mulf (addf (Host.divf (dp x0 x2) (broadcastInDim S8x8192x8192 ![0, 1, 2] bcast_S8x8192x1_S8x8192x8192_0_1_2 (sm3 x0 x1))) (broadcastInDim S8x8192x8192 ![0, 1] bcast_S8x8192_S8x8192x8192_0_1 (corr x0 x1 x2))) (ex x0 x1)) (broadcastInDim S8x8192x8192 ![] bcast_S_S8x8192x8192 (constant S_ .f32 0x00000000#32))
def ds8 : FVec Ideal S8x8192x8192 .f32 := mulf (ds x0 x1 x2) (broadcastInDim S8x8192x8192 ![] bcast_S_S8x8192x8192 (constant S_ .f32 0x3E000000#32))
def outQ : FVec Ideal S8x8192x64 .f32 := Host.dotGeneral dot_S8x8192x8192_S8x8192x64_S8x8192x64_2_1_1_2_0_0 none (ds8 x0 x1 x2) (rk x0)
def outK : FVec Ideal S8x8192x64 .f32 := Host.dotGeneral dot_S8x8192x8192_S8x8192x64_S8x8192x64_1_1_2_2_0_0 none (ds8 x0 x1 x2) (rq x0)
def outV : FVec Ideal S8x8192x64 .f32 :=
  transpose S8x8192x64 [0, 2, 1] (Host.dotGeneral dot_S8x8192x64_S8x8192x8192_S8x64x8192_1_1_2_2_0_0 none x2 (pr x0 x1)) transposes_S8x64x8192_S8x8192x64_0_2_1
def outS : FVec Ideal S8x8192x1 .f32 :=
  broadcastInDim S8x8192x1 ![0, 1] bcast_S8x8192_S8x8192x1_0_1 (Host.reduceAdd (shapeCast S8x8192x1 (Host.reduceAdd (ds x0 x1 x2) (constant S_ .f32 0x00000000#32) reducesTo_S8x8192x8192_S8x8192_d2 h_S_) shapeCasts_S8x8192_S8x8192x1) (constant S_ .f32 0x00000000#32) reducesTo_S8x8192x1_S8x8192_d2 h_S_)

section
variable (m : (ℓ : Loc nD τ sig) → Buf (Elt Ideal) ℓ) (c : Dev nD)
theorem res77 : res_main_v77 m c = outQ (m ((c.tc : Thread nD τ).loc main_arg0)) (m ((c.tc : Thread nD τ).loc main_arg1)) (m ((c.tc : Thread nD τ).loc main_arg2)) := rfl
theorem res76 : res_main_v76 m c = outK (m ((c.tc : Thread nD τ).loc main_arg0)) (m ((c.tc : Thread nD τ).loc main_arg1)) (m ((c.tc : Thread nD τ).loc main_arg2)) := rfl
theorem res52 : res_main_v52 m c = outV (m ((c.tc : Thread nD τ).loc main_arg0)) (m ((c.tc : Thread nD τ).loc main_arg1)) (m ((c.tc : Thread nD τ).loc main_arg2)) := rfl
theorem res78 : res_main_v78 m c = outS (m ((c.tc : Thread nD τ).loc main_arg0)) (m ((c.tc : Thread nD τ).loc main_arg1)) (m ((c.tc : Thread nD τ).loc main_arg2)) := rfl
end

/-! ## Read at an index -/

theorem msk_apply (h : Fin 8) (i j : Fin 8192) : msk (ix3 h i j) = BitVec.ofBool (decide (j.val ≤ i.val)) := by
  pointwise [msk]
  exact WordCmp.cmpi_sle_ofNat (by have := j.isLt; omega) (by have := i.isLt; omega)

variable {x0 x1 x2} {h : Fin 8} {H : Head} (A : Args x0 x1 x2 h H)
include A

theorem rq_apply (i : Fin 8192) (d : Fin 64) : rq x0 (ix3 h i d) = ((H.q i d : ℝ) : EReal) := by
  pointwise [rq]
  simpa using A.q i d
theorem rk_apply (i : Fin 8192) (d : Fin 64) : rk x0 (ix3 h i d) = ((H.k i d : ℝ) : EReal) := by
  pointwise [rk]
  simpa using A.k i d
theorem rv_apply (i : Fin 8192) (d : Fin 64) : rv x0 (ix3 h i d) = ((H.v i d : ℝ) : EReal) := by
  pointwise [rv]
  simpa using A.v i d

theorem lg_apply (i j : Fin 8192) : lg x0 x1 (ix3 h i j) = if j.val ≤ i.val then ((H.sc i j + H.f i : ℝ) : EReal) else ⊥ := by
  pointwise [lg]
  rw [msk_apply, select_ofBool]
  split
  · rw [sum_real (fun d => H.q i d * H.k j d) fun d => by rw [rq_apply A, rk_apply A, EReal.coe_mul], ofBits_eighth, A.f, A.f,
      ← EReal.coe_mul, ← EReal.coe_add, ← EReal.coe_sub]
    refine coe_congr ?_; unfold Head.sc; ring
  · exact ofBits_bot

end Cert.ReferenceIdeal.Hand

end
-- ==== Proof.RefI.lean ====
/- The reference's results, read at an index: the plain gradient of one head over the real numbers. -/
module

public import proofs.«01_k».proof.Proof.RefTerms

@[expose] public section

noncomputable section

namespace Cert.ReferenceIdeal.Hand

open Cert.ReferenceIdeal Cert.ReferenceIdeal.Gen Cert.ReferenceIdeal.Value Cert.Fox
open Idealize.ShloMosaic Idealize.ShloMosaic.TcCoe

/-- The maximum of a row that has no `⊤` and a number on its diagonal is a real number. -/
theorem reduce_real (h : Fin 8) (i : Fin 8192) (y : FVec Ideal S8x8192x8192 .f32) (ht : ∀ k, y (ix3 h i k) ≠ ⊤) (hb : y (ix3 h i i) ≠ ⊥) :
    ∃ m : ℝ, Host.reduce FloatOps.maximumf y (constant S_ .f32 0xFF800000#32) reducesTo_S8x8192x8192_S8x8192_d2 h_S_ (ix2 h i) = (m : EReal) := by
  rw [Host.reduce_eq_fold, Shape.ReducesTo.fold_fiber_r3_a2]
  exact fold_op_real (fun a b : EReal => FloatOps.maximumf (F := Ideal) (φ := .f32) a b) (fun _ _ => rfl) _ ofBits_bot _ ht i hb

variable {x0 : FVec Ideal S50x8192x64 .bf16} {x1 : FVec Ideal S8x8192 .f32} {x2 : FVec Ideal S8x8192x64 .f32}
variable {h : Fin 8} {H : Head} (A : Args x0 x1 x2 h H)
include A

theorem mx_apply (i : Fin 8192) : ∃ m : ℝ, mx x0 x1 (ix2 h i) = (m : EReal) := by
  obtain ⟨m, hm⟩ := reduce_real h i (lg x0 x1) (fun k => by rw [lg_apply A]; split; exacts [EReal.coe_ne_top _, bot_ne_top])
    (by rw [lg_apply A, if_pos le_rfl]; exact EReal.coe_ne_bot _)
  refine ⟨m, ?_⟩
  unfold mx
  rw [maximumf_apply, hm]
  change max (Ideal.ofBits .f32 0xFF800000#32) (m : EReal) = _
  rw [ofBits_bot]
  exact max_eq_right bot_le

/-- A row's exponentials are the head's weights, shifted by a number of the row. -/
theorem ex_row (i : Fin 8192) : ∃ x : ℝ, ∀ j : Fin 8192, ex x0 x1 (ix3 h i j) = ((H.e x i j : ℝ) : EReal) := by
  obtain ⟨m, hm⟩ := mx_apply A i
  refine ⟨H.f i - m, fun j => ?_⟩
  pointwise [ex]
  rw [hm, lg_apply A]
  unfold Head.e
  split
  · rw [← EReal.coe_sub, exp_coe]; refine coe_congr (congrArg _ ?_); ring
  · rw [bot_sub_coe, exp_bot]

variable {i : Fin 8192} {x : ℝ} (hx : ∀ j : Fin 8192, ex x0 x1 (ix3 h i j) = ((H.e x i j : ℝ) : EReal))
include hx
omit A

theorem sm_apply : sm x0 x1 (ix2 h i) = ((∑ j ∈ Finset.range 8192, H.e x i j : ℝ) : EReal) := by
  pointwise [sm]
  exact sum_real (fun j => H.e x i j) hx
theorem sm3_apply : sm3 x0 x1 (ix3 h i 0) = ((∑ j ∈ Finset.range 8192, H.e x i j : ℝ) : EReal) := by
  pointwise [sm3]
  exact sm_apply hx
theorem pr_row (j : Fin 8192) : pr x0 x1 (ix3 h i j) = ((H.P i j : ℝ) : EReal) := by
  pointwise [pr]
  rw [sm3_apply hx, hx, div_coe _ (H.sum_e_pos x i.isLt).ne', H.e_div]
theorem sq_apply : sq x0 x1 (ix3 h i 0)
    = ((1 / ((∑ j ∈ Finset.range 8192, H.e x i j) * (∑ j ∈ Finset.range 8192, H.e x i j)) : ℝ) : EReal) := by
  have hl := (H.sum_e_pos x i.isLt).ne'
  pointwise [sq]
  rw [sm3_apply hx, ← EReal.coe_mul, ← EReal.coe_one, div_coe _ (mul_ne_zero hl hl)]

include A
omit hx
theorem dp_apply (i j : Fin 8192) : dp x0 x2 (ix3 h i j) = ((H.dP i j : ℝ) : EReal) := by
  pointwise [dp]
  exact sum_real (fun d => H.g i d * H.v j d) fun d => by rw [A.g, rv_apply A, EReal.coe_mul]

include hx
theorem corr_apply : corr x0 x1 x2 (ix2 h i)
    = ((-(∑ j' ∈ Finset.range 8192, H.dP i j' * (1 / ((∑ j ∈ Finset.range 8192, H.e x i j) * (∑ j ∈ Finset.range 8192, H.e x i j))) * H.e x i j') : ℝ) : EReal) := by
  pointwise [corr]
  rw [Fin.sum_univ_one]
  rw [sum_real (fun j' => H.dP i j' * (1 / ((∑ j ∈ Finset.range 8192, H.e x i j) * (∑ j ∈ Finset.range 8192, H.e x i j))) * H.e x i j')
    fun j => by rw [dp_apply A, sq_apply hx, hx, EReal.coe_mul, EReal.coe_mul], ← EReal.coe_neg]

omit hx
theorem ds_apply (i j : Fin 8192) : ds x0 x1 x2 (ix3 h i j) = ((H.dS i j : ℝ) : EReal) := by
  obtain ⟨x, hx⟩ := ex_row A i
  pointwise [ds]
  rw [msk_apply, select_ofBool]
  split
  · rw [dp_apply A, sm3_apply hx, corr_apply A hx, hx, div_coe _ (H.sum_e_pos x i.isLt).ne', ← EReal.coe_add, ← EReal.coe_mul,
      H.dS_quot x i.isLt j rfl]
  · rw [H.dS_after (by omega)]; rfl

theorem pr_apply (i j : Fin 8192) : pr x0 x1 (ix3 h i j) = ((H.P i j : ℝ) : EReal) := by
  obtain ⟨x, hx⟩ := ex_row A i
  exact pr_row hx j

theorem ds8_apply (i j : Fin 8192) : ds8 x0 x1 x2 (ix3 h i j) = ((H.dS i j * (1 / 8) : ℝ) : EReal) := by
  pointwise [ds8]
  rw [ds_apply A, ofBits_eighth, EReal.coe_mul]

theorem outQ_apply (i : Fin 8192) (d : Fin 64) : outQ x0 x1 x2 (ix3 h i d) = ((H.dq i d : ℝ) : EReal) := by
  pointwise [outQ]
  rw [sum_real (fun j => H.dS i j * (1 / 8) * H.k j d) fun j => by rw [ds8_apply A, rk_apply A, ← EReal.coe_mul]]
  refine coe_congr ?_; rw [H.dq_def, Finset.sum_mul]; exact Finset.sum_congr rfl fun j _ => by ring
theorem outK_apply (j : Fin 8192) (d : Fin 64) : outK x0 x1 x2 (ix3 h j d) = ((H.dk j d : ℝ) : EReal) := by
  pointwise [outK]
  rw [sum_real (fun i => H.dS i j * (1 / 8) * H.q i d) fun i => by rw [ds8_apply A, rq_apply A, ← EReal.coe_mul]]
  refine coe_congr ?_; rw [H.dk_def]; exact Finset.sum_congr rfl fun j _ => by ring
theorem outV_apply (j : Fin 8192) (d : Fin 64) : outV x0 x1 x2 (ix3 h j d) = ((H.dv j d : ℝ) : EReal) := by
  pointwise [outV]
  rw [sum_real (fun i => H.P i j * H.g i d) fun i => by rw [pr_apply A, A.g, ← EReal.coe_mul, mul_comm], H.dv_def]
theorem outS_apply (i : Fin 8192) : outS x0 x1 x2 (ix3 h i 0) = ((H.qs i : ℝ) : EReal) := by
  pointwise [outS]
  rw [Fin.sum_univ_one]
  rw [sum_real (fun j => H.dS i j) fun j => ds_apply A i j, H.qs_def]

end Cert.ReferenceIdeal.Hand

end
-- ==== Proof.PreI.lean ====
/- What the precondition says: every number of the heads' queries, keys, values and decays and of the output's gradient is a
   real number, so each head's arrays are those of a head over the real numbers. -/
module

public import proofs.«01_k».proof.Defs
public import proofs.«01_k».proof.Proof.Math
public import Idealize.ShloMosaic.Lib.ReduceAll

@[expose] public section

noncomputable section

namespace Cert.Pre_finite.Hand

open Cert.Pre_finite Cert.Fox
open Idealize.ShloMosaic Idealize.ShloMosaic.TcCoe

theorem slices24 : S50x8192x64.Slices ![0, 0, 0] S24x8192x64 := by decide
theorem bits_lt : FTy.bits .bf16 < FTy.bits .f32 := by decide
theorem bcast24 : S_.BroadcastsInDim S24x8192x64 (![] : Fin 0 → Fin S24x8192x64.rank) := by decide
theorem reduces24 : S24x8192x64.ReducesTo [0, 1, 2] S_ := by decide
theorem one_pos : 0 < S_.numel := by decide
theorem bcast2 : S_.BroadcastsInDim S8x8192 (![] : Fin 0 → Fin S8x8192.rank) := by decide
theorem reduces2 : S8x8192.ReducesTo [0, 1] S_ := by decide
theorem bcast8 : S_.BroadcastsInDim S8x8192x64 (![] : Fin 0 → Fin S8x8192x64.rank) := by decide
theorem reduces8 : S8x8192x64.ReducesTo [0, 1, 2] S_ := by decide

instance facts : Cert.Pre_finite.Facts where
  slices_S50x8192x64_S24x8192x64_0_0_0 := slices24
  bitsLt_bf16_f32 := bits_lt
  bcast_S_S24x8192x64 := bcast24
  reducesTo_S24x8192x64_S_d0_1_2 := reduces24
  h_S_ := one_pos
  bcast_S_S8x8192 := bcast2
  reducesTo_S8x8192_S_d0_1 := reduces2
  bcast_S_S8x8192x64 := bcast8
  reducesTo_S8x8192x64_S_d0_1_2 := reduces8

instance : Subsingleton S_.Idx := ⟨fun _ _ => funext fun k => k.elim0⟩

/-- An extended real whose absolute value is less than `⊤` is a real number. -/
theorem real_of_abs {x : EReal} (h : max x (-x) < ⊤) : ((x.toReal : ℝ) : EReal) = x := by
  refine EReal.coe_toReal ?_ ?_
  · rintro rfl; simp at h
  · rintro rfl; simp at h

/-- The comparison of the precondition, read back at one number. -/
theorem real_of_cmp {x : EReal} (h : FloatOps.cmpf (F := Ideal) (φ := .f32) .olt (max x (-x)) (Ideal.ofBits .f32 0x7F800000#32) = 1#1) :
    ((x.toReal : ℝ) : EReal) = x := by
  rw [ofBits_top] at h
  refine real_of_abs ?_
  by_contra hn
  have : FloatOps.cmpf (F := Ideal) (φ := .f32) .olt (max x (-x)) (⊤ : EReal) = BitVec.ofBool (decide (max x (-x) < ⊤)) := rfl
  rw [this, decide_eq_false hn] at h
  exact absurd h (by decide)

variable {x0 : FVec Ideal S50x8192x64 .bf16} {x1 : FVec Ideal S8x8192 .f32} {x2 : FVec Ideal S8x8192x64 .f32}

/-- The heads the precondition reads are the first 24 rows of the projection. -/
theorem slice_at (h : Fin 24) (i : Fin 8192) (d : Fin 64) :
    extractStridedSlice S24x8192x64 ![0, 0, 0] x0 slices24 (ix3 h i d) = x0 (ix3 ⟨h.val, by omega⟩ i d) := by
  refine congrArg x0 (funext fun k => Fin.ext ?_)
  fin_cases k <;> simp [ix3]

/-- The three parts of the precondition. -/
theorem parts (e : fn (F := Ideal) x0 x1 x2 = fun _ => 1#1) :
    (∀ (h : Fin 24) (i : Fin 8192) (d : Fin 64), ((EReal.toReal (x0 (ix3 ⟨h.val, by omega⟩ i d)) : ℝ) : EReal) = x0 (ix3 ⟨h.val, by omega⟩ i d))
    ∧ (∀ i, ((EReal.toReal (x1 i) : ℝ) : EReal) = x1 i) ∧ ∀ i, ((EReal.toReal (x2 i) : ℝ) : EReal) = x2 i := by
  have e := congrFun e (fun k => k.elim0)
  obtain ⟨e, e2⟩ := IntOp.andi_eq_one.1 e
  obtain ⟨e0, e1⟩ := IntOp.andi_eq_one.1 e
  refine ⟨fun h i d => ?_, fun i => ?_, fun i => ?_⟩
  · have := slice_at (x0 := x0) h i d
    rw [← this]
    exact real_of_cmp (Host.reduce_andi_all _ _ _ _ _ e0 (ix3 h i d))
  · exact real_of_cmp (Host.reduce_andi_all _ _ _ _ _ e1 i)
  · exact real_of_cmp (Host.reduce_andi_all _ _ _ _ _ e2 i)

/-- An array of real numbers over a grid, read by number, zero outside. -/
def num2 (X : Fin 8192 → Fin 64 → EReal) (i d : ℕ) : ℝ := if h : i < 8192 ∧ d < 64 then EReal.toReal (X ⟨i, h.1⟩ ⟨d, h.2⟩) else 0
def num1 (X : Fin 8192 → EReal) (i : ℕ) : ℝ := if h : i < 8192 then EReal.toReal (X ⟨i, h⟩) else 0

theorem num2_at (X : Fin 8192 → Fin 64 → EReal) (i : Fin 8192) (d : Fin 64) : num2 X i d = EReal.toReal (X i d) := by
  unfold num2; rw [dif_pos ⟨i.isLt, d.isLt⟩]
theorem num1_at (X : Fin 8192 → EReal) (i : Fin 8192) : num1 X i = EReal.toReal (X i) := by
  unfold num1; rw [dif_pos i.isLt]

/-- The heads over the real numbers that the arrays hold. -/
def heads (x0 : FVec Ideal S50x8192x64 .bf16) (x1 : FVec Ideal S8x8192 .f32) (x2 : FVec Ideal S8x8192x64 .f32) (h : Fin 8) : Head where
  q := num2 fun i d => x0 (ix3 ⟨h.val, by omega⟩ i d)
  k := num2 fun i d => x0 (ix3 ⟨8 + h.val, by omega⟩ i d)
  v := num2 fun i d => x0 (ix3 ⟨16 + h.val, by omega⟩ i d)
  g := num2 fun i d => x2 (ix3 h i d)
  f := num1 fun i => x1 (ix2 h i)

theorem heads_args (e : fn (F := Ideal) x0 x1 x2 = fun _ => 1#1) (h : Fin 8) : Args x0 x1 x2 h (heads x0 x1 x2 h) where
  q i d := ((coe_congr (num2_at (fun i d => x0 (ix3 ⟨h.val, by omega⟩ i d)) i d)).trans ((parts e).1 ⟨h.val, by omega⟩ i d)).symm
  k i d := ((coe_congr (num2_at (fun i d => x0 (ix3 ⟨8 + h.val, by omega⟩ i d)) i d)).trans ((parts e).1 ⟨8 + h.val, by omega⟩ i d)).symm
  v i d := ((coe_congr (num2_at (fun i d => x0 (ix3 ⟨16 + h.val, by omega⟩ i d)) i d)).trans ((parts e).1 ⟨16 + h.val, by omega⟩ i d)).symm
  f i := ((coe_congr (num1_at (fun i => x1 (ix2 h i)) i)).trans ((parts e).2.1 (ix2 h i))).symm
  g i d := ((coe_congr (num2_at (fun i d => x2 (ix3 h i d)) i d)).trans ((parts e).2.2 (ix3 h i d))).symm

end Cert.Pre_finite.Hand

end
-- ==== Proof.Halves.lean ====
/- Two halves laid side by side: the column of the wide array a half's column stands at. -/
module

public import Idealize.ShloMosaic.Lib.Pipeline.ValueKit
public import Idealize.ShloMosaic.Lib.Pointwise

@[expose] public section

noncomputable section

namespace Cert.Halves

open Idealize.ShloMosaic

/-- The halves padded with zeros to the wide array and added: at a column, the half it lies in. -/
theorem add_pads (d : (⟨3, ![2, 8192, 2816]⟩ : Shape).Idx → EReal) (k : Fin 8192) (j : ℕ) (hj : j < 5632) :
    ((if h : 2816 ≤ j ∧ j - 2816 < 2816 then d (ix3 1 k ⟨j - 2816, h.2⟩) else 0) + if h : j < 2816 then d (ix3 0 k ⟨j, h⟩) else 0)
      = d (ix3 ⟨j / 2816, by omega⟩ k ⟨j % 2816, by omega⟩) := by
  by_cases h : j < 2816
  · rw [dif_neg (by omega), dif_pos h, zero_add]
    congr 1
    blk_ext []
  · rw [dif_pos (by omega), dif_neg h, add_zero]
    congr 1
    blk_ext []

theorem add_congr {a b x y : EReal} (h : a = b) (hs : x = y) : a + x = b + y := by rw [h, hs]

/-- A number plus a sum, term by term. -/
theorem add_sum_congr {n : ℕ} {a b : EReal} {F G : Fin n → EReal} (h : a = b) (hs : ∀ k, F k = G k) :
    a + ∑ k, F k = b + ∑ k, G k := by
  rw [h, Finset.sum_congr rfl fun k _ => hs k]

end Cert.Halves

end
-- ==== Proof.DwUp.lean ====
/- The gradient of the up projection's weights: the launch's result at an index, and the plain product it equals. -/
module

public import proofs.«01_k».proof.Proof.Gen.Kernel2Ideal.Value
public import proofs.«01_k».proof.Proof.Gen.Reference2Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel2Ideal.Hand

open Cert.Kernel2Ideal Cert.Kernel2Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x1024 .bf16) (x1 : Vec Ideal S1x1024x1408 .bf16) (j : S1024x1408.Idx) : EReal :=
  ∑ k : Fin 1024, x0 (ix2 k (j 0)) * x1 (ix3 0 k (j 1))

theorem pay2_apply (acc : Vec Ideal S1024x1408 .f32) (x0 : Vec Ideal S1024x1024 .bf16) (x1 : Vec Ideal S1x1024x1408 .bf16) (j : S1024x1408.Idx) :
    k0_pay2 (F := Ideal) acc x0 x1 j = acc j + part x0 x1 j := by
  pointwise [k0_pay2]
  rfl
theorem pay1_apply (j : S1024x1408.Idx) : k0_pay1 (F := Ideal) j = (0 : EReal) := by
  pointwise [k0_pay1]
  done

theorem idx0 : ∀ t : Fin cfg0.N, win0_0.index t = ![t.val % 8, 0] := (by decide +kernel : ∀ t : Fin grid0.N, _)
theorem idx1 : ∀ t : Fin cfg0.N, win0_1.index t = ![t.val / 8 / 2, t.val % 8, t.val / 8 % 2] := (by decide +kernel : ∀ t : Fin grid0.N, _)
theorem idx2 : ∀ t : Fin cfg0.N, win0_2.index t = ![0, t.val / 8] := (by decide +kernel : ∀ t : Fin grid0.N, _)

/-- The gradient of the projection's weights: at column `j` of both halves side by side, half `j / 2816`'s column `j % 2816`. -/
def G (h : Vec Ideal S8192x1024 .bf16) (d : Vec Ideal S2x8192x2816 .bf16) : Vec Ideal S1024x5632 .f32 := fun y =>
  ∑ k : Fin 8192, h (ix2 k (y 0)) * d (ix3 ⟨(y 1).val / 2816, by have : (y 1).val < 5632 := (y 1).isLt; omega⟩ k ⟨(y 1).val % 2816, by omega⟩)

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have hr := (flush0_2 t).mp hf
  have ht : t.val < 32 := t.isLt
  have hy : (y 1).val < 1408 := (y 1).isLt
  have e : (((cfg0.win 2).blk t).view.emb y : S1024x5632.Idx) = ix2 (y 0) ⟨1408 * (t.val / 8) + (y 1).val, by omega⟩ := by
    blk_ext [idx2 t]
  rw [e]
  have h1 : (outsAt0 m c t.val t.isLt).1 = (outsAt0 m c t.val t.isLt).2 := by
    rw [outsAt0_C m c t (by omega) hr]; frame_out
  show (outsAt0 m c t.val t.isLt).1 y = _
  rw [h1, Pipeline.eq_sum_fin_of_reset_step_apply_of_flush (fun n h => (outsAt0 m c n h).2) 8 (fun _ => (0 : EReal))
    (fun t j => part (iblk m c 0 t) (iblk m c 1 t) j)
    (fun t h j => by rw [outsAt0_A m c t h (by omega)]; frame_out; rw [pay2_apply, pay1_apply])
    (fun t h j => by
      by_cases h1 : t.val % 8 = 7
      · rw [outsAt0_C m c t h h1]; frame_out; simp only [read_unread_whole]; rw [pay2_apply]
      · rw [outsAt0_B m c t h h1]; frame_out; simp only [read_unread_whole]; rw [pay2_apply]) t hr y, zero_add]
  unfold part G
  refine Fin.sum_mul_add_congr fun s k hl => ?_
  have hs := Pipeline.run_point_lt_of_flush t hr s
  congr 1
  · blk_ext [iblk, V, idx0 ⟨_, hs⟩]
  · blk_ext [iblk, V, idx1 ⟨_, hs⟩]

end Cert.Kernel2Ideal.Hand

namespace Cert.Reference2Ideal.Hand

open Cert.Reference2Ideal Cert.Reference2Ideal.Gen
open Idealize.ShloMosaic Idealize.ShloMosaic.TcCoe

theorem res (h : Vec Ideal S8192x1024 .bf16) (d : Vec Ideal S2x8192x2816 .bf16) :
    (transpose S1024x5632 [1, 0] (Host.dotGeneral dot_S8192x5632_S8192x1024_S5632x1024_0_0_1_1_n_n none (addf (pad S8192x5632 ![0, 2816] ![0, 0] ![0, 0] (shapeCast _ (extractStridedSlice S1x8192x2816 ![1, 0, 0] (extf .f32 d bitsLt_bf16_f32) slices_S2x8192x2816_S1x8192x2816_1_0_0) shapeCasts_S1x8192x2816_S8192x2816) (constant S_ .f32 0x00000000#32) pads_S8192x2816_S8192x5632_000_281600 h_S_) (pad S8192x5632 ![0, 0] ![0, 2816] ![0, 0] (shapeCast _ (extractStridedSlice S1x8192x2816 ![0, 0, 0] (extf .f32 d bitsLt_bf16_f32) slices_S2x8192x2816_S1x8192x2816_0_0_0) shapeCasts_S1x8192x2816_S8192x2816) (constant S_ .f32 0x00000000#32) pads_S8192x2816_S8192x5632_000_028160 h_S_)) (extf .f32 h bitsLt_bf16_f32)) transposes_S5632x1024_S1024x5632_1_0 : FVec Ideal S1024x5632 .f32)
      = Cert.Kernel2Ideal.Hand.G h d := by
  funext y
  pointwise [Cert.Kernel2Ideal.Hand.G]
  exact Finset.sum_congr rfl fun k _ => (mul_comm _ _).trans (congrArg _ (Cert.Halves.add_pads d k _ (y 1).isLt))

end Cert.Reference2Ideal.Hand

end
-- ==== Proof.DH2.lean ====
/- The gradient of the up projection's input. -/
module

public import proofs.«01_k».proof.Proof.Gen.Kernel3Ideal.Value
public import proofs.«01_k».proof.Proof.Gen.Reference3Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel3Ideal.Hand

open Cert.Kernel3Ideal Cert.Kernel3Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1x1024x1408 .bf16) (x1 : Vec Ideal S1024x1408 .bf16) (j : S1024x1024.Idx) : EReal :=
  ∑ k : Fin 1408, x0 (ix3 0 (j 0) k) * x1 (ix2 (j 1) k)

theorem pay1_apply (j : S1024x1024.Idx) : k0_pay1 (F := Ideal) j = (0 : EReal) := by
  pointwise [k0_pay1]
theorem pay2_apply (acc : Vec Ideal S1024x1024 .f32) (x0 : Vec Ideal S1x1024x1408 .bf16) (x1 : Vec Ideal S1024x1408 .bf16) (j : S1024x1024.Idx) :
    k0_pay2 (F := Ideal) acc x0 x1 j = acc j + part x0 x1 j := by
  pointwise [k0_pay2]
  rfl

theorem idx0 : ∀ t : Fin cfg0.N, win0_0.index t = ![t.val % 4 / 2, t.val / 4, t.val % 4 % 2] := (by decide +kernel : ∀ t : Fin grid0.N, _)
theorem idx1 : ∀ t : Fin cfg0.N, win0_1.index t = ![0, t.val % 4] := (by decide +kernel : ∀ t : Fin grid0.N, _)
theorem idx2 : ∀ t : Fin cfg0.N, win0_2.index t = ![t.val / 4, 0] := (by decide +kernel : ∀ t : Fin grid0.N, _)

/-- The product of both halves side by side with the transposed weights. -/
def G (x : Vec Ideal S2x8192x2816 .bf16) (w : Vec Ideal S1024x5632 .bf16) : Vec Ideal S8192x1024 .f32 := fun y =>
  ∑ k : Fin 5632, x (ix3 ⟨k.val / 2816, by omega⟩ (y 0) ⟨k.val % 2816, by omega⟩) * w (ix2 (y 1) k)

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have hr := (flush0_2 t).mp hf
  have ht : t.val < 32 := t.isLt
  have hy0 : (y 0).val < 1024 := (y 0).isLt
  have hy1 : (y 1).val < 1024 := (y 1).isLt
  have e : (((cfg0.win 2).blk t).view.emb y : S8192x1024.Idx) = ix2 ⟨1024 * (t.val / 4) + (y 0).val, by omega⟩ (y 1) := by
    blk_ext [idx2 t]
  rw [e]
  have h1 : (outsAt0 m c t.val t.isLt).1 = (outsAt0 m c t.val t.isLt).2 := by
    rw [outsAt0_C m c t (by omega) hr]; frame_out
  show (outsAt0 m c t.val t.isLt).1 y = _
  rw [h1, Pipeline.eq_sum_fin_of_reset_step_apply_of_flush (fun n h => (outsAt0 m c n h).2) 4 (fun _ => (0 : EReal))
    (fun t j => part (iblk m c 0 t) (iblk m c 1 t) j)
    (fun t h j => by rw [outsAt0_A m c t h (by omega)]; frame_out; rw [pay2_apply, pay1_apply])
    (fun t h j => by
      by_cases h1 : t.val % 4 = 3
      · rw [outsAt0_C m c t h h1]; frame_out; simp only [read_unread_whole]; rw [pay2_apply]
      · rw [outsAt0_B m c t h h1]; frame_out; simp only [read_unread_whole]; rw [pay2_apply]) t hr y, zero_add]
  unfold part G
  refine Fin.sum_mul_add_congr fun s k hl => ?_
  have hs := Pipeline.run_point_lt_of_flush t hr s
  congr 1
  · blk_ext [iblk, V, idx0 ⟨_, hs⟩]
  · blk_ext [iblk, V, idx1 ⟨_, hs⟩]

end Cert.Kernel3Ideal.Hand

namespace Cert.Reference3Ideal.Hand

open Cert.Reference3Ideal Cert.Reference3Ideal.Gen
open Idealize.ShloMosaic Idealize.ShloMosaic.TcCoe

theorem res (x : Vec Ideal S2x8192x2816 .bf16) (w : Vec Ideal S1024x5632 .bf16) :
    (Host.dotGeneral dot_S8192x5632_S1024x5632_S8192x1024_1_1_0_0_n_n none (addf (pad S8192x5632 ![0, 2816] ![0, 0] ![0, 0] (shapeCast _ (extractStridedSlice S1x8192x2816 ![1, 0, 0] (extf .f32 x bitsLt_bf16_f32) slices_S2x8192x2816_S1x8192x2816_1_0_0) shapeCasts_S1x8192x2816_S8192x2816) (constant S_ .f32 0x00000000#32) pads_S8192x2816_S8192x5632_000_281600 h_S_) (pad S8192x5632 ![0, 0] ![0, 2816] ![0, 0] (shapeCast _ (extractStridedSlice S1x8192x2816 ![0, 0, 0] (extf .f32 x bitsLt_bf16_f32) slices_S2x8192x2816_S1x8192x2816_0_0_0) shapeCasts_S1x8192x2816_S8192x2816) (constant S_ .f32 0x00000000#32) pads_S8192x2816_S8192x5632_000_028160 h_S_)) (extf .f32 w bitsLt_bf16_f32) : FVec Ideal S8192x1024 .f32)
      = Cert.Kernel3Ideal.Hand.G x w := by
  funext y
  pointwise [Cert.Kernel3Ideal.Hand.G]
  exact Finset.sum_congr rfl fun k _ => congrArg (· * _) (Cert.Halves.add_pads x _ k k.isLt)

end Cert.Reference3Ideal.Hand

end
-- ==== Proof.DwDown.lean ====
/- The gradient of the down projection's weights. -/
module

public import proofs.«01_k».proof.Proof.Gen.Kernel4Ideal.Value
public import proofs.«01_k».proof.Proof.Gen.Reference4Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel4Ideal.Hand

open Cert.Kernel4Ideal Cert.Kernel4Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x1408 .bf16) (x1 : Vec Ideal S1024x1024 .bf16) (j : S1408x1024.Idx) : EReal :=
  ∑ k : Fin 1024, x0 (ix2 k (j 0)) * x1 (ix2 k (j 1))

theorem pay1_apply (j : S1408x1024.Idx) : k0_pay1 (F := Ideal) j = (0 : EReal) := by
  pointwise [k0_pay1]
theorem pay2_apply (acc : Vec Ideal S1408x1024 .f32) (x0 : Vec Ideal S1024x1408 .bf16) (x1 : Vec Ideal S1024x1024 .bf16) (j : S1408x1024.Idx) :
    k0_pay2 (F := Ideal) acc x0 x1 j = acc j + part x0 x1 j := by
  pointwise [k0_pay2]
  rfl

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val / 8, 0] := (by decide +kernel : ∀ t : Fin grid0.N, _)

/-- The product of the transposed activations with the gradient. -/
def G (x : Vec Ideal S8192x2816 .bf16) (w : Vec Ideal S8192x1024 .bf16) : Vec Ideal S2816x1024 .f32 := fun y =>
  ∑ k : Fin 8192, x (ix2 k (y 0)) * w (ix2 k (y 1))

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have hr := (flush0_2 t).mp hf
  have ht : t.val < 16 := t.isLt
  have hy0 : (y 0).val < 1408 := (y 0).isLt
  have hy1 : (y 1).val < 1024 := (y 1).isLt
  have e : (((cfg0.win 2).blk t).view.emb y : S2816x1024.Idx) = ix2 ⟨1408 * (t.val / 8) + (y 0).val, by omega⟩ (y 1) := by
    blk_ext [idx2 t]
  rw [e]
  have h1 : (outsAt0 m c t.val t.isLt).1 = (outsAt0 m c t.val t.isLt).2 := by
    rw [outsAt0_C m c t (by omega) hr]; frame_out
  show (outsAt0 m c t.val t.isLt).1 y = _
  rw [h1, Pipeline.eq_sum_fin_of_reset_step_apply_of_flush (fun n h => (outsAt0 m c n h).2) 8 (fun _ => (0 : EReal))
    (fun t j => part (iblk m c 0 t) (iblk m c 1 t) j)
    (fun t h j => by rw [outsAt0_A m c t h (by omega)]; frame_out; rw [pay2_apply, pay1_apply])
    (fun t h j => by
      by_cases h1 : t.val % 8 = 7
      · rw [outsAt0_C m c t h h1]; frame_out; simp only [read_unread_whole]; rw [pay2_apply]
      · rw [outsAt0_B m c t h h1]; frame_out; simp only [read_unread_whole]; rw [pay2_apply]) t hr y, zero_add]
  unfold part G
  refine Fin.sum_mul_add_congr fun s k hl => ?_
  have hs := Pipeline.run_point_lt_of_flush t hr s
  congr 1
  · blk_ext [iblk, V, idx0 ⟨_, hs⟩]
  · blk_ext [iblk, V, idx1 ⟨_, hs⟩]

end Cert.Kernel4Ideal.Hand

namespace Cert.Reference4Ideal.Hand

open Cert.Reference4Ideal Cert.Reference4Ideal.Gen
open Idealize.ShloMosaic Idealize.ShloMosaic.TcCoe

theorem res (x : Vec Ideal S8192x2816 .bf16) (w : Vec Ideal S8192x1024 .bf16) :
    (transpose S2816x1024 [1, 0] (Host.dotGeneral dot_S8192x1024_S8192x2816_S1024x2816_0_0_1_1_n_n none (extf .f32 w bitsLt_bf16_f32) (extf .f32 x bitsLt_bf16_f32)) transposes_S1024x2816_S2816x1024_1_0 : FVec Ideal S2816x1024 .f32)
      = Cert.Kernel4Ideal.Hand.G x w := by
  funext y
  pointwise [Cert.Kernel4Ideal.Hand.G]
  exact Finset.sum_congr rfl fun k _ => mul_comm _ _

end Cert.Reference4Ideal.Hand

end
-- ==== Proof.DwIn.lean ====
/- The gradient of the input projection's weights. -/
module

public import proofs.«01_k».proof.Proof.Gen.Kernel5Ideal.Value
public import proofs.«01_k».proof.Proof.Gen.Reference5Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel5Ideal.Hand

open Cert.Kernel5Ideal Cert.Kernel5Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x1024 .bf16) (x1 : Vec Ideal S1024x640 .bf16) (j : S1024x640.Idx) : EReal :=
  ∑ k : Fin 1024, x0 (ix2 k (j 0)) * x1 (ix2 k (j 1))

theorem pay1_apply (j : S1024x640.Idx) : k0_pay1 (F := Ideal) j = (0 : EReal) := by
  pointwise [k0_pay1]
theorem pay2_apply (acc : Vec Ideal S1024x640 .f32) (x0 : Vec Ideal S1024x1024 .bf16) (x1 : Vec Ideal S1024x640 .bf16) (j : S1024x640.Idx) :
    k0_pay2 (F := Ideal) acc x0 x1 j = acc j + part x0 x1 j := by
  pointwise [k0_pay2]
  rfl

theorem idx0 : ∀ t : Fin cfg0.N, win0_0.index t = ![t.val % 8, 0] := (by decide +kernel : ∀ t : Fin grid0.N, _)
theorem idx1 : ∀ t : Fin cfg0.N, win0_1.index t = ![t.val % 8, t.val / 8] := (by decide +kernel : ∀ t : Fin grid0.N, _)
theorem idx2 : ∀ t : Fin cfg0.N, win0_2.index t = ![0, t.val / 8] := (by decide +kernel : ∀ t : Fin grid0.N, _)

/-- The product of the transposed activations with the gradient. -/
def G (x : Vec Ideal S8192x1024 .bf16) (w : Vec Ideal S8192x3200 .bf16) : Vec Ideal S1024x3200 .f32 := fun y =>
  ∑ k : Fin 8192, x (ix2 k (y 0)) * w (ix2 k (y 1))

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have hr := (flush0_2 t).mp hf
  have ht : t.val < 40 := t.isLt
  have hy0 : (y 0).val < 1024 := (y 0).isLt
  have hy1 : (y 1).val < 640 := (y 1).isLt
  have e : (((cfg0.win 2).blk t).view.emb y : S1024x3200.Idx) = ix2 (y 0) ⟨640 * (t.val / 8) + (y 1).val, by omega⟩ := by
    blk_ext [idx2 t]
  rw [e]
  have h1 : (outsAt0 m c t.val t.isLt).1 = (outsAt0 m c t.val t.isLt).2 := by
    rw [outsAt0_C m c t (by omega) hr]; frame_out
  show (outsAt0 m c t.val t.isLt).1 y = _
  rw [h1, Pipeline.eq_sum_fin_of_reset_step_apply_of_flush (fun n h => (outsAt0 m c n h).2) 8 (fun _ => (0 : EReal))
    (fun t j => part (iblk m c 0 t) (iblk m c 1 t) j)
    (fun t h j => by rw [outsAt0_A m c t h (by omega)]; frame_out; rw [pay2_apply, pay1_apply])
    (fun t h j => by
      by_cases h1 : t.val % 8 = 7
      · rw [outsAt0_C m c t h h1]; frame_out; simp only [read_unread_whole]; rw [pay2_apply]
      · rw [outsAt0_B m c t h h1]; frame_out; simp only [read_unread_whole]; rw [pay2_apply]) t hr y, zero_add]
  unfold part G
  refine Fin.sum_mul_add_congr fun s k hl => ?_
  have hs := Pipeline.run_point_lt_of_flush t hr s
  congr 1
  · blk_ext [iblk, V, idx0 ⟨_, hs⟩]
  · blk_ext [iblk, V, idx1 ⟨_, hs⟩]

end Cert.Kernel5Ideal.Hand

namespace Cert.Reference5Ideal.Hand

open Cert.Reference5Ideal Cert.Reference5Ideal.Gen
open Idealize.ShloMosaic Idealize.ShloMosaic.TcCoe

theorem res (x : Vec Ideal S8192x1024 .bf16) (w : Vec Ideal S8192x3200 .bf16) :
    (transpose S1024x3200 [1, 0] (Host.dotGeneral dot_S8192x3200_S8192x1024_S3200x1024_0_0_1_1_n_n none (extf .f32 w bitsLt_bf16_f32) (extf .f32 x bitsLt_bf16_f32)) transposes_S3200x1024_S1024x3200_1_0 : FVec Ideal S1024x3200 .f32)
      = Cert.Kernel5Ideal.Hand.G x w := by
  funext y
  pointwise [Cert.Kernel5Ideal.Hand.G]
  exact Finset.sum_congr rfl fun k _ => mul_comm _ _

end Cert.Reference5Ideal.Hand

end
-- ==== Proof.DwOut.lean ====
/- The gradient of the output projection's weights. -/
module

public import proofs.«01_k».proof.Proof.Gen.Kernel6Ideal.Value
public import proofs.«01_k».proof.Proof.Gen.Reference6Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel6Ideal.Hand

open Cert.Kernel6Ideal Cert.Kernel6Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x1024 .bf16) (x1 : Vec Ideal S1024x1024 .bf16) (j : S1024x1024.Idx) : EReal :=
  ∑ k : Fin 1024, x0 (ix2 k (j 0)) * x1 (ix2 k (j 1))

theorem pay1_apply (j : S1024x1024.Idx) : k0_pay1 (F := Ideal) j = (0 : EReal) := by
  pointwise [k0_pay1]
theorem pay2_apply (acc : Vec Ideal S1024x1024 .f32) (x0 : Vec Ideal S1024x1024 .bf16) (x1 : Vec Ideal S1024x1024 .bf16) (j : S1024x1024.Idx) :
    k0_pay2 (F := Ideal) acc x0 x1 j = acc j + part x0 x1 j := by
  pointwise [k0_pay2]
  rfl

theorem idx0 : ∀ t : Fin cfg0.N, win0_0.index t = ![t.val % 8, 0] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![0, 0] := (by decide +kernel : ∀ t : Fin grid0.N, _)

/-- The product of the transposed activations with the gradient. -/
def G (x : Vec Ideal S8192x1024 .bf16) (w : Vec Ideal S8192x1024 .bf16) : Vec Ideal S1024x1024 .f32 := fun y =>
  ∑ k : Fin 8192, x (ix2 k (y 0)) * w (ix2 k (y 1))

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have hr := (flush0_2 t).mp hf
  have ht : t.val < 8 := t.isLt
  have hy0 : (y 0).val < 1024 := (y 0).isLt
  have hy1 : (y 1).val < 1024 := (y 1).isLt
  have e : (((cfg0.win 2).blk t).view.emb y : S1024x1024.Idx) = ix2 (y 0) (y 1) := by
    blk_ext [idx2 t]
  rw [e]
  have h1 : (outsAt0 m c t.val t.isLt).1 = (outsAt0 m c t.val t.isLt).2 := by
    rw [outsAt0_C m c t (by omega) hr]; frame_out
  show (outsAt0 m c t.val t.isLt).1 y = _
  rw [h1, Pipeline.eq_sum_fin_of_reset_step_apply_of_flush (fun n h => (outsAt0 m c n h).2) 8 (fun _ => (0 : EReal))
    (fun t j => part (iblk m c 0 t) (iblk m c 1 t) j)
    (fun t h j => by rw [outsAt0_A m c t h (by omega)]; frame_out; rw [pay2_apply, pay1_apply])
    (fun t h j => by
      by_cases h1 : t.val % 8 = 7
      · rw [outsAt0_C m c t h h1]; frame_out; simp only [read_unread_whole]; rw [pay2_apply]
      · rw [outsAt0_B m c t h h1]; frame_out; simp only [read_unread_whole]; rw [pay2_apply]) t hr y, zero_add]
  unfold part G
  refine Fin.sum_mul_add_congr fun s k hl => ?_
  have hs := Pipeline.run_point_lt_of_flush t hr s
  congr 1
  · blk_ext [iblk, V, idx0 ⟨_, hs⟩]
  · blk_ext [iblk, V, idx1 ⟨_, hs⟩]

end Cert.Kernel6Ideal.Hand

namespace Cert.Reference6Ideal.Hand

open Cert.Reference6Ideal Cert.Reference6Ideal.Gen
open Idealize.ShloMosaic Idealize.ShloMosaic.TcCoe

theorem res (x : Vec Ideal S8192x1024 .bf16) (w : Vec Ideal S8192x1024 .bf16) :
    (transpose S1024x1024 [1, 0] (Host.dotGeneral dot_S8192x1024_S8192x1024_S1024x1024_0_0_1_1_n_n none (extf .f32 w bitsLt_bf16_f32) (extf .f32 x bitsLt_bf16_f32)) transposes_S1024x1024_S1024x1024_1_0 : FVec Ideal S1024x1024 .f32)
      = Cert.Kernel6Ideal.Hand.G x w := by
  funext y
  pointwise [Cert.Kernel6Ideal.Hand.G]
  exact Finset.sum_congr rfl fun k _ => mul_comm _ _

end Cert.Reference6Ideal.Hand

end
-- ==== Proof.DH1.lean ====
/- The gradient of the input projection's input. -/
module

public import proofs.«01_k».proof.Proof.Gen.Kernel7Ideal.Value
public import proofs.«01_k».proof.Proof.Gen.Reference7Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel7Ideal.Hand

open Cert.Kernel7Ideal Cert.Kernel7Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x640 .bf16) (x1 : Vec Ideal S1024x640 .bf16) (j : S1024x1024.Idx) : EReal :=
  ∑ k : Fin 640, x0 (ix2 (j 0) k) * x1 (ix2 (j 1) k)

theorem pay1_apply (j : S1024x1024.Idx) : k0_pay1 (F := Ideal) j = (0 : EReal) := by
  pointwise [k0_pay1]
theorem pay2_apply (acc : Vec Ideal S1024x1024 .f32) (x0 : Vec Ideal S1024x640 .bf16) (x1 : Vec Ideal S1024x640 .bf16) (j : S1024x1024.Idx) :
    k0_pay2 (F := Ideal) acc x0 x1 j = acc j + part x0 x1 j := by
  pointwise [k0_pay2]
  rfl

theorem idx0 : ∀ t : Fin cfg0.N, win0_0.index t = ![t.val / 5, t.val % 5] := (by decide +kernel : ∀ t : Fin grid0.N, _)
theorem idx1 : ∀ t : Fin cfg0.N, win0_1.index t = ![0, t.val % 5] := (by decide +kernel : ∀ t : Fin grid0.N, _)
theorem idx2 : ∀ t : Fin cfg0.N, win0_2.index t = ![t.val / 5, 0] := (by decide +kernel : ∀ t : Fin grid0.N, _)

/-- The product of the gradient with the transposed weights. -/
def G (x : Vec Ideal S8192x3200 .bf16) (w : Vec Ideal S1024x3200 .bf16) : Vec Ideal S8192x1024 .f32 := fun y =>
  ∑ k : Fin 3200, x (ix2 (y 0) k) * w (ix2 (y 1) k)

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have hr := (flush0_2 t).mp hf
  have ht : t.val < 40 := t.isLt
  have hy0 : (y 0).val < 1024 := (y 0).isLt
  have hy1 : (y 1).val < 1024 := (y 1).isLt
  have e : (((cfg0.win 2).blk t).view.emb y : S8192x1024.Idx) = ix2 ⟨1024 * (t.val / 5) + (y 0).val, by omega⟩ (y 1) := by
    blk_ext [idx2 t]
  rw [e]
  have h1 : (outsAt0 m c t.val t.isLt).1 = (outsAt0 m c t.val t.isLt).2 := by
    rw [outsAt0_C m c t (by omega) hr]; frame_out
  show (outsAt0 m c t.val t.isLt).1 y = _
  rw [h1, Pipeline.eq_sum_fin_of_reset_step_apply_of_flush (fun n h => (outsAt0 m c n h).2) 5 (fun _ => (0 : EReal))
    (fun t j => part (iblk m c 0 t) (iblk m c 1 t) j)
    (fun t h j => by rw [outsAt0_A m c t h (by omega)]; frame_out; rw [pay2_apply, pay1_apply])
    (fun t h j => by
      by_cases h1 : t.val % 5 = 4
      · rw [outsAt0_C m c t h h1]; frame_out; simp only [read_unread_whole]; rw [pay2_apply]
      · rw [outsAt0_B m c t h h1]; frame_out; simp only [read_unread_whole]; rw [pay2_apply]) t hr y, zero_add]
  unfold part G
  refine Fin.sum_mul_add_congr fun s k hl => ?_
  have hs := Pipeline.run_point_lt_of_flush t hr s
  congr 1
  · blk_ext [iblk, V, idx0 ⟨_, hs⟩]
  · blk_ext [iblk, V, idx1 ⟨_, hs⟩]

end Cert.Kernel7Ideal.Hand

namespace Cert.Reference7Ideal.Hand

open Cert.Reference7Ideal Cert.Reference7Ideal.Gen
open Idealize.ShloMosaic Idealize.ShloMosaic.TcCoe

theorem res (x : Vec Ideal S8192x3200 .bf16) (w : Vec Ideal S1024x3200 .bf16) :
    (Host.dotGeneral dot_S8192x3200_S1024x3200_S8192x1024_1_1_0_0_n_n none (extf .f32 x bitsLt_bf16_f32) (extf .f32 w bitsLt_bf16_f32) : FVec Ideal S8192x1024 .f32)
      = Cert.Kernel7Ideal.Hand.G x w := by
  funext y
  pointwise [Cert.Kernel7Ideal.Hand.G]

end Cert.Reference7Ideal.Hand

end
-- ==== Proof.DAct.lean ====
/- The gradient of the down projection's input. -/
module

public import proofs.«01_k».proof.Proof.Gen.Kernel8Ideal.Value
public import proofs.«01_k».proof.Proof.Gen.Reference8Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel8Ideal.Hand

open Cert.Kernel8Ideal Cert.Kernel8Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x1024 .bf16) (x1 : Vec Ideal S1408x1024 .bf16) (j : S1024x1408.Idx) : EReal :=
  ∑ k : Fin 1024, x0 (ix2 (j 0) k) * x1 (ix2 (j 1) k)

theorem pay1_apply (j : S1024x1408.Idx) : k0_pay1 (F := Ideal) j = (0 : EReal) := by
  pointwise [k0_pay1]
theorem pay2_apply (acc : Vec Ideal S1024x1408 .f32) (x0 : Vec Ideal S1024x1024 .bf16) (x1 : Vec Ideal S1408x1024 .bf16) (j : S1024x1408.Idx) :
    k0_pay2 (F := Ideal) acc x0 x1 j = acc j + part x0 x1 j := by
  pointwise [k0_pay2]
  rfl

theorem idx0 : ∀ t : Fin cfg0.N, win0_0.index t = ![t.val / 2, 0] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, t.val % 2] := (by decide +kernel : ∀ t : Fin grid0.N, _)

theorem pay3_apply (v : Vec Ideal S1024x1408 .f32) (j : S1024x1408.Idx) : (k0_pay3 (F := Ideal) v j : EReal) = v j := by
  pointwise [k0_pay3]
theorem out_eq : outsAt0 m c t = fun j : S1024x1408.Idx => part (iblk m c 0 t) (iblk m c 1 t) j := by
  have e : outsAt0 m c t = k0_pay3 (F := Ideal) (k0_pay2 (F := Ideal) (k0_pay1 (F := Ideal)) (iblk m c 0 t) (iblk m c 1 t)) := by
    unfold outsAt0; frame_out
  funext j
  rw [e, pay3_apply, pay2_apply, pay1_apply, zero_add]

/-- The product of the gradient with the transposed weights. -/
def G (x : Vec Ideal S8192x1024 .bf16) (w : Vec Ideal S2816x1024 .bf16) : Vec Ideal S8192x2816 .bf16 := fun y =>
  ∑ k : Fin 1024, x (ix2 (y 0) k) * w (ix2 (y 1) k)

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have ht : t.val < 16 := t.isLt
  have hy0 : (y 0).val < 1024 := (y 0).isLt
  have hy1 : (y 1).val < 1408 := (y 1).isLt
  have e : (((cfg0.win 2).blk t).view.emb y : S8192x2816.Idx) = ix2 ⟨1024 * (t.val / 2) + (y 0).val, by omega⟩ ⟨1408 * (t.val % 2) + (y 1).val, by omega⟩ := by
    blk_ext [idx2 t]
  rw [e]
  rw [after0_2, out_eq]
  unfold part G
  refine Fin.sum_fin_congr fun k => ?_
  congr 1
  · blk_ext [iblk, V, idx0 t]
  · blk_ext [iblk, V, idx1 t]

end Cert.Kernel8Ideal.Hand

namespace Cert.Reference8Ideal.Hand

open Cert.Reference8Ideal Cert.Reference8Ideal.Gen
open Idealize.ShloMosaic Idealize.ShloMosaic.TcCoe

theorem res (x : Vec Ideal S8192x1024 .bf16) (w : Vec Ideal S2816x1024 .bf16) :
    (truncf .bf16 (Host.dotGeneral dot_S8192x1024_S2816x1024_S8192x2816_1_1_0_0_n_n none (extf .f32 x bitsLt_bf16_f32) (extf .f32 w bitsLt_bf16_f32)) bitsLt_bf16_f32 : FVec Ideal S8192x2816 .bf16)
      = Cert.Kernel8Ideal.Hand.G x w := by
  funext y
  pointwise [Cert.Kernel8Ideal.Hand.G]

end Cert.Reference8Ideal.Hand

end
-- ==== Proof.DOn.lean ====
/- The gradient of the output projection's input. -/
module

public import proofs.«01_k».proof.Proof.Gen.Kernel9Ideal.Value
public import proofs.«01_k».proof.Proof.Gen.Reference9Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel9Ideal.Hand

open Cert.Kernel9Ideal Cert.Kernel9Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x1024 .bf16) (x1 : Vec Ideal S1024x1024 .bf16) (j : S1024x1024.Idx) : EReal :=
  ∑ k : Fin 1024, x0 (ix2 (j 0) k) * x1 (ix2 (j 1) k)

theorem pay1_apply (j : S1024x1024.Idx) : k0_pay1 (F := Ideal) j = (0 : EReal) := by
  pointwise [k0_pay1]
theorem pay2_apply (acc : Vec Ideal S1024x1024 .f32) (x0 : Vec Ideal S1024x1024 .bf16) (x1 : Vec Ideal S1024x1024 .bf16) (j : S1024x1024.Idx) :
    k0_pay2 (F := Ideal) acc x0 x1 j = acc j + part x0 x1 j := by
  pointwise [k0_pay2]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem out_eq : outsAt0 m c t = fun j : S1024x1024.Idx => part (iblk m c 0 t) (iblk m c 1 t) j := by
  have e : outsAt0 m c t = (k0_pay2 (F := Ideal) (k0_pay1 (F := Ideal)) (iblk m c 0 t) (iblk m c 1 t)) := by
    unfold outsAt0; frame_out
  funext j
  rw [e, pay2_apply, pay1_apply, zero_add]

/-- The product of the gradient with the transposed weights. -/
def G (x : Vec Ideal S8192x1024 .bf16) (w : Vec Ideal S1024x1024 .bf16) : Vec Ideal S8192x1024 .f32 := fun y =>
  ∑ k : Fin 1024, x (ix2 (y 0) k) * w (ix2 (y 1) k)

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have ht : t.val < 8 := t.isLt
  have hy0 : (y 0).val < 1024 := (y 0).isLt
  have hy1 : (y 1).val < 1024 := (y 1).isLt
  have e : (((cfg0.win 2).blk t).view.emb y : S8192x1024.Idx) = ix2 ⟨1024 * t.val + (y 0).val, by omega⟩ (y 1) := by
    blk_ext [idx2 t]
  rw [e]
  rw [after0_2, out_eq]
  unfold part G
  refine Fin.sum_fin_congr fun k => ?_
  congr 1
  · blk_ext [iblk, V, idx0 t]
  · blk_ext [iblk, V, idx1 t]

end Cert.Kernel9Ideal.Hand

namespace Cert.Reference9Ideal.Hand

open Cert.Reference9Ideal Cert.Reference9Ideal.Gen
open Idealize.ShloMosaic Idealize.ShloMosaic.TcCoe

theorem res (x : Vec Ideal S8192x1024 .bf16) (w : Vec Ideal S1024x1024 .bf16) :
    (Host.dotGeneral dot_S8192x1024_S1024x1024_S8192x1024_1_1_0_0_n_n none (extf .f32 x bitsLt_bf16_f32) (extf .f32 w bitsLt_bf16_f32) : FVec Ideal S8192x1024 .f32)
      = Cert.Kernel9Ideal.Hand.G x w := by
  funext y
  pointwise [Cert.Kernel9Ideal.Hand.G]

end Cert.Reference9Ideal.Hand

end
-- ==== Proof.UpProj.lean ====
/- The up projection, its two halves apart. -/
module

public import proofs.«01_k».proof.Proof.Gen.Kernel10Ideal.Value
public import proofs.«01_k».proof.Proof.Gen.Reference10Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel10Ideal.Hand

open Cert.Kernel10Ideal Cert.Kernel10Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S2048x1024 .bf16) (x1 : Vec Ideal S1024x256 .bf16) (j : S2048x256.Idx) : EReal :=
  ∑ k : Fin 1024, x0 (ix2 (j 0) k) * x1 (ix2 k (j 1))

theorem pay1_apply (j : S2048x256.Idx) : k0_pay1 (F := Ideal) j = (0 : EReal) := by
  pointwise [k0_pay1]
theorem pay2_apply (acc : Vec Ideal S2048x256 .f32) (x0 : Vec Ideal S2048x1024 .bf16) (x1 : Vec Ideal S1024x256 .bf16) (j : S2048x256.Idx) :
    k0_pay2 (F := Ideal) acc x0 x1 j = acc j + part x0 x1 j := by
  pointwise [k0_pay2]
  rfl

theorem idx0 : ∀ t : Fin cfg0.N, win0_0.index t = ![t.val / 22, 0] := (by decide +kernel : ∀ t : Fin grid0.N, _)
theorem idx1 : ∀ t : Fin cfg0.N, win0_1.index t = ![0, t.val % 22] := (by decide +kernel : ∀ t : Fin grid0.N, _)
theorem idx2 : ∀ t : Fin cfg0.N, win0_2.index t = ![t.val % 22 / 11, t.val / 22, t.val % 22 % 11] := (by decide +kernel : ∀ t : Fin grid0.N, _)

theorem pay3_apply (v : Vec Ideal S2048x256 .f32) (j : S1x2048x256.Idx) : (k0_pay3 (F := Ideal) v j : EReal) = v (ix2 (j 1) (j 2)) := by
  pointwise [k0_pay3]
theorem out_eq : outsAt0 m c t = fun j : S1x2048x256.Idx => part (iblk m c 0 t) (iblk m c 1 t) (ix2 (j 1) (j 2)) := by
  have e : outsAt0 m c t = k0_pay3 (F := Ideal) (k0_pay2 (F := Ideal) (k0_pay1 (F := Ideal)) (iblk m c 0 t) (iblk m c 1 t)) := by
    unfold outsAt0; frame_out
  funext j
  rw [e, pay3_apply, pay2_apply, pay1_apply, zero_add]

/-- Half `y 0` of the product of the activations with the weights. -/
def G (x : Vec Ideal S8192x1024 .bf16) (w : Vec Ideal S1024x5632 .bf16) : Vec Ideal S2x8192x2816 .f32 := fun y =>
  ∑ k : Fin 1024, x (ix2 (y 1) k) * w (ix2 k ⟨2816 * (y 0).val + (y 2).val, by have : (y 0).val < 2 := (y 0).isLt; have : (y 2).val < 2816 := (y 2).isLt; omega⟩)

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have ht : t.val < 88 := t.isLt
  have hy0 : (y 0).val < 1 := (y 0).isLt
  have hy1 : (y 1).val < 2048 := (y 1).isLt
  have hy2 : (y 2).val < 256 := (y 2).isLt
  have e : (((cfg0.win 2).blk t).view.emb y : S2x8192x2816.Idx) = ix3 ⟨t.val % 22 / 11, by omega⟩ ⟨2048 * (t.val / 22) + (y 1).val, by omega⟩ ⟨256 * (t.val % 22 % 11) + (y 2).val, by omega⟩ := by
    blk_ext [idx2 t]
  rw [e]
  rw [after0_2, out_eq]
  unfold part G
  refine Fin.sum_fin_congr fun k => ?_
  congr 1
  · blk_ext [iblk, V, idx0 t]
  · blk_ext [iblk, V, idx1 t]

end Cert.Kernel10Ideal.Hand

namespace Cert.Reference10Ideal.Hand

open Cert.Reference10Ideal Cert.Reference10Ideal.Gen
open Idealize.ShloMosaic Idealize.ShloMosaic.TcCoe

theorem res (x : Vec Ideal S8192x1024 .bf16) (w : Vec Ideal S1024x5632 .bf16) :
    (concatenate S2x8192x2816 0 [⟨S1x8192x2816, (broadcastInDim S1x8192x2816 ![1, 2] bcast_S8192x2816_S1x8192x2816_1_2 (extractStridedSlice S8192x2816 ![0, 0] (Host.dotGeneral dot_S8192x1024_S1024x5632_S8192x5632_1_0_0_1_n_n none (extf .f32 x bitsLt_bf16_f32) (extf .f32 w bitsLt_bf16_f32)) slices_S8192x5632_S8192x2816_0_0))⟩, ⟨S1x8192x2816, (broadcastInDim S1x8192x2816 ![1, 2] bcast_S8192x2816_S1x8192x2816_1_2 (extractStridedSlice S8192x2816 ![0, 2816] (Host.dotGeneral dot_S8192x1024_S1024x5632_S8192x5632_1_0_0_1_n_n none (extf .f32 x bitsLt_bf16_f32) (extf .f32 w bitsLt_bf16_f32)) slices_S8192x5632_S8192x2816_0_2816))⟩] concatenates_S1x8192x2816_S1x8192x2816_S2x8192x2816_d0 : FVec Ideal S2x8192x2816 .f32)
      = Cert.Kernel10Ideal.Hand.G x w := by
  funext y
  pointwise [Cert.Kernel10Ideal.Hand.G]
  have hy : (y 0).val < 2 := (y 0).isLt
  split <;> refine Finset.sum_congr rfl fun k _ => congrArg _ ?_ <;> congr 1 <;> blk_ext []

end Cert.Reference10Ideal.Hand

end
-- ==== Proof.DownProj.lean ====
/- The down projection, added to the layer's input. -/
module

public import proofs.«01_k».proof.Proof.Gen.Kernel11Ideal.Value
public import proofs.«01_k».proof.Proof.Gen.Reference11Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel11Ideal.Hand

open Cert.Kernel11Ideal Cert.Kernel11Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x1408 .bf16) (x1 : Vec Ideal S1408x1024 .bf16) (j : S1024x1024.Idx) : EReal :=
  ∑ k : Fin 1408, x0 (ix2 (j 0) k) * x1 (ix2 k (j 1))

theorem pay1_apply (j : S1024x1024.Idx) : k0_pay1 (F := Ideal) j = (0 : EReal) := by
  pointwise [k0_pay1]
theorem pay2_apply (acc : Vec Ideal S1024x1024 .f32) (x0 : Vec Ideal S1024x1408 .bf16) (x1 : Vec Ideal S1408x1024 .bf16) (j : S1024x1024.Idx) :
    k0_pay2 (F := Ideal) acc x0 x1 j = acc j + part x0 x1 j := by
  pointwise [k0_pay2]
  rfl

theorem idx0 : ∀ t : Fin cfg0.N, win0_0.index t = ![t.val / 2, t.val % 2] := (by decide +kernel : ∀ t : Fin grid0.N, _)
theorem idx1 : ∀ t : Fin cfg0.N, win0_1.index t = ![t.val % 2, 0] := (by decide +kernel : ∀ t : Fin grid0.N, _)
theorem idx2 : ∀ t : Fin cfg0.N, win0_2.index t = ![t.val / 2, 0] := (by decide +kernel : ∀ t : Fin grid0.N, _)
theorem idx3 : ∀ t : Fin cfg0.N, win0_3.index t = ![t.val / 2, 0] := (by decide +kernel : ∀ t : Fin grid0.N, _)
theorem pay3_apply (v r : Vec Ideal S1024x1024 .f32) (j : S1024x1024.Idx) : (k0_pay3 (F := Ideal) v r j : EReal) = r j + v j := by
  pointwise [k0_pay3]

/-- The accumulator after the second half of the contraction. -/
theorem acc_eq (hr : t.val % 2 = 2 - 1) (j : S1024x1024.Idx) : (outsAt0 m c t.val t.isLt).2 j
    = ∑ s : Fin 2, part (iblk m c 0 ⟨2 * (t.val / 2) + s.val, Pipeline.run_point_lt_of_flush t hr s⟩)
        (iblk m c 1 ⟨2 * (t.val / 2) + s.val, Pipeline.run_point_lt_of_flush t hr s⟩) j := by
  rw [Pipeline.eq_sum_fin_of_reset_step_apply_of_flush (fun n h => (outsAt0 m c n h).2) 2 (fun _ => (0 : EReal))
    (fun t j => part (iblk m c 0 t) (iblk m c 1 t) j)
    (fun t h j => by rw [outsAt0_A m c t h (by omega)]; frame_out; rw [pay2_apply, pay1_apply])
    (fun t h j => by
      rw [outsAt0_B m c t h (by omega)]; frame_out; simp only [read_unread_whole]; rw [pay2_apply]) t hr j, zero_add]

/-- What a point at the end of the contraction writes. -/
def whole (hr : t.val % 2 = 2 - 1) (r : Vec Ideal S1024x1024 .f32) (j : S1024x1024.Idx) : EReal :=
  r j + ∑ s : Fin 2, part (iblk m c 0 ⟨2 * (t.val / 2) + s.val, Pipeline.run_point_lt_of_flush t hr s⟩)
        (iblk m c 1 ⟨2 * (t.val / 2) + s.val, Pipeline.run_point_lt_of_flush t hr s⟩) j

theorem out_eq (hr : t.val % 2 = 2 - 1) : (outsAt0 m c t.val t.isLt).1 = fun j : S1024x1024.Idx => whole m c t hr (iblk m c 2 t) j := by
  have e : (outsAt0 m c t.val t.isLt).1 = k0_pay3 (F := Ideal) (outsAt0 m c t.val t.isLt).2 (iblk m c 2 t) := by
    rw [outsAt0_B m c t (by omega) hr]; frame_out
  funext j
  rw [e, pay3_apply, acc_eq m c t hr]; rfl

/-- The input plus the product of the activations with the weights. -/
def G (x : Vec Ideal S8192x2816 .bf16) (w : Vec Ideal S2816x1024 .bf16) (r : Vec Ideal S8192x1024 .f32) : Vec Ideal S8192x1024 .f32 := fun y =>
  r y + ∑ k : Fin 2816, x (ix2 (y 0) k) * w (ix2 k (y 1))

theorem arr_eq : (dats m 0 c).arrAt 3 cfg0.N
    = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have hr : t.val % 2 = 2 - 1 := (flush0_3 t).mp hf
  have ht : t.val < 16 := t.isLt
  have hy0 : (y 0).val < 1024 := (y 0).isLt
  have hy1 : (y 1).val < 1024 := (y 1).isLt
  have e : (((cfg0.win 3).blk t).view.emb y : S8192x1024.Idx) = ix2 ⟨1024 * (t.val / 2) + (y 0).val, by omega⟩ (y 1) := by
    blk_ext [idx3 t]
  rw [e, after0_3, out_eq m c t hr]
  unfold whole part G
  refine Cert.Halves.add_congr (by blk_ext [iblk, V, idx2 t]) (Fin.sum_mul_add_congr fun s k hl => ?_)
  have hs := Pipeline.run_point_lt_of_flush t hr s
  congr 1
  · blk_ext [iblk, V, idx0 ⟨_, hs⟩]
  · blk_ext [iblk, V, idx1 ⟨_, hs⟩]

end Cert.Kernel11Ideal.Hand

namespace Cert.Reference11Ideal.Hand

open Cert.Reference11Ideal Cert.Reference11Ideal.Gen
open Idealize.ShloMosaic Idealize.ShloMosaic.TcCoe

theorem res (x : Vec Ideal S8192x2816 .bf16) (w : Vec Ideal S2816x1024 .bf16) (r : Vec Ideal S8192x1024 .f32) :
    (addf r (Host.dotGeneral dot_S8192x2816_S2816x1024_S8192x1024_1_0_0_1_n_n none (extf .f32 x bitsLt_bf16_f32) (extf .f32 w bitsLt_bf16_f32)) : FVec Ideal S8192x1024 .f32)
      = Cert.Kernel11Ideal.Hand.G x w r := by
  funext y
  pointwise [Cert.Kernel11Ideal.Hand.G]

end Cert.Reference11Ideal.Hand

end
-- ==== Proof.OutProj.lean ====
/- The output projection, added to the layer's input. -/
module

public import proofs.«01_k».proof.Proof.Gen.Kernel12Ideal.Value
public import proofs.«01_k».proof.Proof.Gen.Reference12Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel12Ideal.Hand

open Cert.Kernel12Ideal Cert.Kernel12Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x1024 .bf16) (x1 : Vec Ideal S1024x1024 .bf16) (j : S1024x1024.Idx) : EReal :=
  ∑ k : Fin 1024, x0 (ix2 (j 0) k) * x1 (ix2 k (j 1))

theorem pay1_apply (j : S1024x1024.Idx) : k0_pay1 (F := Ideal) j = (0 : EReal) := by
  pointwise [k0_pay1]
theorem pay2_apply (acc : Vec Ideal S1024x1024 .f32) (x0 : Vec Ideal S1024x1024 .bf16) (x1 : Vec Ideal S1024x1024 .bf16) (j : S1024x1024.Idx) :
    k0_pay2 (F := Ideal) acc x0 x1 j = acc j + part x0 x1 j := by
  pointwise [k0_pay2]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)

/-- What one grid point writes. -/
def whole (x0 x1 : Vec Ideal S1024x1024 .bf16) (r : Vec Ideal S1024x1024 .f32) (j : S1024x1024.Idx) : EReal := r j + part x0 x1 j
theorem pay3_apply (v r : Vec Ideal S1024x1024 .f32) (j : S1024x1024.Idx) : (k0_pay3 (F := Ideal) v r j : EReal) = r j + v j := by
  pointwise [k0_pay3]
theorem out_eq : outsAt0 m c t = fun j : S1024x1024.Idx => whole (iblk m c 0 t) (iblk m c 1 t) (iblk m c 2 t) j := by
  have e : outsAt0 m c t = k0_pay3 (F := Ideal) (k0_pay2 (F := Ideal) (k0_pay1 (F := Ideal)) (iblk m c 0 t) (iblk m c 1 t)) (iblk m c 2 t) := by
    unfold outsAt0; frame_out
  funext j
  rw [e, pay3_apply, pay2_apply, pay1_apply, zero_add]; rfl

/-- The input plus the product of the activations with the weights. -/
def G (x : Vec Ideal S8192x1024 .bf16) (w : Vec Ideal S1024x1024 .bf16) (r : Vec Ideal S8192x1024 .f32) : Vec Ideal S8192x1024 .f32 := fun y =>
  r y + ∑ k : Fin 1024, x (ix2 (y 0) k) * w (ix2 k (y 1))

theorem arr_eq : (dats m 0 c).arrAt 3 cfg0.N = G (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  have ht : t.val < 8 := t.isLt
  have hy0 : (y 0).val < 1024 := (y 0).isLt
  have hy1 : (y 1).val < 1024 := (y 1).isLt
  have e : (((cfg0.win 3).blk t).view.emb y : S8192x1024.Idx) = ix2 ⟨1024 * t.val + (y 0).val, by omega⟩ (y 1) := by
    blk_ext [idx3 t]
  rw [e]
  rw [after0_3, out_eq]
  unfold whole part G
  exact Cert.Halves.add_sum_congr (by blk_ext [iblk, V, idx2 t]) fun k => by
    congr 1
    · blk_ext [iblk, V, idx0 t]
    · blk_ext [iblk, V, idx1 t]

end Cert.Kernel12Ideal.Hand

namespace Cert.Reference12Ideal.Hand

open Cert.Reference12Ideal Cert.Reference12Ideal.Gen
open Idealize.ShloMosaic Idealize.ShloMosaic.TcCoe

theorem res (x : Vec Ideal S8192x1024 .bf16) (w : Vec Ideal S1024x1024 .bf16) (r : Vec Ideal S8192x1024 .f32) :
    (addf r (Host.dotGeneral dot_S8192x1024_S1024x1024_S8192x1024_1_0_0_1_n_n none (extf .f32 x bitsLt_bf16_f32) (extf .f32 w bitsLt_bf16_f32)) : FVec Ideal S8192x1024 .f32)
      = Cert.Kernel12Ideal.Hand.G x w r := by
  funext y
  pointwise [Cert.Kernel12Ideal.Hand.G]

end Cert.Reference12Ideal.Hand

end
-- ==== Proof.InProj.lean ====
/- The input projection, its columns split into heads. -/
module

public import proofs.«01_k».proof.Proof.Gen.Kernel13Ideal.Value
public import proofs.«01_k».proof.Proof.Gen.Reference13Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel13Ideal.Hand

open Cert.Kernel13Ideal Cert.Kernel13Ideal.Gen
open Idealize.ShloMosaic Idealize.ShloMosaic.TcCoe

variable (m : (ℓ : Loc nD τ sig) → Buf (Elt Ideal) ℓ) (c : Dev nD) (t : Fin cfg0.N)

theorem idx0 : ∀ t : Fin cfg0.N, win0_0.index t = ![t.val / 5, 0] := (by decide +kernel : ∀ t : Fin grid0.N, _)
theorem idx1 : ∀ t : Fin cfg0.N, win0_1.index t = ![0, t.val % 5] := (by decide +kernel : ∀ t : Fin grid0.N, _)
theorem idx2 : ∀ t : Fin cfg0.N, win0_2.index t = ![t.val % 5, t.val / 5, 0] := (by decide +kernel : ∀ t : Fin grid0.N, _)

/-- What one grid point writes: ten heads' columns of the product. -/
def part (x0 : Vec Ideal S2048x1024 .bf16) (x1 : Vec Ideal S1024x640 .bf16) (y : S10x2048x64.Idx) : EReal :=
  ∑ k : Fin 1024, x0 (ix2 (y 1) k) * x1 (ix2 k ⟨64 * (y 0).val + (y 2).val, by have : (y 0).val < 10 := (y 0).isLt; have : (y 2).val < 64 := (y 2).isLt; omega⟩)

theorem pay6_apply (x0 : Vec Ideal S2048x1024 .bf16) (x1 : Vec Ideal S1024x640 .bf16) (i : Fin 2048) (j : Fin 640) :
    (k0_pay6 (F := Ideal) x0 x1 (ix2 i j) : EReal) = ∑ k : Fin 1024, x0 (ix2 i k) * x1 (ix2 k j) := by
  pointwise [k0_pay6]

theorem out_eq (x0 : Vec Ideal S2048x1024 .bf16) (x1 : Vec Ideal S1024x640 .bf16) : out0_2 (F := Ideal) x0 x1 = fun y => part x0 x1 y := by
  funext y
  canon_tiles x h
  all_goals
    pointwise [k0_pay1, k0_pay2, k0_pay3, k0_pay4, k0_pay5, k0_pay7, k0_pay8, k0_pay9, k0_pay10, k0_pay11, k0_pay12, k0_pay13, pay6_apply, part]
    refine Fin.sum_fin_congr fun k => ?_
    congr 1 <;> blk_ext []

/-- Head `y 0` of the product of the activations with the weights. -/
def G (x : Vec Ideal S8192x1024 .bf16) (w : Vec Ideal S1024x3200 .bf16) : Vec Ideal S50x8192x64 .bf16 := fun y =>
  ∑ k : Fin 1024, x (ix2 (y 1) k) * w (ix2 k ⟨(y 0).val * 64 + (y 2).val, by have : (y 0).val < 50 := (y 0).isLt; have : (y 2).val < 64 := (y 2).isLt; omega⟩)

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have ht : t.val < 20 := t.isLt
  have hy0 : (y 0).val < 10 := (y 0).isLt
  have hy1 : (y 1).val < 2048 := (y 1).isLt
  have hy2 : (y 2).val < 64 := (y 2).isLt
  have e : (((cfg0.win 2).blk t).view.emb y : S50x8192x64.Idx)
      = ix3 ⟨10 * (t.val % 5) + (y 0).val, by omega⟩ ⟨2048 * (t.val / 5) + (y 1).val, by omega⟩ (y 2) := by
    blk_ext [idx2 t]
  rw [e, after0_2, out_eq]
  unfold part G
  refine Fin.sum_fin_congr fun k => ?_
  congr 1
  · blk_ext [iblk, V, idx0 t]
  · blk_ext [iblk, V, idx1 t]

end Cert.Kernel13Ideal.Hand

namespace Cert.Reference13Ideal.Hand

open Cert.Reference13Ideal Cert.Reference13Ideal.Gen
open Idealize.ShloMosaic Idealize.ShloMosaic.TcCoe

theorem res (x : Vec Ideal S8192x1024 .bf16) (w : Vec Ideal S1024x3200 .bf16) :
    (truncf .bf16 (transpose S50x8192x64 [1, 0, 2] (shapeCast _ (Host.dotGeneral dot_S8192x1024_S1024x3200_S8192x3200_1_0_0_1_n_n none (extf .f32 x bitsLt_bf16_f32) (extf .f32 w bitsLt_bf16_f32)) shapeCasts_S8192x3200_S8192x50x64) transposes_S8192x50x64_S50x8192x64_1_0_2) bitsLt_bf16_f32 : FVec Ideal S50x8192x64 .bf16)
      = Cert.Kernel13Ideal.Hand.G x w := by
  funext y
  pointwise [Cert.Kernel13Ideal.Hand.G]
  done

end Cert.Reference13Ideal.Hand

end
-- ==== Proof.GateProj.lean ====
/- The gate projection. -/
module

public import proofs.«01_k».proof.Proof.Gen.Kernel14Ideal.Value
public import proofs.«01_k».proof.Proof.Gen.Reference14Ideal.Run
public import proofs.«01_k».proof.Proof.Halves
public import Idealize.ShloMosaic.Lib.Pipeline.ValueKit
public import Idealize.ShloMosaic.Lib.Pipeline.ReadBack
public import Idealize.ShloMosaic.Lib.Pointwise

@[expose] public section

noncomputable section

namespace Cert.Kernel14Ideal.Hand

open Cert.Kernel14Ideal Cert.Kernel14Ideal.Gen
open Idealize.ShloMosaic Idealize.ShloMosaic.TcCoe

variable (m : (ℓ : Loc nD τ sig) → Buf (Elt Ideal) ℓ) (c : Dev nD) (t : Fin cfg0.N)

/-- What one grid point adds to the accumulator. -/
def part (x0 : Vec Ideal S1024x1024 .bf16) (x1 : Vec Ideal S1024x128 .bf16) (j : S1024x128.Idx) : EReal :=
  ∑ k : Fin 1024, x0 (ix2 (j 0) k) * x1 (ix2 k (j 1))

theorem pay1_apply (j : S1024x128.Idx) : k0_pay1 (F := Ideal) j = (0 : EReal) := by
  pointwise [k0_pay1]
theorem pay2_apply (acc : Vec Ideal S1024x128 .f32) (x0 : Vec Ideal S1024x1024 .bf16) (x1 : Vec Ideal S1024x128 .bf16) (j : S1024x128.Idx) :
    k0_pay2 (F := Ideal) acc x0 x1 j = acc j + part x0 x1 j := by
  pointwise [k0_pay2]
  rfl

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

theorem out_eq : outsAt0 m c t = fun j : S1024x128.Idx => part (iblk m c 0 t) (iblk m c 1 t) j := by
  have e : outsAt0 m c t = k0_pay2 (F := Ideal) (k0_pay1 (F := Ideal)) (iblk m c 0 t) (iblk m c 1 t) := by
    unfold outsAt0; frame_out
  funext j
  rw [e, pay2_apply, pay1_apply, zero_add]

/-- The product of the activations with the weights. -/
def G (x : Vec Ideal S8192x1024 .bf16) (w : Vec Ideal S1024x128 .bf16) : Vec Ideal S8192x128 .f32 := fun y =>
  ∑ k : Fin 1024, x (ix2 (y 0) k) * w (ix2 k (y 1))

theorem arr_eq : (dats m 0 c).arrAt 2 cfg0.N = G (m ((c.tc : Thread nD τ).loc main_arg0)) (m ((c.tc : Thread nD τ).loc main_arg1)) := by
  refine (dats m 0 c).arrAt_eq_of_covers 2 _ (by decide +kernel) fun t hf y => ?_
  have ht : t.val < 8 := t.isLt
  have hy0 : (y 0).val < 1024 := (y 0).isLt
  have e : (((cfg0.win 2).blk t).view.emb y : S8192x128.Idx) = ix2 ⟨1024 * t.val + (y 0).val, by omega⟩ (y 1) := by
    blk_ext [idx2 t]
  rw [e]
  rw [after0_2, out_eq]
  unfold part G
  refine Fin.sum_fin_congr fun k => ?_
  congr 1
  · blk_ext [iblk, V, idx0 t]
  · blk_ext [iblk, V, idx1 t]

end Cert.Kernel14Ideal.Hand

namespace Cert.Reference14Ideal.Hand

open Cert.Reference14Ideal Cert.Reference14Ideal.Gen
open Idealize.ShloMosaic Idealize.ShloMosaic.TcCoe

theorem res (x : Vec Ideal S8192x1024 .bf16) (w : Vec Ideal S1024x128 .bf16) :
    (Host.dotGeneral dot_S8192x1024_S1024x128_S8192x128_1_0_0_1_n_n none (extf .f32 x bitsLt_bf16_f32) (extf .f32 w bitsLt_bf16_f32) : FVec Ideal S8192x128 .f32)
      = Cert.Kernel14Ideal.Hand.G x w := by
  funext y
  pointwise [Cert.Kernel14Ideal.Hand.G]

end Cert.Reference14Ideal.Hand

end
-- ==== Proof.FwdStateI.lean ====
/- The forward attention's tile, by values: the offsets of its loads, what one key block makes of the running maximum and the
   running sums, one trip of the loop over pairs of key blocks, and the masked pair at the end. Plain functions of vectors. -/
module

public import proofs.«01_k».proof.Proof.Gen.Kernel15Ideal
public import proofs.«01_k».proof.Proof.Gen.Kernel15Ideal.Skeleton
public import Idealize.ShloMosaic.Lib.Exec
public import Idealize.ShloMosaic.Lib.VecWindow

@[expose] public section

set_option Elab.async false

noncomputable section

namespace Cert.Kernel15Ideal.Hand

open Cert.Kernel15Ideal Cert.Kernel15Ideal.Gen
open Idealize.ShloMosaic Idealize.ShloMosaic.TcCoe Idealize.SL.Sem

/-! ## Offsets -/

theorem trips_eq : ∀ i : grid0.Coords, (k0_t1_loop i).trips = (i 1).val / 2 := by decide +kernel
theorem off2a_eq : ∀ (i : grid0.Coords) (k : Fin (k0_t1_loop i).trips), k0_off2 i k 1#32 = ![0, 512 * (2 * k.val + 1), 0] := by decide +kernel
theorem off2b_eq : ∀ (i : grid0.Coords) (k : Fin (k0_t1_loop i).trips), k0_off2 i k 2#32 = ![0, 512 * (2 * k.val + 2), 0] := by decide +kernel
theorem off3_eq : ∀ (i : grid0.Coords) (k : Fin (k0_t1_loop i).trips), k0_off3 i k = ![0, 2 * k.val, 0, 0] := by decide +kernel
theorem off4_eq : ∀ (i : grid0.Coords) (k : Fin (k0_t1_loop i).trips), k0_off4 i k = ![0, 512 * (2 * k.val), 0] := by decide +kernel
theorem off5_eq : ∀ (i : grid0.Coords) (k : Fin (k0_t1_loop i).trips), k0_off5 i k = ![0, 2 * k.val + 1, 0, 0] := by decide +kernel
theorem off6_eq : ∀ (i : grid0.Coords) (k : Fin (k0_t1_loop i).trips), k0_off6 i k = ![0, 512 * (2 * k.val + 1), 0] := by decide +kernel
theorem off12a_eq : ∀ i : grid0.Coords, k0_off12 i 1#32 = ![0, 512 * (2 * ((i 1).val / 2) + 1), 0] := by decide +kernel
theorem off13_eq : ∀ i : grid0.Coords, k0_off13 i = ![0, 2 * ((i 1).val / 2), 0, 0] := by decide +kernel
theorem off14_eq : ∀ i : grid0.Coords, k0_off14 i = ![0, 512 * (2 * ((i 1).val / 2)), 0] := by decide +kernel
theorem off15_eq : ∀ i : grid0.Coords, k0_off15 i = ![0, 2 * ((i 1).val / 2) + 1, 0, 0] := by decide +kernel
theorem off16_eq : ∀ i : grid0.Coords, k0_off16 i = ![0, 512 * (2 * ((i 1).val / 2) + 1), 0] := by decide +kernel

variable {F : FTy → Type} [FloatOps F] [Named F]

/-- What a grid point only reads: the query rows, the head's keys, its values with their columns of ones, the decay row. -/
structure Env (F : FTy → Type) where
  q : Vec F S1x512x64 .bf16
  kk : Vec F S1x8192x64 .bf16
  vv : Vec F S1x8192x128 .bf16
  fr : Vec F S1x16x1x512 .f32

/-- The running maximum of each row and its running sums. -/
structure St (F : FTy → Type) where
  mx : Vec F S512x1 .f32
  acc : Vec F S512x128 .f32

/-! ## Windows of a key block -/

theorem inbK (j : Fin 16) : ∀ a, (![0, 512 * j.val, 0] : Fin 3 → ℕ) a + S1x512x64.size a ≤ S1x8192x64.size a := by
  intro a; have := j.isLt; fin_cases a <;> simp [S1x512x64, S1x8192x64] <;> omega
theorem inbV (j : Fin 16) : ∀ a, (![0, 512 * j.val, 0] : Fin 3 → ℕ) a + S1x512x128.size a ≤ S1x8192x128.size a := by
  intro a; have := j.isLt; fin_cases a <;> simp [S1x512x128, S1x8192x128] <;> omega
theorem inbF (j : Fin 16) : ∀ a, (![0, j.val, 0, 0] : Fin 4 → ℕ) a + S1x1x1x512.size a ≤ S1x16x1x512.size a := by
  intro a; have := j.isLt; fin_cases a <;> simp [S1x1x1x512, S1x16x1x512] <;> omega
theorem inbL : ∀ a, (![0, 64] : Fin 2 → ℕ) a + S512x1.size a ≤ S512x128.size a := by decide
theorem inbO : ∀ a, (![0, 0] : Fin 2 → ℕ) a + S512x64.size a ≤ S512x128.size a := by decide

/-- Key block `j` of the keys, of the values, of the decay row. -/
def kwin (x : Vec F S1x8192x64 .bf16) (j : Fin 16) : Vec F S1x512x64 .bf16 :=
  VecWindow.window x ![0, 512 * j.val, 0] S1x512x64.size (inbK j)
def vwin (x : Vec F S1x8192x128 .bf16) (j : Fin 16) : Vec F S1x512x128 .bf16 :=
  VecWindow.window x ![0, 512 * j.val, 0] S1x512x128.size (inbV j)
def fwin (x : Vec F S1x16x1x512 .f32) (j : Fin 16) : Vec F S1x1x1x512 .f32 :=
  VecWindow.window x ![0, j.val, 0, 0] S1x1x1x512.size (inbF j)
/-- The sums of the weights, and those of the weighted values. -/
def lwin (x : Vec F S512x128 .f32) : Vec F S512x1 .f32 := VecWindow.window x ![0, 64] S512x1.size inbL
def owin (x : Vec F S512x128 .f32) : Vec F S512x64 .f32 := VecWindow.window x ![0, 0] S512x64.size inbO

/-! ## One key block -/

/-- The products of the scaled query rows and key block `j`. -/
def prod (E : Env F) (j : Fin 16) : FVec F S512x512 .f32 := k0_pay2 (k0_pay22 E.q) (kwin E.kk j)
/-- The logits of a key block below the diagonal. -/
def sc (z : Vec F S512x512 .f32) (fr : Vec F S1x1x1x512 .f32) : FVec F S512x512 .f32 := k0_pay10 z fr
/-- The logits of a masked key block: `d` is how far the query block's rows are ahead of the block's. -/
def scMask (d : BitVec 32) (z : Vec F S512x512 .f32) (fr : Vec F S1x1x1x512 .f32) : FVec F S512x512 .f32 :=
  select (cmpi .sle k0_pay25 (broadcast S512x512 d)) (sc z fr) (broadcast S512x512 (Named.named κ "mask" 0xF149F2CA#32))
/-- The greatest logit of each row. -/
def rmax (s : FVec F S512x512 .f32) : FVec F S512x1 .f32 :=
  shapeCast S512x1 (multiReduction .maximumf [1] S512 s 0xFF800000#32 reduces_S512x512_S512 (.inl rfl) rfl) shapeCasts_S512_S512x1
/-- The state after a key block of logits `s` and values `v`. -/
def blk (s : FVec F S512x512 .f32) (v : Vec F S1x512x128 .bf16) (x : St F) : St F where
  mx := k0_pay29 x.mx (rmax s)
  acc := k0_pay28 s x.mx (rmax s) x.acc v

/-- The number `n` as a key block, kept below 16. -/
def jb (n : ℕ) : Fin 16 := ⟨min n 15, by omega⟩
theorem jb_of_le {n : ℕ} (h : n ≤ 15) : (jb n).val = n := Nat.min_eq_left h

/-- The state after key block `n`, below the diagonal; after a masked one. -/
def blkN (E : Env F) (n : ℕ) (x : St F) : St F := blk (sc (prod E (jb n)) (fwin E.fr (jb n))) (vwin E.vv (jb n)) x
def blkM (E : Env F) (d : BitVec 32) (n : ℕ) (x : St F) : St F := blk (scMask d (prod E (jb n)) (fwin E.fr (jb n))) (vwin E.vv (jb n)) x
/-- The state before trip `k` of the loop: key blocks below `2k` done. -/
def trips (E : Env F) : ℕ → St F
  | 0 => ⟨k0_pay23, k0_pay24⟩
  | k + 1 => blkN E (2 * k + 1) (blkN E (2 * k) (trips E k))
/-- The state after the masked pair, key blocks `2k` and `2k + 1`, of query block `i`. -/
def tripM (E : Env F) (i v : BitVec 32) (k : ℕ) (s : St F) : St F :=
  blkM E (Scalar.muli (Scalar.subi i (Scalar.addi v 1#32)) 512#32) (2 * k + 1) (blkM E (Scalar.muli (Scalar.subi i v) 512#32) (2 * k) s)
/-- The state query block `i` ends in, and its two results. -/
def fin (E : Env F) (i : ℕ) : St F := tripM E (BitVec.ofNat 32 i) (BitVec.ofNat 32 (2 * (i / 2))) (i / 2) (trips E (i / 2))
def outO (s : St F) : Vec F S1x512x64 .f32 := k0_pay45 (lwin s.acc) (owin s.acc)
def outL (s : St F) : Vec F S1x512x1 .f32 := k0_pay1 (lwin s.acc) s.mx

/-! ## The payloads as these functions -/

section
variable (z : Vec F S512x512 .f32) (fr : Vec F S1x1x1x512 .f32) (x : Vec F S512x1 .f32) (a : Vec F S512x128 .f32) (v : Vec F S1x512x128 .bf16)
theorem pay7_eq : k0_pay7 (k0_pay5 z fr x a) (k0_pay6 z fr x) v = k0_pay28 (sc z fr) x (rmax (sc z fr)) a v := rfl
theorem pay8_eq : k0_pay8 (k0_pay4 z fr x) = k0_pay29 x (rmax (sc z fr)) := rfl
theorem pay10_eq : k0_pay10 z fr = sc z fr := rfl
theorem pay11_eq : k0_pay11 z fr = rmax (sc z fr) := rfl
theorem pay9_eq (y : FVec F S512x64 .bf16) (w : Vec F S1x512x64 .bf16) : k0_pay9 y w = k0_pay2 y w := rfl
theorem pay33_eq (y : FVec F S512x64 .bf16) (w : Vec F S1x512x64 .bf16) : k0_pay33 y w = k0_pay2 y w := rfl
theorem pay26_eq (q : Vec F S1x512x64 .bf16) (w : Vec F S1x512x64 .bf16) : k0_pay26 q w = k0_pay2 (k0_pay22 q) w := rfl
variable (i w : BitVec 32)
theorem pay38_eq : k0_pay38 (k0_pay36 i k0_pay25 w z fr x a) (k0_pay37 i k0_pay25 w z fr x) v
    = k0_pay28 (scMask (Scalar.muli (Scalar.subi i w) 512#32) z fr) x (rmax (scMask (Scalar.muli (Scalar.subi i w) 512#32) z fr)) a v := rfl
theorem pay39_eq : k0_pay39 (k0_pay35 i k0_pay25 w z fr x) = k0_pay29 x (rmax (scMask (Scalar.muli (Scalar.subi i w) 512#32) z fr)) := rfl
theorem pay41_eq : k0_pay41 i k0_pay25 w z fr = scMask (Scalar.muli (Scalar.subi i (Scalar.addi w 1#32)) 512#32) z fr := rfl
theorem pay43_eq (s : FVec F S512x512 .f32) : k0_pay43 s x a v = k0_pay28 s x (rmax s) a v := rfl
theorem pay44_eq (s : FVec F S512x512 .f32) : k0_pay44 s x = k0_pay29 x (rmax s) := rfl
end

/-! ## Reading and writing the buffers whole, and reading their windows -/

section
variable {off : Fin 3 → ℕ} {off4 : Fin 4 → ℕ} {j : Fin 16}
theorem rdK (v : View sig .tc .vmem S1x8192x64 .bf16) (f : v.ty.Contents (Elt F)) (inb) (h : off = ![0, 512 * j.val, 0]) :
    v.readAt (Elt F) (Rect.unit (s := S1x8192x64) off ![1, 512, 64] inb).toLoadRect f = kwin (v.read (Elt F) f) j :=
  View.readAt_unit v f inb h (inbK j)
theorem rdV (v : View sig .tc .vmem S1x8192x128 .bf16) (f : v.ty.Contents (Elt F)) (inb) (h : off = ![0, 512 * j.val, 0]) :
    v.readAt (Elt F) (Rect.unit (s := S1x8192x128) off ![1, 512, 128] inb).toLoadRect f = vwin (v.read (Elt F) f) j :=
  View.readAt_unit v f inb h (inbV j)
theorem rdF (v : View sig .tc .vmem S1x16x1x512 .f32) (f : v.ty.Contents (Elt F)) (inb) (h : off4 = ![0, j.val, 0, 0]) :
    v.readAt (Elt F) (Rect.unit (s := S1x16x1x512) off4 ![1, 1, 1, 512] inb).toLoadRect f = fwin (v.read (Elt F) f) j :=
  View.readAt_unit v f inb h (inbF j)
end
section
variable (v : View sig .tc .vmem S512x512 .f32) (f : v.ty.Contents (Elt F))
theorem rdZ (inb) : v.readAt (Elt F) (Rect.unit (s := S512x512) ![0, 0] ![512, 512] inb).toLoadRect f = v.read (Elt F) f := View.readAt_full v f inb
theorem wrZ (inb) (w : S512x512.Idx → Elt F .f32) (L) :
    v.read (Elt F) (v.writes (Elt F) f (⟨Rect.unit (s := S512x512) ![0, 0] ![512, 512] inb, w⟩ :: L)) = w := View.read_writes_full v f inb w L
theorem cvZ (inb inb') (w : S512x512.Idx → Elt F .f32) (L) :
    v.readCov (⟨Rect.unit (s := S512x512) ![0, 0] ![512, 512] inb', w⟩ :: L) (Rect.unit (s := S512x512) ![0, 0] ![512, 512] inb).toLoadRect = w :=
  View.readCov_full v inb inb' w L
end
section
variable (v : View sig .tc .vmem S512x1 .f32) (f : v.ty.Contents (Elt F))
theorem rdC (inb) : v.readAt (Elt F) (Rect.unit (s := S512x1) ![0, 0] ![512, 1] inb).toLoadRect f = v.read (Elt F) f := View.readAt_full v f inb
theorem wrC (inb) (w : S512x1.Idx → Elt F .f32) (L) :
    v.read (Elt F) (v.writes (Elt F) f (⟨Rect.unit (s := S512x1) ![0, 0] ![512, 1] inb, w⟩ :: L)) = w := View.read_writes_full v f inb w L
theorem cvC (inb inb') (w : S512x1.Idx → Elt F .f32) (L) :
    v.readCov (⟨Rect.unit (s := S512x1) ![0, 0] ![512, 1] inb', w⟩ :: L) (Rect.unit (s := S512x1) ![0, 0] ![512, 1] inb).toLoadRect = w :=
  View.readCov_full v inb inb' w L
end
section
variable (v : View sig .tc .vmem S512x128 .f32) (f : v.ty.Contents (Elt F))
theorem rdA (inb) : v.readAt (Elt F) (Rect.unit (s := S512x128) ![0, 0] ![512, 128] inb).toLoadRect f = v.read (Elt F) f := View.readAt_full v f inb
theorem wrA (inb) (w : S512x128.Idx → Elt F .f32) (L) :
    v.read (Elt F) (v.writes (Elt F) f (⟨Rect.unit (s := S512x128) ![0, 0] ![512, 128] inb, w⟩ :: L)) = w := View.read_writes_full v f inb w L
theorem cvA (inb inb') (w : S512x128.Idx → Elt F .f32) (L) :
    v.readCov (⟨Rect.unit (s := S512x128) ![0, 0] ![512, 128] inb', w⟩ :: L) (Rect.unit (s := S512x128) ![0, 0] ![512, 128] inb).toLoadRect = w :=
  View.readCov_full v inb inb' w L
end
section
variable (v : View sig .tc .vmem S1x512x64 .bf16) (f : v.ty.Contents (Elt F))
theorem rdQ (inb) : v.readAt (Elt F) (Rect.unit (s := S1x512x64) ![0, 0, 0] ![1, 512, 64] inb).toLoadRect f = v.read (Elt F) f := View.readAt_full v f inb
theorem wrQ (inb) (w : S1x512x64.Idx → Elt F .bf16) (L) :
    v.read (Elt F) (v.writes (Elt F) f (⟨Rect.unit (s := S1x512x64) ![0, 0, 0] ![1, 512, 64] inb, w⟩ :: L)) = w := View.read_writes_full v f inb w L
theorem cvQ (inb inb') (w : S1x512x64.Idx → Elt F .bf16) (L) :
    v.readCov (⟨Rect.unit (s := S1x512x64) ![0, 0, 0] ![1, 512, 64] inb', w⟩ :: L) (Rect.unit (s := S1x512x64) ![0, 0, 0] ![1, 512, 64] inb).toLoadRect = w :=
  View.readCov_full v inb inb' w L
end
section
variable (v : View sig .tc .vmem S1x512x64 .f32) (f : v.ty.Contents (Elt F))
theorem rdO (inb) : v.readAt (Elt F) (Rect.unit (s := S1x512x64) ![0, 0, 0] ![1, 512, 64] inb).toLoadRect f = v.read (Elt F) f := View.readAt_full v f inb
theorem wrO (inb) (w : S1x512x64.Idx → Elt F .f32) (L) :
    v.read (Elt F) (v.writes (Elt F) f (⟨Rect.unit (s := S1x512x64) ![0, 0, 0] ![1, 512, 64] inb, w⟩ :: L)) = w := View.read_writes_full v f inb w L
theorem cvO (inb inb') (w : S1x512x64.Idx → Elt F .f32) (L) :
    v.readCov (⟨Rect.unit (s := S1x512x64) ![0, 0, 0] ![1, 512, 64] inb', w⟩ :: L) (Rect.unit (s := S1x512x64) ![0, 0, 0] ![1, 512, 64] inb).toLoadRect = w :=
  View.readCov_full v inb inb' w L
end
section
variable (v : View sig .tc .vmem S1x512x1 .f32) (f : v.ty.Contents (Elt F))
theorem rdL (inb) : v.readAt (Elt F) (Rect.unit (s := S1x512x1) ![0, 0, 0] ![1, 512, 1] inb).toLoadRect f = v.read (Elt F) f := View.readAt_full v f inb
theorem wrL (inb) (w : S1x512x1.Idx → Elt F .f32) (L) :
    v.read (Elt F) (v.writes (Elt F) f (⟨Rect.unit (s := S1x512x1) ![0, 0, 0] ![1, 512, 1] inb, w⟩ :: L)) = w := View.read_writes_full v f inb w L
theorem cvL (inb inb') (w : S1x512x1.Idx → Elt F .f32) (L) :
    v.readCov (⟨Rect.unit (s := S1x512x1) ![0, 0, 0] ![1, 512, 1] inb', w⟩ :: L) (Rect.unit (s := S1x512x1) ![0, 0, 0] ![1, 512, 1] inb).toLoadRect = w :=
  View.readCov_full v inb inb' w L
end

section
variable (v : View sig .tc .vmem S512x128 .f32)
theorem cvl (inb inb') (w : S512x128.Idx → Elt F .f32) (L) :
    v.readCov (⟨Rect.unit (s := S512x128) ![0, 0] ![512, 128] inb', w⟩ :: L) (Rect.unit (s := S512x128) ![0, 64] ![512, 1] inb).toLoadRect = lwin w := by
  unfold View.readCov
  rw [View.readAt_unit v _ inb rfl inbL, View.read_writes_full]; rfl
theorem cvo (inb inb') (w : S512x128.Idx → Elt F .f32) (L) :
    v.readCov (⟨Rect.unit (s := S512x128) ![0, 0] ![512, 128] inb', w⟩ :: L) (Rect.unit (s := S512x128) ![0, 0] ![512, 64] inb).toLoadRect = owin w := by
  unfold View.readCov
  rw [View.readAt_unit v _ inb rfl inbO, View.read_writes_full]; rfl
end

theorem pairWord_fin : ∀ n : Fin 16, Scalar.muli (2#32) (Scalar.select (Scalar.andi (Scalar.cmpi CmpIPredicate.ne
        (Scalar.subi (Scalar.extui (Scalar.cmpi CmpIPredicate.sgt (BitVec.ofNat 32 n.val) 0#32) : BitVec 32)
          (Scalar.extui (Scalar.cmpi CmpIPredicate.slt (BitVec.ofNat 32 n.val) 0#32))) (Scalar.subi (Scalar.extui (Scalar.cmpi CmpIPredicate.sgt 2#32 0#32) : BitVec 32)
          (Scalar.extui (Scalar.cmpi CmpIPredicate.slt 2#32 0#32))))
        (Scalar.cmpi CmpIPredicate.ne (Scalar.remsi (BitVec.ofNat 32 n.val) 2#32) 0#32))
      (Scalar.subi (Scalar.divsi (BitVec.ofNat 32 n.val) 2#32) 1#32) (Scalar.divsi (BitVec.ofNat 32 n.val) 2#32)) = BitVec.ofNat 32 (2 * (n.val / 2)) := by decide +kernel

end Cert.Kernel15Ideal.Hand

end
-- ==== Proof.FwdRunI.lean ====
/- The forward attention's body run once: one trip of its loop over a symbolic trip, its start, its loop, its masked pair, and
   the whole body at a grid point. -/
module

public import proofs.«01_k».proof.Proof.FwdStateI
public import proofs.«01_k».proof.Proof.Gen.Kernel15Ideal.Loops
public import proofs.«01_k».proof.Proof.Gen.Kernel15Ideal.Frame.Runs
public import Idealize.ShloMosaic.Lib.VecWindow
public import Idealize.ShloMosaic.Lib.LoopRemainder

@[expose] public section

noncomputable section

namespace Cert.Kernel15Ideal.Hand

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref's buffer on core `c` held whole at the values `x`. -/
abbrev own (c : Dev nD) {S : Shape} {e : EltTy} (M : Memref sig .tc .vmem S e) (x : S.Idx → Elt F e) : sProp 𝕄 :=
  owns (c : Thread nD τ) M fullShare x

/-- The buffers the key blocks' work touches, at the read-only values `E`, the next block's products `z` and the state `s`. -/
def held (c : Dev nD) (arg3 : Memref sig .tc .vmem S1x8192x64 .bf16) (arg4 : Memref sig .tc .vmem S1x8192x128 .bf16) (arg5 : Memref sig .tc .vmem S1x16x1x512 .f32) (arg8 : Memref sig .tc .vmem S512x1 .f32) (arg9 : Memref sig .tc .vmem S512x128 .f32) (arg10 arg11 : Memref sig .tc .vmem S512x512 .f32)
    (E : Env F) (z : FVec F S512x512 .f32) (s : St F) : sProp 𝕄 :=
  iprop(own c arg3 E.kk ∗ own c arg4 E.vv ∗ own c arg5 E.fr ∗ own c arg8 s.mx ∗ own c arg9 s.acc ∗ own c arg10 z ∗ (∃ d, own c arg11 d))

/-- A part of the body that leaves `Q'` and a value of which `φ` holds, then what goes on from such a value. -/
theorem bind_of {α β : Type} (c : Dev nD) {P : sProp 𝕄} {p : Prog (TpuEff nD τ sig (Elt F) Λ₀ .tc) α} (φ : α → Prop) {Q' : sProp 𝕄}
    {k : α → Prog (TpuEff nD τ sig (Elt F) Λ₀ .tc) β} {Q : β → sProp 𝕄}
    (h : P ⊢ wp frame (wpE (defs₀ (F := F)) Variants.none (c : Thread nD τ) none) Set.univ p (fun r => iprop(⌜φ r⌝ ∗ Q')))
    (hk : ∀ r, φ r → (Q' ⊢ wp frame (wpE (defs₀ (F := F)) Variants.none (c : Thread nD τ) none) Set.univ (k r) Q)) :
    P ⊢ wp frame (wpE (defs₀ (F := F)) Variants.none (c : Thread nD τ) none) Set.univ (p >>= k) Q := by
  rw [wp_bind]
  refine h.trans (wp_mono _ _ _ fun r => ?_)
  iintro ⟨%hr, H⟩
  iapply (hk r hr) $$ H

theorem trip_run (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole)
    (arg1 : BitVec 32) (c2 v27 v32 c0 : BitVec 32) (E : Env F) (s : St F) (k : Fin (k0_t1_loop i).trips) :
    held c arg3 arg4 arg5 arg8 arg9 arg10 arg11 E (prod E (jb (2 * k.val))) s
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg1 (k0_pay22 E.q) c2 v27 v32 c0 k ())
          (fun _ => held c arg3 arg4 arg5 arg8 arg9 arg10 arg11 E (prod E (jb (2 * (k.val + 1)))) (blkN E (2 * k.val + 1) (blkN E (2 * k.val) s))) := by
  unfold held own owns k0_t1_body
  simp only [k0_part1_eq_skeleton, k0_part2_eq_skeleton]
  unfold k0_part1_skel k0_part2_skel
  iintro ⟨⟨%f3, %h3, H3⟩, ⟨%f4, %h4, H4⟩, ⟨%f5, %h5, H5⟩, ⟨%f8, %h8, H8⟩, ⟨%f9, %h9, H9⟩, ⟨%f10, %h10, H10⟩, ⟨%d11, %f11, %h11, H11⟩⟩
  sl_exec
  sl_step
  have hk : k.val ≤ 6 := by
    have h := k.isLt
    have h1 : (k0_t1_loop i).trips = (i 1).val / 2 := trips_eq i
    have h2 : (i 1).val < 16 := (i 1).isLt
    omega
  have ja : (jb (2 * k.val)).val = 2 * k.val := jb_of_le (by omega)
  have jB : (jb (2 * k.val + 1)).val = 2 * k.val + 1 := jb_of_le (by omega)
  have jc : (jb (2 * (k.val + 1))).val = 2 * k.val + 2 := jb_of_le (by omega)
  have o2a : k0_off2 i k 1#32 = ![0, 512 * (jb (2 * k.val + 1)).val, 0] := by rw [jB]; exact off2a_eq i k
  have o2b : k0_off2 i k 2#32 = ![0, 512 * (jb (2 * (k.val + 1))).val, 0] := by rw [jc]; exact off2b_eq i k
  have o3 : k0_off3 i k = ![0, (jb (2 * k.val)).val, 0, 0] := by rw [ja]; exact off3_eq i k
  have o4 : k0_off4 i k = ![0, 512 * (jb (2 * k.val)).val, 0] := by rw [ja]; exact off4_eq i k
  have o5 : k0_off5 i k = ![0, (jb (2 * k.val + 1)).val, 0, 0] := by rw [jB]; exact off5_eq i k
  have o6 : k0_off6 i k = ![0, 512 * (jb (2 * k.val + 1)).val, 0] := by rw [jB]; exact off6_eq i k
  isplitl [H3]
  · iexists _; isplitr; swap; · iexact H3
    ipureintro
    exact h3
  isplitl [H4]
  · iexists _; isplitr; swap; · iexact H4
    ipureintro
    exact h4
  isplitl [H5]
  · iexists _; isplitr; swap; · iexact H5
    ipureintro
    exact h5
  isplitl [H8]
  · iexists _; isplitr; swap; · iexact H8
    ipureintro
    sl_unfold_run_names
    dsimp only
    rw [wrC]
    simp only [rdZ, rdC, rdA, rdQ, cvZ, cvC, cvA, rdK _ _ _ o2a, rdK _ _ _ o2b, rdV _ _ _ o4, rdV _ _ _ o6, rdF _ _ _ o3, rdF _ _ _ o5, h3, h4, h5, h8, h9, h10, pay7_eq, pay8_eq, pay9_eq, pay10_eq, pay11_eq]
    rfl
  isplitl [H9]
  · iexists _; isplitr; swap; · iexact H9
    ipureintro
    sl_unfold_run_names
    dsimp only
    rw [wrA]
    simp only [rdZ, rdC, rdA, rdQ, cvZ, cvC, cvA, rdK _ _ _ o2a, rdK _ _ _ o2b, rdV _ _ _ o4, rdV _ _ _ o6, rdF _ _ _ o3, rdF _ _ _ o5, h3, h4, h5, h8, h9, h10, pay7_eq, pay8_eq, pay9_eq, pay10_eq, pay11_eq]
    rfl
  isplitl [H10]
  · iexists _; isplitr; swap; · iexact H10
    ipureintro
    sl_unfold_run_names
    dsimp only
    rw [wrZ]
    simp only [rdZ, rdC, rdA, rdQ, cvZ, cvC, cvA, rdK _ _ _ o2a, rdK _ _ _ o2b, rdV _ _ _ o4, rdV _ _ _ o6, rdF _ _ _ o3, rdF _ _ _ o5, h3, h4, h5, h8, h9, h10, pay7_eq, pay8_eq, pay9_eq, pay10_eq, pay11_eq]
    rfl
  iexists _, _; isplitr; swap; · iexact H11
  ipureintro; rfl

theorem start_run (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole)
    (q : Vec F S1x512x64 .bf16) (kk : Vec F S1x8192x64 .bf16) (d8 : Vec F S512x1 .f32) (d9 : Vec F S512x128 .f32) (d10 : Vec F S512x512 .f32) (R : sProp 𝕄) :
    iprop(own c arg2 q ∗ own c arg3 kk ∗ own c arg8 d8 ∗ own c arg9 d9 ∗ own c arg10 d10 ∗ R)
      ⊢ wp frame (wpE (defs₀ (F := F)) Variants.none (c : Thread nD τ) none) Set.univ (k0_part5_skel (F := F) i arg2 harg2 arg3 harg3 arg4 harg4 arg5 harg5 arg6 harg6 arg7 harg7 arg8 harg8 arg9 harg9 arg10 harg10 arg11 harg11)
          (fun r => iprop(⌜r = ⟨BitVec.ofNat 32 (i 1).val, k0_pay22 q, k0_pay25, 2#32, Scalar.divsi (BitVec.ofNat 32 (i 1).val) 2#32, Scalar.subi (Scalar.extui (Scalar.cmpi .sgt (BitVec.ofNat 32 (i 1).val) 0#32)) (Scalar.extui (Scalar.cmpi .slt (BitVec.ofNat 32 (i 1).val) 0#32)), 0#32⟩⌝
            ∗ own c arg2 q ∗ own c arg3 kk ∗ own c arg8 (k0_pay23 (F := F)) ∗ own c arg9 (k0_pay24 (F := F)) ∗ own c arg10 (k0_pay2 (k0_pay22 q) (kwin kk (jb 0))) ∗ R)) := by
  have o1 : k0_off1 = ![0, 512 * (jb 0).val, 0] := rfl
  unfold own owns k0_part5_skel
  iintro ⟨⟨%f2, %h2, H2⟩, ⟨%f3, %h3, H3⟩, ⟨%f8, %h8, H8⟩, ⟨%f9, %h9, H9⟩, ⟨%f10, %h10, H10⟩, HR⟩
  sl_exec
  sl_step
  isplitr
  · ipureintro
    sl_unfold_run_names
    dsimp only
    simp only [rdQ, h2]
  isplitl [H2]
  · iexists _; isplitr; swap; · iexact H2
    ipureintro
    exact h2
  isplitl [H3]
  · iexists _; isplitr; swap; · iexact H3
    ipureintro
    exact h3
  isplitl [H8]
  · iexists _; isplitr; swap; · iexact H8
    ipureintro
    sl_unfold_run_names
    exact wrC _ _ _ _ _
  isplitl [H9]
  · iexists _; isplitr; swap; · iexact H9
    ipureintro
    sl_unfold_run_names
    exact wrA _ _ _ _ _
  isplitl [H10]
  · iexists _; isplitr; swap; · iexact H10
    ipureintro
    sl_unfold_run_names
    dsimp only
    rw [wrZ]
    simp only [rdQ, rdK _ _ _ o1, h2, h3, pay26_eq]
  iexact HR

theorem loop_run (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole)
    (E : Env F) (d11 : Vec F S512x512 .f32) (R : sProp 𝕄) :
    iprop(own c arg3 E.kk ∗ own c arg4 E.vv ∗ own c arg5 E.fr ∗ own c arg8 (k0_pay23 (F := F)) ∗ own c arg9 (k0_pay24 (F := F)) ∗ own c arg10 (k0_pay2 (k0_pay22 E.q) (kwin E.kk (jb 0))) ∗ own c arg11 d11 ∗ R)
      ⊢ wp frame (wpE (defs₀ (F := F)) Variants.none (c : Thread nD τ) none) Set.univ (k0_part6_skel (F := F) i arg2 harg2 arg3 harg3 arg4 harg4 arg5 harg5 arg6 harg6 arg7 harg7 arg8 harg8 arg9 harg9 arg10 harg10 arg11 harg11 (BitVec.ofNat 32 (i 1).val) (k0_pay22 E.q) 2#32 (Scalar.divsi (BitVec.ofNat 32 (i 1).val) 2#32) (Scalar.subi (Scalar.extui (Scalar.cmpi .sgt (BitVec.ofNat 32 (i 1).val) 0#32)) (Scalar.extui (Scalar.cmpi .slt (BitVec.ofNat 32 (i 1).val) 0#32))) 0#32)
          (fun r => iprop(⌜r.1 = BitVec.ofNat 32 (2 * ((i 1).val / 2))⌝
            ∗ held c arg3 arg4 arg5 arg8 arg9 arg10 arg11 E (prod E (jb (2 * ((i 1).val / 2)))) (trips E ((i 1).val / 2)) ∗ R)) := by
  have tt : Scf.trips (k0_t1_loop i).lb (k0_t1_loop i).ub (k0_t1_loop i).st = (i 1).val / 2 := trips_eq i
  rw [← pairWord_fin (i 1), ← tt]
  unfold own owns k0_part6_skel
  iintro ⟨⟨%f3, %h3, H3⟩, ⟨%f4, %h4, H4⟩, ⟨%f5, %h5, H5⟩, ⟨%f8, %h8, H8⟩, ⟨%f9, %h9, H9⟩, ⟨%f10, %h10, H10⟩, ⟨%f11, %h11, H11⟩, HR⟩
  dsimp only
  sl_for (fun k _ => held c arg3 arg4 arg5 arg8 arg9 arg10 arg11 E (prod E (jb (2 * k))) (trips E k)) $$ [H3 H4 H5 H8 H9 H10 H11]
  · intro k _
    exact trip_run c i arg2 harg2 arg3 harg3 arg4 harg4 arg5 harg5 arg6 harg6 arg7 harg7 arg8 harg8 arg9 harg9 arg10 harg10 arg11 harg11 _ _ _ _ _ E _ k
  · unfold held own owns
    isplitl [H3]
    · iexists _; isplitr; swap; · iexact H3
      ipureintro
      exact h3
    isplitl [H4]
    · iexists _; isplitr; swap; · iexact H4
      ipureintro
      exact h4
    isplitl [H5]
    · iexists _; isplitr; swap; · iexact H5
      ipureintro
      exact h5
    isplitl [H8]
    · iexists _; isplitr; swap; · iexact H8
      ipureintro
      exact h8
    isplitl [H9]
    · iexists _; isplitr; swap; · iexact H9
      ipureintro
      exact h9
    isplitl [H10]
    · iexists _; isplitr; swap; · iexact H10
      ipureintro
      exact h10
    iexists _, _; isplitr; swap; · iexact H11
    ipureintro
    exact h11
  iintro %u HI
  sl_exec
  sl_step
  isplitr
  · ipureintro; rfl
  isplitl [HI]
  · iexact HI
  iexact HR

/-- The body after its loop. -/
def tailProg (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole) (arg1 : BitVec 32) (v5 : FVec F S512x64 .bf16) (v16 : IVec S512x512 32) (v66 v70 : BitVec 32) :
    Prog (TpuEff nD τ sig (Elt F) Λ₀ .tc) Unit := do
  let ⟨v94, v102, v103, v108⟩ : Σ' (v94 : FVec F S512x1 .f32) (v102 : FVec F S512x128 .f32) (v103 : FVec F S512x512 .bf16), Vec F S1x512x128 .bf16 ← k0_part7 i arg2 harg2 arg3 harg3 arg4 harg4 arg5 harg5 arg6 harg6 arg7 harg7 arg8 harg8 arg9 harg9 arg10 harg10 arg11 harg11 arg1 v5 v16 v66 v70
  let ⟨v129, v142⟩ : Σ' (v129 : BitVec 32), FVec F S512x512 .f32 ← k0_part8 i arg2 harg2 arg3 harg3 arg4 harg4 arg5 harg5 arg6 harg6 arg7 harg7 arg8 harg8 arg9 harg9 arg10 harg10 arg11 harg11 arg1 v5 v16 v66 v94 v102 v103 v108
  let ⟨v170, v177⟩ : Σ' (v170 : Vec F S512x1 .f32), Vec F S512x1 .f32 ← k0_part9 i arg2 harg2 arg3 harg3 arg4 harg4 arg5 harg5 arg6 harg6 arg7 harg7 arg8 harg8 arg9 harg9 arg10 harg10 arg11 harg11 v129 v142
  let v180 : Vec F S1x512x1 .f32 ← Prog.lift (.load arg7 (Rect.unit (s := S1x512x1) ![0, 0, 0] S1x512x1.size inb_S1x512x1_S1x512x1_0_0_0).toLoadRect (View.loadsAt_vmem h_S1x512x1))
  Prog.lift (.store arg7 (Rect.unit (s := S1x512x1) ![0, 0, 0] S1x512x1.size inb_S1x512x1_S1x512x1_0_0_0) (k0_pay1 v170 v177) Finset.univ (View.stores_vmem_bits_univ h_S1x512x1 rfl) (.inl rfl))
  pure ⟨⟩

theorem tail_run (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole)
    (v70 : BitVec 32) (E : Env F) (s : St F) (d6 : Vec F S1x512x64 .f32) (d7 : Vec F S1x512x1 .f32) (R : sProp 𝕄) :
    iprop(held c arg3 arg4 arg5 arg8 arg9 arg10 arg11 E (prod E (jb (2 * ((i 1).val / 2)))) s ∗ own c arg6 d6 ∗ own c arg7 d7 ∗ R)
      ⊢ wp frame (wpE (defs₀ (F := F)) Variants.none (c : Thread nD τ) none) Set.univ (tailProg (F := F) i arg2 harg2 arg3 harg3 arg4 harg4 arg5 harg5 arg6 harg6 arg7 harg7 arg8 harg8 arg9 harg9 arg10 harg10 arg11 harg11 (BitVec.ofNat 32 (i 1).val) (k0_pay22 E.q) k0_pay25 (BitVec.ofNat 32 (2 * ((i 1).val / 2))) v70)
          (fun _ => iprop(own c arg3 E.kk ∗ own c arg4 E.vv ∗ own c arg5 E.fr
            ∗ own c arg6 (outO (tripM E (BitVec.ofNat 32 (i 1).val) (BitVec.ofNat 32 (2 * ((i 1).val / 2))) ((i 1).val / 2) s))
            ∗ own c arg7 (outL (tripM E (BitVec.ofNat 32 (i 1).val) (BitVec.ofNat 32 (2 * ((i 1).val / 2))) ((i 1).val / 2) s))
            ∗ (∃ d, own c arg8 d) ∗ (∃ d, own c arg9 d) ∗ (∃ d, own c arg10 d) ∗ (∃ d, own c arg11 d) ∗ R)) := by
  have hi : (i 1).val < 16 := (i 1).isLt
  have ja : (jb (2 * ((i 1).val / 2))).val = 2 * ((i 1).val / 2) := jb_of_le (by omega)
  have jB : (jb (2 * ((i 1).val / 2) + 1)).val = 2 * ((i 1).val / 2) + 1 := jb_of_le (by omega)
  have o12 : k0_off12 i 1#32 = ![0, 512 * (jb (2 * ((i 1).val / 2) + 1)).val, 0] := by rw [jB]; exact off12a_eq i
  have o13 : k0_off13 i = ![0, (jb (2 * ((i 1).val / 2))).val, 0, 0] := by rw [ja]; exact off13_eq i
  have o14 : k0_off14 i = ![0, 512 * (jb (2 * ((i 1).val / 2))).val, 0] := by rw [ja]; exact off14_eq i
  have o15 : k0_off15 i = ![0, (jb (2 * ((i 1).val / 2) + 1)).val, 0, 0] := by rw [jB]; exact off15_eq i
  have o16 : k0_off16 i = ![0, 512 * (jb (2 * ((i 1).val / 2) + 1)).val, 0] := by rw [jB]; exact off16_eq i
  unfold held own owns tailProg
  simp only [k0_part7_eq_skeleton, k0_part8_eq_skeleton, k0_part9_eq_skeleton]
  unfold k0_part7_skel k0_part8_skel k0_part9_skel
  iintro ⟨⟨⟨%e3, %t3, H3⟩, ⟨%e4, %t4, H4⟩, ⟨%e5, %t5, H5⟩, ⟨%e8, %t8, H8⟩, ⟨%e9, %t9, H9⟩, ⟨%e10, %t10, H10⟩, ⟨%d11, %e11, %t11, H11⟩⟩, ⟨%e6, %t6, H6⟩, ⟨%e7, %t7, H7⟩, HR⟩
  sl_exec
  sl_step
  isplitl [H3]
  · iexists _; isplitr; swap; · iexact H3
    ipureintro
    exact t3
  isplitl [H4]
  · iexists _; isplitr; swap; · iexact H4
    ipureintro
    exact t4
  isplitl [H5]
  · iexists _; isplitr; swap; · iexact H5
    ipureintro
    exact t5
  isplitl [H6]
  · iexists _; isplitr; swap; · iexact H6
    ipureintro
    sl_unfold_run_names
    dsimp only
    rw [wrO]
    simp only [rdZ, rdC, rdA, rdQ, cvZ, cvC, cvA, rdK _ _ _ o12, rdV _ _ _ o14, rdV _ _ _ o16, rdF _ _ _ o13, rdF _ _ _ o15, t3, t4, t5, t8, t9, t10, pay33_eq, pay38_eq, pay39_eq, pay41_eq, pay43_eq, pay44_eq, cvl, cvo]
    rfl
  isplitl [H7]
  · iexists _; isplitr; swap; · iexact H7
    ipureintro
    sl_unfold_run_names
    dsimp only
    rw [wrL]
    simp only [rdZ, rdC, rdA, rdQ, cvZ, cvC, cvA, rdK _ _ _ o12, rdV _ _ _ o14, rdV _ _ _ o16, rdF _ _ _ o13, rdF _ _ _ o15, t3, t4, t5, t8, t9, t10, pay33_eq, pay38_eq, pay39_eq, pay41_eq, pay43_eq, pay44_eq, cvl, cvo]
    rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  iexact HR

/-- The body at a grid point: each buffer it only reads kept, its two results from the read-only values. -/
theorem body_run (c : Dev nD) (i : grid0.Coords) (arg2 : Memref sig .tc .vmem S1x512x64 .bf16) (harg2 : arg2.IsWhole) (arg3 : Memref sig .tc .vmem S1x8192x64 .bf16) (harg3 : arg3.IsWhole) (arg4 : Memref sig .tc .vmem S1x8192x128 .bf16) (harg4 : arg4.IsWhole) (arg5 : Memref sig .tc .vmem S1x16x1x512 .f32) (harg5 : arg5.IsWhole) (arg6 : Memref sig .tc .vmem S1x512x64 .f32) (harg6 : arg6.IsWhole) (arg7 : Memref sig .tc .vmem S1x512x1 .f32) (harg7 : arg7.IsWhole) (arg8 : Memref sig .tc .vmem S512x1 .f32) (harg8 : arg8.IsWhole) (arg9 : Memref sig .tc .vmem S512x128 .f32) (harg9 : arg9.IsWhole) (arg10 : Memref sig .tc .vmem S512x512 .f32) (harg10 : arg10.IsWhole) (arg11 : Memref sig .tc .vmem S512x512 .f32) (harg11 : arg11.IsWhole)
    (E : Env F) (d6 : Vec F S1x512x64 .f32) (d7 : Vec F S1x512x1 .f32) (d8 : Vec F S512x1 .f32) (d9 : Vec F S512x128 .f32) (d10 d11 : Vec F S512x512 .f32) :
    iprop(own c arg2 E.q ∗ own c arg3 E.kk ∗ own c arg4 E.vv ∗ own c arg5 E.fr ∗ own c arg6 d6 ∗ own c arg7 d7 ∗ own c arg8 d8 ∗ own c arg9 d9 ∗ own c arg10 d10 ∗ own c arg11 d11)
      ⊢ wp frame (wpE (defs₀ (F := F)) Variants.none (c : Thread nD τ) none) Set.univ (cc0_fox_fwd (F := F) i arg2 harg2 arg3 harg3 arg4 harg4 arg5 harg5 arg6 harg6 arg7 harg7 arg8 harg8 arg9 harg9 arg10 harg10 arg11 harg11)
          (fun _ => iprop(own c arg2 E.q ∗ own c arg3 E.kk ∗ own c arg4 E.vv ∗ own c arg5 E.fr ∗ own c arg6 (outO (fin E (i 1).val)) ∗ own c arg7 (outL (fin E (i 1).val))
            ∗ (∃ d, own c arg8 d) ∗ (∃ d, own c arg9 d) ∗ (∃ d, own c arg10 d) ∗ (∃ d, own c arg11 d))) := by
  simp only [cc0_fox_fwd_eq_skeleton]; unfold cc0_fox_fwd_skel
  simp only [k0_part5_eq_skeleton, k0_part6_eq_skeleton]
  refine BIBase.Entails.trans ?_ (bind_of c _ (start_run c i arg2 harg2 arg3 harg3 arg4 harg4 arg5 harg5 arg6 harg6 arg7 harg7 arg8 harg8 arg9 harg9 arg10 harg10 arg11 harg11 E.q E.kk d8 d9 d10 iprop(own c arg4 E.vv ∗ own c arg5 E.fr ∗ own c arg6 d6 ∗ own c arg7 d7 ∗ own c arg11 d11)) fun r hr => ?_)
  · iintro ⟨H2, H3, H4, H5, H6, H7, H8, H9, H10, H11⟩
    isplitl [H2]; · iexact H2
    isplitl [H3]; · iexact H3
    isplitl [H8]; · iexact H8
    isplitl [H9]; · iexact H9
    isplitl [H10]; · iexact H10
    isplitl [H4]; · iexact H4
    isplitl [H5]; · iexact H5
    isplitl [H6]; · iexact H6
    isplitl [H7]; · iexact H7
    iexact H11
  subst hr
  refine BIBase.Entails.trans ?_ (bind_of c _ (loop_run c i arg2 harg2 arg3 harg3 arg4 harg4 arg5 harg5 arg6 harg6 arg7 harg7 arg8 harg8 arg9 harg9 arg10 harg10 arg11 harg11 E d11 iprop(own c arg2 E.q ∗ own c arg6 d6 ∗ own c arg7 d7)) fun r hr => ?_)
  · iintro ⟨H2, H3, H8, H9, H10, H4, H5, H6, H7, H11⟩
    isplitl [H3]; · iexact H3
    isplitl [H4]; · iexact H4
    isplitl [H5]; · iexact H5
    isplitl [H8]; · iexact H8
    isplitl [H9]; · iexact H9
    isplitl [H10]; · iexact H10
    isplitl [H11]; · iexact H11
    isplitl [H2]; · iexact H2
    isplitl [H6]; · iexact H6
    iexact H7
  obtain ⟨v66, v70⟩ := r
  dsimp only at hr
  subst hr
  refine BIBase.Entails.trans ?_ ((tail_run c i arg2 harg2 arg3 harg3 arg4 harg4 arg5 harg5 arg6 harg6 arg7 harg7 arg8 harg8 arg9 harg9 arg10 harg10 arg11 harg11 v70 E (trips E ((i 1).val / 2)) d6 d7 iprop(own c arg2 E.q)).trans (wp_mono _ _ _ fun r => ?_))
  · iintro ⟨H, H2, H6, H7⟩
    isplitl [H]; · iexact H
    isplitl [H6]; · iexact H6
    isplitl [H7]; · iexact H7
    iexact H2
  · iintro ⟨H3, H4, H5, H6, H7, H8, H9, H10, H11, H2⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11

end Cert.Kernel15Ideal.Hand

end
-- ==== Proof.FwdFrameI.lean ====
/- The forward attention's launch: what its results' blocks hold after each grid point, and the run of the whole program from
   the body's run. -/
module

public import proofs.«01_k».proof.Proof.FwdRunI
public import proofs.«01_k».proof.Proof.Gen.Kernel15Ideal.Frame.Runs
public import proofs.«01_k».proof.Proof.Gen.Kernel15Ideal.Points
public import Idealize.ShloMosaic.Lib.Pipeline.Frame
public import Idealize.ShloMosaic.Lib.Claim
public import Idealize.ShloMosaic.Lib.VecWindow

@[expose] public section

noncomputable section

namespace Cert.Kernel15Ideal.Hand

open Cert.Kernel15Ideal Cert.Kernel15Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What point `t` reads. -/
def envAt (c : Dev nD) (t : Fin cfg0.N) : Env F := ⟨iblk m c 0 t, iblk m c 1 t, iblk m c 2 t, iblk m c 3 t⟩

/-- The state point `t` ends its key blocks in. -/
def endAt (c : Dev nD) (t : Fin cfg0.N) : St F := fin (envAt m c t) ((grid0.coords t) 1).val

/-- The proof data on core `c`: the inputs' blocks left in place, the results' blocks from the point's last state. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outO (endAt m c t) : Vec F S1x512x64 .f32)
    | ⟨5, _⟩ => (outL (endAt m c t) : Vec F S1x512x1 .f32)
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- The point's resources and what it returns, window by window. -/
def pointPre (c : Dev nD) (t : Fin cfg0.N) : sProp 𝕄 :=
  iprop((dats m 0 c).Φ t.castSucc ∗ (dats m 0 c).owesAt () t.castSucc ∗ (∃ d, owns (c : Thread nD τ) (ms0_0 t) fullShare ((dats m 0 c).before 0 t d)) ∗ (∃ d, owns (c : Thread nD τ) (ms0_1 t) fullShare ((dats m 0 c).before 1 t d)) ∗ (∃ d, owns (c : Thread nD τ) (ms0_2 t) fullShare ((dats m 0 c).before 2 t d)) ∗ (∃ d, owns (c : Thread nD τ) (ms0_3 t) fullShare ((dats m 0 c).before 3 t d)) ∗ (∃ d, owns (c : Thread nD τ) (ms0_4 t) fullShare ((dats m 0 c).before 4 t d)) ∗ (∃ d, owns (c : Thread nD τ) (ms0_5 t) fullShare ((dats m 0 c).before 5 t d)))
def pointPost (c : Dev nD) (t : Fin cfg0.N) : sProp 𝕄 :=
  iprop((dats m 0 c).Φ t.succ ∗ (dats m 0 c).owesAt () t.succ ∗ owns (c : Thread nD τ) (ms0_0 t) fullShare ((dats m 0 c).after 0 t) ∗ owns (c : Thread nD τ) (ms0_1 t) fullShare ((dats m 0 c).after 1 t) ∗ owns (c : Thread nD τ) (ms0_2 t) fullShare ((dats m 0 c).after 2 t) ∗ owns (c : Thread nD τ) (ms0_3 t) fullShare ((dats m 0 c).after 3 t) ∗ owns (c : Thread nD τ) (ms0_4 t) fullShare ((dats m 0 c).after 4 t) ∗ owns (c : Thread nD τ) (ms0_5 t) fullShare ((dats m 0 c).after 5 t))

theorem before_inputs (c : Dev nD) (t : Fin cfg0.N) :
    (∀ d, (dats m 0 c).before 0 t d = iblk m c 0 t) ∧ (∀ d, (dats m 0 c).before 1 t d = iblk m c 1 t) ∧ (∀ d, (dats m 0 c).before 2 t d = iblk m c 2 t) ∧ (∀ d, (dats m 0 c).before 3 t d = iblk m c 3 t) :=
  ⟨fun d => before0_0_of m (dats m 0 c) (A_eq m c 0) (fun t => by dsimp only [dats]) t d, fun d => before0_1_of m (dats m 0 c) (A_eq m c 1) (fun t => by dsimp only [dats]) t d, fun d => before0_2_of m (dats m 0 c) (A_eq m c 2) (fun t => by dsimp only [dats]) t d, fun d => before0_3_of m (dats m 0 c) (A_eq m c 3) (fun t => by dsimp only [dats]) t d⟩

theorem point_sound (c : Dev nD) (t : Fin cfg0.N) :
    pointPre m c t ⊢ wp frame (wpE (defs₀ (F := F)) Variants.none (c : Thread nD τ) none) Set.univ (bodyAt0 t) (fun _ => pointPost m c t) := by
  unfold pointPre pointPost
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  obtain ⟨b0, b1, b2, b3⟩ := before_inputs m c t
  simp only [b0, b1, b2, b3]
  iintro ⟨⟨⟨⟨%e0, E0⟩, ⟨%e1, E1⟩, ⟨%e2, E2⟩, ⟨%e3, E3⟩⟩, Hg⟩, HO, ⟨%d0, D0⟩, ⟨%d1, D1⟩, ⟨%d2, D2⟩, ⟨%d3, D3⟩, ⟨%d4, D4⟩, ⟨%d5, D5⟩⟩
  ihave Hw := (body_run c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) scM0_1 (Memref.isWhole_whole _) scM0_2 (Memref.isWhole_whole _) scM0_3 (Memref.isWhole_whole _) (envAt m c t) ((dats m 0 c).before 4 t d4) ((dats m 0 c).before 5 t d5) e0 e1 e2 e3) $$ [D0 D1 D2 D3 D4 D5 E0 E1 E2 E3]
  · isplitl [D0]; · iexact D0
    isplitl [D1]; · iexact D1
    isplitl [D2]; · iexact D2
    isplitl [D3]; · iexact D3
    isplitl [D4]; · iexact D4
    isplitl [D5]; · iexact D5
    isplitl [E0]; · iexact E0
    isplitl [E1]; · iexact E1
    isplitl [E2]; · iexact E2
    iexact E3
  iapply (wp_wand_r Idealize.ShloMosaic.frame (wpE (defs₀ (F := F)) Variants.none (c : Thread nD τ) none) Set.univ)
  isplitl [Hw]
  · iexact Hw
  iintro %_ ⟨A0, A1, A2, A3, A4, A5, A6, A7, A8, A9⟩
  isplitl [A6 A7 A8 A9 Hg]
  · isplitr [Hg]
    · isplitl [A6]; · iexact A6
      isplitl [A7]; · iexact A7
      isplitl [A8]; · iexact A8
      iexact A9
    iexact Hg
  isplitl [HO]; · iexact HO
  isplitl [A0]; · iexact A0
  isplitl [A1]; · iexact A1
  isplitl [A2]; · iexact A2
  isplitl [A3]; · iexact A3
  isplitl [A4]; · iexact A4
  iexact A5

/-- The procedure the launch runs at point `t` is the body on the point's buffers. -/
theorem body_at (t : Fin cfg0.N) : defs₀ (F := F) .tc cfg0.body (cfg0.bodyArgs t (cfg0.slots t)) = bodyAt0 t := by
  unfold defs₀; rw [Defs.onTc_tc]

theorem body_ok (c : Dev nD) : BodyObligation (dats (F := F) m 0 c) (defs₀ (F := F)) Variants.none () Set.univ := fun t => by
  rw [bigSep_W0, bigSep_W0, body_at]
  exact triple_restated (point_sound m c t) rfl .rfl fun _ => .rfl

-- the launch theorem's implicit arguments are found only when unification may unfold definitions in their types
set_option backward.isDefEq.respectTransparency.types false in
/-- Every run ends with each window's array at its proof data's final contents, every other buffer as at the region's entry, and
    every counter zero. -/
theorem run_main : θ_run defs (onTc (τ := τ) (main (F := F))) (s₀ m ρ)
    (fun r => Pipeline.FramePost cfgs (dats m) 0 (V m) r ∧ r.2.sem = fun _ => 0) :=
  Pipeline.θ_run_frame_shared (Q' := _) cfgs (dats m) (0 : Fin 1) launch₀0 defs₀ Variants.none m ρ main
    (hbody := fun c => (body_ok m c).loose) (hq := fun _ _ _ => rfl)
    (howed := fun _ _ => rfl) (V := V m) (hmain := hmain m Variants.none) (hA := A_eq m) (hΦ := fun _ _ => rfl)

/-- The frame: the arguments end as they began, with every counter zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Kernel15Ideal.Hand

end
-- ==== Proof.FwdValI.lean ====
/- The forward attention's state and results over the real numbers: after each key block a row's running sums are the sums of the
   weights so far, scaled by the running maximum. -/
module

public import proofs.«01_k».proof.Proof.FwdStateI
public import proofs.«01_k».proof.Proof.Math
public import Idealize.ShloMosaic.Lib.Pointwise
public import Idealize.ShloMosaic.Lib.WordCmp
public import Idealize.ShloMosaic.Lib.VecWindow

@[expose] public section

noncomputable section

namespace Cert.Kernel15Ideal.Hand

open Cert.Kernel15Ideal Cert.Kernel15Ideal.Gen Cert.Fox
open Idealize.ShloMosaic Idealize.ShloMosaic.TcCoe
open Finset (range)

/-! ## Windows and payloads at an index -/

theorem kwin_apply (x : Vec Ideal S1x8192x64 .bf16) (j : Fin 16) (c : Fin 512) (d : Fin 64) :
    kwin x j (ix3 0 c d) = x (ix3 0 ⟨512 * j.val + c.val, by omega⟩ d) := by
  unfold kwin
  rw [VecWindow.window_eq_ld]
  pointwise []
theorem vwin_apply (x : Vec Ideal S1x8192x128 .bf16) (j : Fin 16) (c : Fin 512) (d : Fin 128) :
    vwin x j (ix3 0 c d) = x (ix3 0 ⟨512 * j.val + c.val, by omega⟩ d) := by
  unfold vwin
  rw [VecWindow.window_eq_ld]
  pointwise []
theorem fwin_apply (x : Vec Ideal S1x16x1x512 .f32) (j : Fin 16) (c : Fin 512) :
    fwin x j (ix4 0 0 0 c) = x (ix4 0 j 0 c) := by
  unfold fwin
  rw [VecWindow.window_eq_ld]
  pointwise []
theorem lwin_apply (x : Vec Ideal S512x128 .f32) (r : Fin 512) : lwin x (ix2 r 0) = x (ix2 r 64) := by
  unfold lwin
  rw [VecWindow.window_eq_ld]
  pointwise []
theorem owin_apply (x : Vec Ideal S512x128 .f32) (r : Fin 512) (d : Fin 64) : owin x (ix2 r d) = x (ix2 r ⟨d.val, by omega⟩) := by
  unfold owin
  rw [VecWindow.window_eq_ld]
  pointwise []

/-- Whether key column `c` of a block is at most `d` past row `r`, as the masked blocks ask it. -/
theorem ahead_iff (d : BitVec 32) (r c : Fin 512) :
    IntOp.cmpi .sle (IntOp.subi (BitVec.ofNat 32 c.val) (BitVec.ofNat 32 r.val)) d = BitVec.ofBool (decide ((c.val : ℤ) - r.val ≤ d.toInt)) := by
  have h : (IntOp.subi (BitVec.ofNat 32 c.val) (BitVec.ofNat 32 r.val) : BitVec 32).toInt = (c.val : ℤ) - r.val := by
    show (BitVec.ofNat 32 c.val - BitVec.ofNat 32 r.val).toInt = _
    rw [BitVec.toInt_sub, BitVec.toInt_ofNat', BitVec.toInt_ofNat', Int.bmod_def, Int.bmod_def, Int.bmod_def]
    have := c.isLt; have := r.isLt
    norm_num
    omega
  rw [WordCmp.cmpi_sle_eq, h]
theorem mask_is_bot : (Named.named κ "mask" 0xF149F2CA#32 : Ideal .f32) = (⊥ : EReal) := rfl

theorem q8_apply (q : Vec Ideal S1x512x64 .bf16) (r : Fin 512) (d : Fin 64) :
    k0_pay22 q (ix2 r d) = q (ix3 0 r d) * ((1 / 8 : ℝ) : EReal) := by
  pointwise [k0_pay22]
  rw [ofBits_eighth]
theorem prod_apply (E : Env Ideal) (j : Fin 16) (r c : Fin 512) :
    prod E j (ix2 r c) = ∑ d : Fin 64, k0_pay22 E.q (ix2 r d) * kwin E.kk j (ix3 0 c d) := by
  pointwise [prod, k0_pay2]
theorem sc_apply (z : Vec Ideal S512x512 .f32) (fr : Vec Ideal S1x1x1x512 .f32) (r c : Fin 512) :
    sc z fr (ix2 r c) = z (ix2 r c) - fr (ix4 0 0 0 c) := by
  pointwise [sc, k0_pay10]
theorem scMask_apply (d : BitVec 32) (z : Vec Ideal S512x512 .f32) (fr : Vec Ideal S1x1x1x512 .f32) (r c : Fin 512) :
    scMask d z fr (ix2 r c) = if ((c.val : ℤ) - r.val ≤ d.toInt) then z (ix2 r c) - fr (ix4 0 0 0 c) else ⊥ := by
  pointwise [scMask, k0_pay25]
  rw [ahead_iff, select_ofBool, mask_is_bot, sc_apply]
theorem mx0_apply (r : Fin 512) : (k0_pay23 (F := Ideal)) (ix2 r 0) = ⊥ := by
  pointwise [k0_pay23]
  exact mask_is_bot
theorem acc0_apply (r : Fin 512) (d : Fin 128) : (k0_pay24 (F := Ideal)) (ix2 r d) = 0 := by
  pointwise [k0_pay24]
theorem rmax_apply (s : FVec Ideal S512x512 .f32) (r : Fin 512) :
    rmax s (ix2 r 0) = (Finset.univ : Finset (Fin 512)).fold max ⊥ (fun c => s (ix2 r c)) := by
  pointwise [rmax]
  rw [ofBits_bot]
theorem mx_apply (x : Vec Ideal S512x1 .f32) (m : Vec Ideal S512x1 .f32) (r : Fin 512) :
    k0_pay29 x m (ix2 r 0) = max (x (ix2 r 0)) (m (ix2 r 0)) := by
  pointwise [k0_pay29, k0_pay27]
theorem acc_apply (s : FVec Ideal S512x512 .f32) (x m : Vec Ideal S512x1 .f32) (a : Vec Ideal S512x128 .f32) (v : Vec Ideal S1x512x128 .bf16)
    (r : Fin 512) (d : Fin 128) :
    k0_pay28 s x m a v (ix2 r d) = Ideal.exp (x (ix2 r 0) - max (x (ix2 r 0)) (m (ix2 r 0))) * a (ix2 r d)
      + ∑ c : Fin 512, Ideal.exp (s (ix2 r c) - max (x (ix2 r 0)) (m (ix2 r 0))) * v (ix3 0 c d) := by
  pointwise [k0_pay28, k0_pay27]
theorem outO_apply (s : St Ideal) (r : Fin 512) (d : Fin 64) :
    outO s (ix3 0 r d) = Ideal.div (s.acc (ix2 r ⟨d.val, by omega⟩)) (s.acc (ix2 r 64)) := by
  pointwise [outO, k0_pay45]
  rw [lwin_apply, owin_apply]
theorem outL_apply (s : St Ideal) (r : Fin 512) :
    outL s (ix3 0 r 0) = s.mx (ix2 r 0) + Ideal.log (s.acc (ix2 r 64)) := by
  pointwise [outL, k0_pay1]
  rw [lwin_apply]

/-! ## One row -/

/-- A row's maximum and sums stand for the true sums `A`: nothing yet, or the sums scaled by the maximum. -/
def RowOk (mx : EReal) (acc : Fin 128 → EReal) (A : ℕ → ℝ) : Prop :=
  (mx = ⊥ ∧ ∀ d : Fin 128, acc d = 0 ∧ A d = 0) ∨ ∃ M : ℝ, mx = (M : EReal) ∧ ∀ d : Fin 128, acc d = ((Real.exp (-M) * A d : ℝ) : EReal)

/-- A row after a key block whose logits are the numbers `S` where `vis` and nothing elsewhere. -/
theorem row_step {mx : EReal} {acc : Fin 128 → EReal} {A : ℕ → ℝ} (h : RowOk mx acc A) {s : Fin 512 → EReal} {v : Fin 512 → Fin 128 → EReal}
    {S : ℕ → ℝ} {V : ℕ → ℕ → ℝ} {vis : ℕ → Prop} [DecidablePred vis] (hs : ∀ c : Fin 512, s c = if vis c then (S c : EReal) else ⊥)
    (hv : ∀ (c : Fin 512) (d : Fin 128), v c d = (V c d : EReal)) (hx : mx ≠ ⊥ ∨ vis 0)
    {m : EReal} (hm : m = max mx ((Finset.univ : Finset (Fin 512)).fold max ⊥ s)) :
    ∃ M : ℝ, m = (M : EReal) ∧ ∀ d : Fin 128, Ideal.exp (mx - m) * acc d + ∑ c : Fin 512, Ideal.exp (s c - m) * v c d
      = ((Real.exp (-M) * (A d + ∑ c ∈ range 512, (if vis c then Real.exp (S c) else 0) * V c d) : ℝ) : EReal) := by
  have hM : ∃ M : ℝ, m = (M : EReal) := by
    by_cases hvis : ∃ c : Fin 512, vis c
    · obtain ⟨c0, h0⟩ := hvis
      obtain ⟨x, hx'⟩ := fold_max_real s (fun c => by rw [hs]; split <;> simp) c0 (by rw [hs, if_pos h0]; simp)
      rcases h with ⟨hb, _⟩ | ⟨M, hb, _⟩
      · exact ⟨x, by rw [hm, hx', hb, max_eq_right bot_le]⟩
      · exact ⟨max M x, by rw [hm, hx', hb]; exact (EReal.coe_strictMono.monotone.map_max).symm⟩
    · have hf : (Finset.univ : Finset (Fin 512)).fold max ⊥ s = ⊥ := by
        have : ∀ t : Finset (Fin 512), t.fold max ⊥ s = ⊥ := by
          intro t
          induction t using Finset.induction_on with
          | empty => simp
          | insert a t ha ih => rw [Finset.fold_insert ha, ih, hs, if_neg fun hc => hvis ⟨a, hc⟩, max_self]
        exact this _
      rcases h with ⟨hb, _⟩ | ⟨M, hb, _⟩
      · rcases hx with hx | hx
        · exact absurd hb hx
        · exact absurd ⟨(0 : Fin 512), hx⟩ hvis
      · exact ⟨M, by rw [hm, hf, hb, max_eq_left bot_le]⟩
  obtain ⟨M, hM⟩ := hM
  refine ⟨M, hM, fun d => ?_⟩
  have h1 : Ideal.exp (mx - m) * acc d = ((Real.exp (-M) * A d : ℝ) : EReal) := by
    rcases h with ⟨hb, h0⟩ | ⟨M', hb, h0⟩
    · rw [(h0 d).1, (h0 d).2, mul_zero, mul_zero, EReal.coe_zero]
    · rw [h0 d, hb, hM, ← EReal.coe_sub, exp_coe, ← EReal.coe_mul]
      refine coe_congr ?_
      rw [← mul_assoc, ← Real.exp_add]
      congr 2; ring
  have h2 : ∑ c : Fin 512, Ideal.exp (s c - m) * v c d
      = ((∑ c ∈ range 512, Real.exp (-M) * ((if vis c then Real.exp (S c) else 0) * V c d) : ℝ) : EReal) :=
    sum_real (fun c => Real.exp (-M) * ((if vis c then Real.exp (S c) else 0) * V c d)) fun c => by
      rw [hs, hv, hM]
      by_cases hc : vis c
      · rw [if_pos hc, if_pos hc, ← EReal.coe_sub, exp_coe, ← EReal.coe_mul]
        refine coe_congr ?_
        rw [← mul_assoc, ← Real.exp_add]
        congr 2; ring
      · rw [if_neg hc, if_neg hc, bot_sub_coe, exp_bot, ← EReal.coe_mul]
        refine coe_congr ?_
        ring
  rw [h1, h2, ← EReal.coe_add, ← Finset.mul_sum, ← mul_add]

/-! ## One grid point -/

/-- A point reads rows of query block `i`, and head `H`'s keys, values and decays. -/
structure EnvOk (E : Env Ideal) (H : Head) (i : ℕ) : Prop where
  q : ∀ (r : Fin 512) (d : Fin 64), E.q (ix3 0 r d) = ((H.q (512 * i + r.val) d : ℝ) : EReal)
  kk : ∀ (j : Fin 8192) (d : Fin 64), E.kk (ix3 0 j d) = ((H.k j d : ℝ) : EReal)
  vv : ∀ (j : Fin 8192) (d : Fin 128), E.vv (ix3 0 j d) = ((if d.val < 64 then H.v j d else 1 : ℝ) : EReal)
  fr : ∀ (b : Fin 16) (c : Fin 512), E.fr (ix4 0 b 0 c) = ((H.f (512 * b.val + c.val) : ℝ) : EReal)

/-- The sum over the first `n` key blocks of row `R`'s weights against column `d` of the values and the ones. -/
def wsum (H : Head) (n R d : ℕ) : ℝ := ∑ x ∈ range (512 * n), H.W R x * (if d < 64 then H.v x d else 1)

theorem wsum_succ (H : Head) (n R d : ℕ) :
    wsum H n R d + ∑ c ∈ range 512, H.W R (512 * n + c) * (if d < 64 then H.v (512 * n + c) d else 1) = wsum H (n + 1) R d := by
  unfold wsum; rw [show 512 * (n + 1) = 512 * n + 512 by omega, Finset.sum_range_add]

/-- Past the query's own block nothing is added. -/
theorem wsum_full (H : Head) {n R d : ℕ} (hR : R < 512 * n) (hn : n ≤ 16) :
    wsum H n R d = ∑ x ∈ range 8192, H.W R x * (if d < 64 then H.v x d else 1) := by
  unfold wsum
  refine Finset.sum_subset (fun x hx => Finset.mem_range.2 (by have := Finset.mem_range.1 hx; omega)) fun x _ hx => ?_
  have : ¬ x ≤ R := fun h => hx (Finset.mem_range.2 (by omega))
  unfold Head.W
  rw [if_neg this, zero_mul]

/-- The state of query block `i` after `n` key blocks. -/
structure StOk (H : Head) (i n : ℕ) (s : St Ideal) : Prop where
  row : ∀ r : Fin 512, RowOk (s.mx (ix2 r 0)) (fun d => s.acc (ix2 r d)) (wsum H n (512 * i + r.val))
  some : 0 < n → ∀ r : Fin 512, s.mx (ix2 r 0) ≠ ⊥

section
variable {E : Env Ideal} {H : Head} {i : ℕ} (A : EnvOk E H i)
include A

theorem z_apply (j : Fin 16) (r c : Fin 512) :
    prod E j (ix2 r c) - fwin E.fr j (ix4 0 0 0 c) = ((H.sc (512 * i + r.val) (512 * j.val + c.val) : ℝ) : EReal) := by
  rw [prod_apply, fwin_apply, A.fr, sum_real (fun d => H.q (512 * i + r.val) d * (1 / 8) * H.k (512 * j.val + c.val) d) fun d => by
    rw [q8_apply, A.q, kwin_apply, A.kk, ← EReal.coe_mul, ← EReal.coe_mul], ← EReal.coe_sub]
  refine coe_congr ?_
  unfold Head.sc
  rw [Finset.sum_mul]
  congr 1
  exact Finset.sum_congr rfl fun d _ => by ring

theorem blk_ok {n : ℕ} (hn : n ≤ 15) {lg : FVec Ideal S512x512 .f32}
    (hl : ∀ r c : Fin 512, lg (ix2 r c) = if 512 * n + c.val ≤ 512 * i + r.val then ((H.sc (512 * i + r.val) (512 * n + c.val) : ℝ) : EReal) else ⊥)
    {s : St Ideal} (hs : StOk H i n s) : StOk H i (n + 1) (blk lg (vwin E.vv (jb n)) s) := by
  have key : ∀ r : Fin 512, ∃ M : ℝ, (blk lg (vwin E.vv (jb n)) s).mx (ix2 r 0) = (M : EReal)
      ∧ ∀ d : Fin 128, (blk lg (vwin E.vv (jb n)) s).acc (ix2 r d) = ((Real.exp (-M) * wsum H (n + 1) (512 * i + r.val) d : ℝ) : EReal) := by
    intro r
    have hx : s.mx (ix2 r 0) ≠ ⊥ ∨ 512 * n + 0 ≤ 512 * i + r.val := by
      rcases Nat.eq_zero_or_pos n with h | h
      · exact Or.inr (by omega)
      · exact Or.inl (hs.some h r)
    obtain ⟨M, hM, ha⟩ := row_step (hs.row r) (s := fun c => lg (ix2 r c)) (v := fun c d => vwin E.vv (jb n) (ix3 0 c d))
      (S := fun c => H.sc (512 * i + r.val) (512 * n + c)) (V := fun c d => if d < 64 then H.v (512 * n + c) d else 1)
      (vis := fun c => 512 * n + c ≤ 512 * i + r.val) (fun c => hl r c)
      (fun c d => by
        rw [vwin_apply, A.vv]
        show ((if d.val < 64 then H.v (512 * (jb n).val + c.val) d else 1 : ℝ) : EReal) = _
        rw [jb_of_le hn]) hx (m := max (s.mx (ix2 r 0)) (rmax lg (ix2 r 0))) (by rw [rmax_apply])
    refine ⟨M, ?_, fun d => ?_⟩
    · show k0_pay29 s.mx (rmax lg) (ix2 r 0) = _
      rw [mx_apply, hM]
    · show k0_pay28 lg s.mx (rmax lg) s.acc (vwin E.vv (jb n)) (ix2 r d) = _
      rw [acc_apply, ← wsum_succ]
      exact ha d
  refine ⟨fun r => Or.inr ?_, fun _ r => ?_⟩
  · obtain ⟨M, hM, ha⟩ := key r
    exact ⟨M, hM, ha⟩
  · obtain ⟨M, hM, _⟩ := key r
    rw [hM]; exact EReal.coe_ne_bot M

theorem blkN_ok {n : ℕ} (hn : n < i) (hi : i ≤ 15) {s : St Ideal} (hs : StOk H i n s) : StOk H i (n + 1) (blkN E n s) :=
  blk_ok A (by omega) (fun r c => by
    rw [sc_apply, z_apply A, jb_of_le (by omega), if_pos (by omega)]) hs
theorem blkM_ok {n : ℕ} (hn : n ≤ 15) {d : BitVec 32} (hd : d.toInt = 512 * ((i : ℤ) - n)) {s : St Ideal} (hs : StOk H i n s) :
    StOk H i (n + 1) (blkM E d n s) :=
  blk_ok A hn (fun r c => by
    rw [scMask_apply, z_apply A, jb_of_le hn, hd]
    exact if_congr (by omega) rfl rfl) hs

theorem trips_ok (hi : i ≤ 15) : ∀ k, 2 * k ≤ i → StOk H i (2 * k) (trips E k)
  | 0, _ => ⟨fun r => Or.inl ⟨mx0_apply r, fun d => ⟨acc0_apply r d, by unfold wsum; rw [mul_zero, mul_zero, Finset.sum_range_zero]⟩⟩, fun h => absurd h (by omega)⟩
  | k + 1, h =>
    have h' : 2 * k + 2 ≤ i := h
    blkN_ok A (n := 2 * k + 1) (by omega) hi (blkN_ok A (n := 2 * k) (by omega) hi (trips_ok hi k (by omega)))

omit A in
theorem words : ∀ i : Fin 16, (Scalar.muli (Scalar.subi (BitVec.ofNat 32 i.val) (BitVec.ofNat 32 (2 * (i.val / 2)))) 512#32 : BitVec 32).toInt = 512 * ((i.val : ℤ) - (2 * (i.val / 2) : ℕ))
    ∧ (Scalar.muli (Scalar.subi (BitVec.ofNat 32 i.val) (Scalar.addi (BitVec.ofNat 32 (2 * (i.val / 2))) 1#32)) 512#32 : BitVec 32).toInt = 512 * ((i.val : ℤ) - (2 * (i.val / 2) + 1 : ℕ)) := by
  decide +kernel

theorem fin_ok (hi : i ≤ 15) : StOk H i (2 * (i / 2) + 2) (fin E i) :=
  blkM_ok A (by omega) (words ⟨i, by omega⟩).2 (blkM_ok A (by omega) (words ⟨i, by omega⟩).1 (trips_ok A hi (i / 2) (by omega)))

/-- A row of the last state: the sums of all its weights, scaled by its maximum. -/
theorem fin_row (hi : i ≤ 15) (r : Fin 512) : ∃ M : ℝ, (fin E i).mx (ix2 r 0) = (M : EReal)
    ∧ (fin E i).acc (ix2 r 64) = ((Real.exp (-M) * H.L (512 * i + r.val) : ℝ) : EReal)
    ∧ ∀ d : Fin 64, (fin E i).acc (ix2 r ⟨d.val, by omega⟩) = ((Real.exp (-M) * ∑ x ∈ range 8192, H.W (512 * i + r.val) x * H.v x d : ℝ) : EReal) := by
  have P := fin_ok A hi
  rcases P.row r with ⟨hb, _⟩ | ⟨M, hM, ha⟩
  · exact absurd hb (P.some (by omega) r)
  · refine ⟨M, hM, ?_, fun d => ?_⟩
    · refine (ha 64).trans (coe_congr ?_)
      rw [wsum_full H (by omega) (by omega)]
      unfold Head.L
      refine congrArg _ (Finset.sum_congr rfl fun x _ => ?_)
      rw [if_neg (by decide), mul_one]
    · refine (ha ⟨d.val, by omega⟩).trans (coe_congr ?_)
      rw [wsum_full H (by omega) (by omega)]
      refine congrArg _ (Finset.sum_congr rfl fun x _ => ?_)
      rw [if_pos d.isLt]

theorem outO_val (hi : i ≤ 15) (r : Fin 512) (d : Fin 64) : outO (fin E i) (ix3 0 r d) = ((H.o (512 * i + r.val) d : ℝ) : EReal) := by
  obtain ⟨M, _, hl, ho⟩ := fin_row A hi r
  have hL := H.L_pos (i := 512 * i + r.val) (by omega)
  rw [outO_apply, hl, ho d, div_coe _ (mul_pos (Real.exp_pos _) hL).ne']
  refine coe_congr ?_
  rw [mul_div_mul_left _ _ (Real.exp_pos _).ne', H.o_def, Finset.sum_div]
  refine Finset.sum_congr rfl fun x _ => ?_
  unfold Head.P
  ring
theorem outL_val (hi : i ≤ 15) (r : Fin 512) : outL (fin E i) (ix3 0 r 0) = ((Real.log (H.L (512 * i + r.val)) : ℝ) : EReal) := by
  obtain ⟨M, hM, hl, _⟩ := fin_row A hi r
  have hL := H.L_pos (i := 512 * i + r.val) (by omega)
  rw [outL_apply, hl, hM, log_coe (mul_pos (Real.exp_pos _) hL), ← EReal.coe_add, Real.log_mul (Real.exp_pos _).ne' hL.ne', Real.log_exp]
  exact coe_congr (by ring)
end

end Cert.Kernel15Ideal.Hand

end
-- ==== Proof.FwdArrI.lean ====
/- The forward pass's results after the launch, over the real numbers. Point `t` is query block `t % 16` of head `t / 16`. -/
module

public import proofs.«01_k».proof.Proof.FwdFrameI
public import proofs.«01_k».proof.Proof.FwdValI
public import proofs.«01_k».proof.Proof.HostI
public import Idealize.ShloMosaic.Lib.StableHlo.RunRead
public import Idealize.ShloMosaic.Lib.Pipeline.ValueKit

@[expose] public section

noncomputable section

namespace Cert.Kernel15Ideal.Hand

open Cert.Kernel15Ideal Cert.Kernel15Ideal.Gen Cert.Fox
open Idealize.ShloMosaic Idealize.ShloMosaic.TcCoe

theorem coord1 : ∀ t : Fin cfg0.N, ((grid0.coords t) 1).val = t.val % 16 := (by decide +kernel : ∀ t : Fin grid0.N, _)
theorem idx0 : ∀ t : Fin cfg0.N, win0_0.index t = ![t.val / 16, t.val % 16, 0] := (by decide +kernel : ∀ t : Fin grid0.N, _)
theorem idx1 : ∀ t : Fin cfg0.N, win0_1.index t = ![8 + t.val / 16, 0, 0] := (by decide +kernel : ∀ t : Fin grid0.N, _)
theorem idx2 : ∀ t : Fin cfg0.N, win0_2.index t = ![t.val / 16, 0, 0] := (by decide +kernel : ∀ t : Fin grid0.N, _)
theorem idx3 : ∀ t : Fin cfg0.N, win0_3.index t = ![t.val / 16, 0, 0, 0] := (by decide +kernel : ∀ t : Fin grid0.N, _)
theorem idx4 : ∀ t : Fin cfg0.N, win0_4.index t = ![t.val / 16, t.val % 16, 0] := (by decide +kernel : ∀ t : Fin grid0.N, _)
theorem idx5 : ∀ t : Fin cfg0.N, win0_5.index t = ![t.val / 16, t.val % 16, 0] := (by decide +kernel : ∀ t : Fin grid0.N, _)

theorem lt128 (t : Fin cfg0.N) : t.val < 128 := t.isLt

/-- The head of a point, and row `r` of its query block. -/
def hd (t : Fin cfg0.N) : Fin 8 := ⟨t.val / 16, by have := lt128 t; omega⟩
def row' (t : Fin cfg0.N) (r : Fin 512) : Fin 8192 := ⟨512 * (t.val % 16) + r.val, by omega⟩

variable (m : (ℓ : Loc nD τ sig) → Buf (Elt Ideal) ℓ) (c : Dev nD) (t : Fin cfg0.N)

section
open Idealize.ShloMosaic.StableHlo
theorem V_v3 : V m c main_v3 = Cert.KernelIdeal.Hand.vOnes (m ((c.tc : Thread nD τ).loc main_arg0)) := by
  unfold V; simp only [hostOps0, List.flatten_cons, List.flatten_nil, List.append_nil, List.cons_append, List.nil_append]; after_reads_simp; rfl
theorem V_v1 : V m c main_v1 = Cert.KernelIdeal.Hand.fRow (m ((c.tc : Thread nD τ).loc main_arg1)) := by
  unfold V; simp only [hostOps0, List.flatten_cons, List.flatten_nil, List.append_nil, List.cons_append, List.nil_append]; after_reads_simp; rfl
end

theorem at0 (X : FVec Ideal S50x8192x64 .bf16) (r : Fin 512) (d : Fin 64) :
    (((cfg0.win 0).blk t).view.read (Elt Ideal) X : Vec Ideal S1x512x64 .bf16) (ix3 0 r d) = X (ix3 ⟨t.val / 16, by have := lt128 t; omega⟩ (row' t r) d) := by
  blk_ext [idx0 t, row']
theorem blk0 (r : Fin 512) (d : Fin 64) : (iblk m c 0 t : Vec Ideal S1x512x64 .bf16) (ix3 0 r d) = (V m c main_arg0 : FVec Ideal S50x8192x64 .bf16) (ix3 ⟨t.val / 16, by have := lt128 t; omega⟩ (row' t r) d) := by
  unfold iblk
  exact at0 t (V m c main_arg0) r d
theorem at1 (X : FVec Ideal S50x8192x64 .bf16) (j : Fin 8192) (d : Fin 64) :
    (((cfg0.win 1).blk t).view.read (Elt Ideal) X : Vec Ideal S1x8192x64 .bf16) (ix3 0 j d) = X (ix3 ⟨8 + t.val / 16, by have := lt128 t; omega⟩ j d) := by
  blk_ext [idx1 t]
theorem blk1 (j : Fin 8192) (d : Fin 64) : (iblk m c 1 t : Vec Ideal S1x8192x64 .bf16) (ix3 0 j d) = (V m c main_arg0 : FVec Ideal S50x8192x64 .bf16) (ix3 ⟨8 + t.val / 16, by have := lt128 t; omega⟩ j d) := by
  unfold iblk
  exact at1 t (V m c main_arg0) j d
theorem at2 (X : FVec Ideal S8x8192x128 .bf16) (j : Fin 8192) (d : Fin 128) :
    (((cfg0.win 2).blk t).view.read (Elt Ideal) X : Vec Ideal S1x8192x128 .bf16) (ix3 0 j d) = X (ix3 (hd t) j d) := by
  blk_ext [idx2 t, hd]
theorem blk2 (j : Fin 8192) (d : Fin 128) : (iblk m c 2 t : Vec Ideal S1x8192x128 .bf16) (ix3 0 j d) = (V m c main_v3 : FVec Ideal S8x8192x128 .bf16) (ix3 (hd t) j d) := by
  unfold iblk
  exact at2 t (V m c main_v3) j d
theorem at3 (X : FVec Ideal S8x16x1x512 .f32) (b : Fin 16) (x : Fin 512) :
    (((cfg0.win 3).blk t).view.read (Elt Ideal) X : Vec Ideal S1x16x1x512 .f32) (ix4 0 b 0 x) = X (ix4 (hd t) b 0 x) := by
  blk_ext [idx3 t, hd]
theorem blk3 (b : Fin 16) (x : Fin 512) : (iblk m c 3 t : Vec Ideal S1x16x1x512 .f32) (ix4 0 b 0 x) = (V m c main_v1 : FVec Ideal S8x16x1x512 .f32) (ix4 (hd t) b 0 x) := by
  unfold iblk
  exact at3 t (V m c main_v1) b x

/-- Head `h`'s part of the arguments a core is given is `H`. -/
abbrev ArgsAt (x2 : FVec Ideal ⟨3, ![8, 8192, 64]⟩ .f32) (h : Fin 8) (H : Head) : Prop :=
  Args (m ((c.tc : Thread nD τ).loc main_arg0)) (m ((c.tc : Thread nD τ).loc main_arg1)) x2 h H

theorem env_ok {x2 : FVec Ideal ⟨3, ![8, 8192, 64]⟩ .f32} {H : Head} (A : ArgsAt m c x2 (hd t) H) :
    EnvOk (envAt m c t) H (t.val % 16) where
  q r d := by
    show (iblk m c 0 t : Vec Ideal S1x512x64 .bf16) (ix3 0 r d) = _
    rw [blk0, V_main_arg0]
    exact A.q (row' t r) d
  kk j d := by
    show (iblk m c 1 t : Vec Ideal S1x8192x64 .bf16) (ix3 0 j d) = _
    rw [blk1, V_main_arg0]
    exact A.k j d
  vv j d := by
    show (iblk m c 2 t : Vec Ideal S1x8192x128 .bf16) (ix3 0 j d) = _
    rw [blk2, V_v3]
    exact Cert.KernelIdeal.Hand.vOnes_apply A j d
  fr b x := by
    show (iblk m c 3 t : Vec Ideal S1x16x1x512 .f32) (ix4 0 b 0 x) = _
    rw [blk3, V_v1]
    exact Cert.KernelIdeal.Hand.fRow_apply A b x

theorem emb4 (y : ((cfg0.win 4).xblock (cfg0.grid.coords t)).Idx) :
    (((cfg0.win 4).blk t).view.emb y : S8x8192x64.Idx) = ix3 (hd t) (row' t (y 1)) (y 2) := by
  blk_ext [idx4 t, hd, row']
theorem emb5 (y : ((cfg0.win 5).xblock (cfg0.grid.coords t)).Idx) :
    (((cfg0.win 5).blk t).view.emb y : S8x8192x1.Idx) = ix3 (hd t) (row' t (y 1)) 0 := by
  blk_ext [idx5 t, hd, row']
theorem at512 (y : S1x512x64.Idx) : y = ix3 0 (y 1) (y 2) := by blk_ext []
theorem at512c (y : S1x512x1.Idx) : y = ix3 0 (y 1) 0 := by blk_ext []

/-- What the launch leaves keeps the arguments. -/
theorem args_kept (r) (h : Pipeline.FramePost cfgs (dats m) 0 (V m) r ∧ r.2.sem = fun _ => 0) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h.1 c).1 1).trans (((dats m 0 c).arrAt_in 1 rfl _).trans ((A_eq m c 1).trans (V_main_arg0 m c))),
    ((h.1 c).2 main_arg1 (Pipeline.mem_restRefs_of main_arg1 (by decide) (by decide))).trans (V_main_arg1 m c)⟩

variable (x2 : FVec Ideal ⟨3, ![8, 8192, 64]⟩ .f32) (Hd : Fin 8 → Head) (A : ∀ h, ArgsAt m c x2 h (Hd h))
include A

theorem end_o (r : Fin 512) (d : Fin 64) : outO (endAt m c t) (ix3 0 r d) = (((Hd (hd t)).o (row' t r) d : ℝ) : EReal) := by
  unfold endAt
  rw [coord1]
  exact outO_val (env_ok m c t (A (hd t))) (by omega) r d
theorem end_l (r : Fin 512) : outL (endAt m c t) (ix3 0 r 0) = ((Real.log ((Hd (hd t)).L (row' t r)) : ℝ) : EReal) := by
  unfold endAt
  rw [coord1]
  exact outL_val (env_ok m c t (A (hd t))) (by omega) r

theorem arr_o (G : FVec Ideal S8x8192x64 .f32) (hG : ∀ (h : Fin 8) (i : Fin 8192) (d : Fin 64), G (ix3 h i d) = (((Hd h).o i d : ℝ) : EReal)) :
    (dats m 0 c).arrAt 4 cfg0.N = G := by
  refine (dats m 0 c).arrAt_eq_of_covers 4 _ (by decide +kernel) fun t hf y => ?_
  rw [emb4]
  refine Eq.trans ?_ (hG _ _ _).symm
  show (outO (endAt m c t) : FVec Ideal S1x512x64 .f32) y = _
  exact (congrArg (outO (endAt m c t) : FVec Ideal S1x512x64 .f32) (at512 y)).trans (end_o m c t x2 Hd A (y 1) (y 2))
theorem arr_l (G : FVec Ideal S8x8192x1 .f32) (hG : ∀ (h : Fin 8) (i : Fin 8192), G (ix3 h i 0) = ((Real.log ((Hd h).L i) : ℝ) : EReal)) :
    (dats m 0 c).arrAt 5 cfg0.N = G := by
  refine (dats m 0 c).arrAt_eq_of_covers 5 _ (by decide +kernel) fun t hf y => ?_
  rw [emb5]
  refine Eq.trans ?_ (hG _ _).symm
  show (outL (endAt m c t) : FVec Ideal S1x512x1 .f32) y = _
  exact (congrArg (outL (endAt m c t) : FVec Ideal S1x512x1 .f32) (at512c y)).trans (end_l m c t x2 Hd A (y 1))

end Cert.Kernel15Ideal.Hand

end
-- ==== Proof.FwdRef.lean ====
/- The forward pass's reference ends with the attention output and the log-sum-exp the attention gradient starts from. -/
module

public import proofs.«01_k».proof.Proof.HostI
public import proofs.«01_k».proof.Proof.Gen.Reference15Ideal.Run

@[expose] public section

noncomputable section

namespace Cert.Reference15Ideal.Hand

open Cert.Reference15Ideal Cert.Reference15Ideal.Gen
open Idealize.ShloMosaic Idealize.ShloMosaic.TcCoe

theorem run_terms (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v28) = Cert.KernelIdeal.Hand.oo (m ((c.tc : Thread nD τ).loc main_arg0)) (m ((c.tc : Thread nD τ).loc main_arg1))
      ∧ r.2.mem ((c.tc : Thread nD τ).loc main_v30) = Cert.KernelIdeal.Hand.lse (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans rfl, (h c).2.1.trans rfl, (h c).2.2⟩) (Cert.Reference15Ideal.Value.run (F := Ideal) m ρ)

end Cert.Reference15Ideal.Hand

end
-- ==== Proof.FwdPre.lean ====
/- What the forward pass's precondition says: every number of the heads' queries, keys, values and decays is a real number, so
   each head's arrays are those of a head over the real numbers. -/
module

public import proofs.«01_k».proof.Proof.PreI

@[expose] public section

noncomputable section

namespace Cert.Pre_finite_forward.Hand

open Cert.Pre_finite_forward Cert.Fox
open Cert.Pre_finite.Hand (slices24 bits_lt bcast24 reduces24 bcast2 reduces2 slice_at real_of_cmp num2 num1 num2_at num1_at heads)
open Idealize.ShloMosaic Idealize.ShloMosaic.TcCoe

instance facts : Cert.Pre_finite_forward.Facts where
  slices_S50x8192x64_S24x8192x64_0_0_0 := slices24
  bitsLt_bf16_f32 := bits_lt
  bcast_S_S24x8192x64 := bcast24
  reducesTo_S24x8192x64_S_d0_1_2 := reduces24
  h_S_ := Cert.Pre_finite.Hand.one_pos
  bcast_S_S8x8192 := bcast2
  reducesTo_S8x8192_S_d0_1 := reduces2

variable {x0 : FVec Ideal S50x8192x64 .bf16} {x1 : FVec Ideal S8x8192 .f32}

/-- The two parts of the precondition. -/
theorem parts (e : fn (F := Ideal) x0 x1 = fun _ => 1#1) :
    (∀ (h : Fin 24) (i : Fin 8192) (d : Fin 64), ((EReal.toReal (x0 (ix3 ⟨h.val, by omega⟩ i d)) : ℝ) : EReal) = x0 (ix3 ⟨h.val, by omega⟩ i d))
    ∧ ∀ i, ((EReal.toReal (x1 i) : ℝ) : EReal) = x1 i := by
  have e := congrFun e (fun k => k.elim0)
  obtain ⟨e0, e1⟩ := IntOp.andi_eq_one.1 e
  refine ⟨fun h i d => ?_, fun i => ?_⟩
  · have := slice_at (x0 := x0) h i d
    rw [← this]
    exact real_of_cmp (Host.reduce_andi_all _ _ _ _ _ e0 (ix3 h i d))
  · exact real_of_cmp (Host.reduce_andi_all _ _ _ _ _ e1 i)

/-- No gradient enters the forward pass: the head's is zero. -/
def noGrad : FVec Ideal ⟨3, ![8, 8192, 64]⟩ .f32 := fun _ => (0 : EReal)

theorem heads_args (e : fn (F := Ideal) x0 x1 = fun _ => 1#1) (h : Fin 8) : Args x0 x1 noGrad h (heads x0 x1 noGrad h) where
  q i d := ((coe_congr (num2_at (fun i d => x0 (ix3 ⟨h.val, by omega⟩ i d)) i d)).trans ((parts e).1 ⟨h.val, by omega⟩ i d)).symm
  k i d := ((coe_congr (num2_at (fun i d => x0 (ix3 ⟨8 + h.val, by omega⟩ i d)) i d)).trans ((parts e).1 ⟨8 + h.val, by omega⟩ i d)).symm
  v i d := ((coe_congr (num2_at (fun i d => x0 (ix3 ⟨16 + h.val, by omega⟩ i d)) i d)).trans ((parts e).1 ⟨16 + h.val, by omega⟩ i d)).symm
  f i := ((coe_congr (num1_at (fun i => x1 (ix2 h i)) i)).trans ((parts e).2 (ix2 h i))).symm
  g i d := ((coe_congr (num2_at (fun i d => noGrad (ix3 h i d)) i d)).trans (by unfold noGrad; simp)).symm

end Cert.Pre_finite_forward.Hand

end
-- ==== Proof.lean ====
/- The claim: the compiled program's frame, its idealization's and the reference's, that the idealization keeps the compiled
   program but for the constant it names, and that its results are the reference's. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Kernel15
public import proofs.«01_k».proof.Proof.Gen.Kernel15.Skeleton
public import proofs.«01_k».proof.Proof.Gen.Kernel15.Loops
public import proofs.«01_k».proof.Proof.Gen.Kernel15.Launch
public import proofs.«01_k».proof.Proof.Gen.Kernel15.Points
public import proofs.«01_k».proof.Proof.Gen.Kernel15.Frame.Runs
public import proofs.«01_k».proof.Proof.Gen.Kernel15Ideal
public import proofs.«01_k».proof.Proof.Gen.Kernel15Ideal.Skeleton
public import proofs.«01_k».proof.Proof.Gen.Kernel15Ideal.Loops
public import proofs.«01_k».proof.Proof.Gen.Kernel15Ideal.Launch
public import proofs.«01_k».proof.Proof.Gen.Kernel15Ideal.Points
public import proofs.«01_k».proof.Proof.Gen.Kernel15Ideal.Frame.Runs
public import proofs.«01_k».proof.Proof.Gen.Reference15Ideal.Run
public import proofs.«01_k».proof.Proof.FrameB
public import proofs.«01_k».proof.Proof.FrameI
public import proofs.«01_k».proof.Proof.ArrI
public import proofs.«01_k».proof.Proof.RefI
public import proofs.«01_k».proof.Proof.PreI
public import proofs.«01_k».proof.Proof.DwUp
public import proofs.«01_k».proof.Proof.DH2
public import proofs.«01_k».proof.Proof.DwDown
public import proofs.«01_k».proof.Proof.DwIn
public import proofs.«01_k».proof.Proof.DwOut
public import proofs.«01_k».proof.Proof.DH1
public import proofs.«01_k».proof.Proof.DAct
public import proofs.«01_k».proof.Proof.DOn
public import proofs.«01_k».proof.Proof.UpProj
public import proofs.«01_k».proof.Proof.DownProj
public import proofs.«01_k».proof.Proof.OutProj
public import proofs.«01_k».proof.Proof.InProj
public import proofs.«01_k».proof.Proof.GateProj
public import proofs.«01_k».proof.Proof.FwdFrameB
public import proofs.«01_k».proof.Proof.FwdArrI
public import proofs.«01_k».proof.Proof.FwdRef
public import proofs.«01_k».proof.Proof.FwdPre
public import Idealize.ShloMosaic.Adequacy
public import Idealize.ShloMosaic.Init

@[expose] public section

noncomputable section

namespace Cert.Proof

open Idealize.ShloMosaic Idealize.ShloMosaic.TcCoe Idealize.SL.Sem

/-- The reference is a host program that declares no semaphore and writes none of its arguments. -/
theorem frame_reference : Cert.quiescent_ReferenceIdeal (hReferenceIdeal := Cert.ReferenceIdeal.Gen.facts) := by
  intro m ρ _
  exact (θ_run Cert.ReferenceIdeal.defs _ _).mono (fun r h => ⟨fun c => (h c).2.2.2.2, sem_eq_zero_of_no_sems (by decide) r.2⟩)
    (Cert.ReferenceIdeal.Value.run (F := Ideal) m ρ)

/-- From equal arguments of real numbers the idealization and the reference end with equal results: each is the head's gradient
    over the real numbers. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' pre hargs
  have A := fun c (h : Fin 8) => Cert.Pre_finite.Hand.heads_args (pre c) h
  refine ⟨fun c => Cert.ReferenceIdeal.Hand.outQ _ _ _, fun c => Cert.ReferenceIdeal.Hand.outK _ _ _,
    fun c => Cert.ReferenceIdeal.Hand.outV _ _ _, fun c => Cert.ReferenceIdeal.Hand.outS _ _ _,
    (θ_run Cert.KernelIdeal.defs _ _).mono (fun r h c => ⟨
      ((h.1 c).1 7).trans (Cert.KernelIdeal.Hand.arr_dq m c _ (A c) _ fun h i d => Cert.ReferenceIdeal.Hand.outQ_apply (A c h) i d),
      ((h.1 c).1 8).trans (Cert.KernelIdeal.Hand.arr_dk m c _ (A c) _ fun h i d => Cert.ReferenceIdeal.Hand.outK_apply (A c h) i d),
      ((h.1 c).1 9).trans (Cert.KernelIdeal.Hand.arr_dv m c _ (A c) _ fun h i d => Cert.ReferenceIdeal.Hand.outV_apply (A c h) i d),
      ((h.1 c).1 11).trans (Cert.KernelIdeal.Hand.arr_qs m c _ (A c) _ fun h i => Cert.ReferenceIdeal.Hand.outS_apply (A c h) i),
      Cert.KernelIdeal.Hand.args_kept m c r h⟩) (Cert.KernelIdeal.Hand.run_main m g),
    (θ_run Cert.ReferenceIdeal.defs _ _).mono (fun r h c => ?_) (Cert.ReferenceIdeal.Value.run (F := Ideal) m' g')⟩
  obtain ⟨h0, h1, h2, h3, hk⟩ := h c
  rw [Cert.ReferenceIdeal.Hand.res77, (hargs c).1, (hargs c).2.1, (hargs c).2.2] at h0
  rw [Cert.ReferenceIdeal.Hand.res76, (hargs c).1, (hargs c).2.1, (hargs c).2.2] at h1
  rw [Cert.ReferenceIdeal.Hand.res52, (hargs c).1, (hargs c).2.1, (hargs c).2.2] at h2
  rw [Cert.ReferenceIdeal.Hand.res78, (hargs c).1, (hargs c).2.1, (hargs c).2.2] at h3
  exact ⟨h0, h1, h2, h3, hk⟩

/-- The reference of the up-projection's weight gradient declares no semaphore and writes none of its arguments. -/
theorem frame_reference2 : Cert.quiescent_Reference2Ideal (hReference2Ideal := Cert.Reference2Ideal.Gen.facts) := by
  intro m ρ _
  exact (θ_run Cert.Reference2Ideal.defs _ _).mono (fun r h => ⟨fun c => (h c).2, sem_eq_zero_of_no_sems (by decide) r.2⟩)
    (Cert.Reference2Ideal.Value.run (F := Ideal) m ρ)

/-- From equal arguments the kernel of the up-projection's weight gradient and its reference end with equal results. -/
theorem algebraic2 : Cert.algebraic_Kernel2Ideal_Reference2Ideal (hKernel2Ideal := Cert.Kernel2Ideal.Gen.facts)
    (hReference2Ideal := Cert.Reference2Ideal.Gen.facts) := by
  intro m g m' g' _ hargs
  refine ⟨fun c => Cert.Kernel2Ideal.Hand.G (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)),
    (θ_run Cert.Kernel2Ideal.defs _ _).mono (fun r h c => ⟨(h c).1.trans (Cert.Kernel2Ideal.Hand.arr_eq m c), (h c).2⟩) (Cert.Kernel2Ideal.Value.run_blocks (F := Ideal) m g),
    (θ_run Cert.Reference2Ideal.defs _ _).mono (fun r h c => ?_) (Cert.Reference2Ideal.Value.run (F := Ideal) m' g')⟩
  obtain ⟨h0, hk⟩ := h c
  rw [Cert.Reference2Ideal.Hand.res, (hargs c).1, (hargs c).2] at h0
  exact ⟨h0, hk⟩

/-- The reference of the up-projection's input gradient declares no semaphore and writes none of its arguments. -/
theorem frame_reference3 : Cert.quiescent_Reference3Ideal (hReference3Ideal := Cert.Reference3Ideal.Gen.facts) := by
  intro m ρ _
  exact (θ_run Cert.Reference3Ideal.defs _ _).mono (fun r h => ⟨fun c => (h c).2, sem_eq_zero_of_no_sems (by decide) r.2⟩)
    (Cert.Reference3Ideal.Value.run (F := Ideal) m ρ)

/-- From equal arguments the kernel of the up-projection's input gradient and its reference end with equal results. -/
theorem algebraic3 : Cert.algebraic_Kernel3Ideal_Reference3Ideal (hKernel3Ideal := Cert.Kernel3Ideal.Gen.facts)
    (hReference3Ideal := Cert.Reference3Ideal.Gen.facts) := by
  intro m g m' g' _ hargs
  refine ⟨fun c => Cert.Kernel3Ideal.Hand.G (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)),
    (θ_run Cert.Kernel3Ideal.defs _ _).mono (fun r h c => ⟨(h c).1.trans (Cert.Kernel3Ideal.Hand.arr_eq m c), (h c).2⟩) (Cert.Kernel3Ideal.Value.run_blocks (F := Ideal) m g),
    (θ_run Cert.Reference3Ideal.defs _ _).mono (fun r h c => ?_) (Cert.Reference3Ideal.Value.run (F := Ideal) m' g')⟩
  obtain ⟨h0, hk⟩ := h c
  rw [Cert.Reference3Ideal.Hand.res, (hargs c).1, (hargs c).2] at h0
  exact ⟨h0, hk⟩

/-- The reference of the down-projection's weight gradient declares no semaphore and writes none of its arguments. -/
theorem frame_reference4 : Cert.quiescent_Reference4Ideal (hReference4Ideal := Cert.Reference4Ideal.Gen.facts) := by
  intro m ρ _
  exact (θ_run Cert.Reference4Ideal.defs _ _).mono (fun r h => ⟨fun c => (h c).2, sem_eq_zero_of_no_sems (by decide) r.2⟩)
    (Cert.Reference4Ideal.Value.run (F := Ideal) m ρ)

/-- From equal arguments the kernel of the down-projection's weight gradient and its reference end with equal results. -/
theorem algebraic4 : Cert.algebraic_Kernel4Ideal_Reference4Ideal (hKernel4Ideal := Cert.Kernel4Ideal.Gen.facts)
    (hReference4Ideal := Cert.Reference4Ideal.Gen.facts) := by
  intro m g m' g' _ hargs
  refine ⟨fun c => Cert.Kernel4Ideal.Hand.G (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)),
    (θ_run Cert.Kernel4Ideal.defs _ _).mono (fun r h c => ⟨(h c).1.trans (Cert.Kernel4Ideal.Hand.arr_eq m c), (h c).2⟩) (Cert.Kernel4Ideal.Value.run_blocks (F := Ideal) m g),
    (θ_run Cert.Reference4Ideal.defs _ _).mono (fun r h c => ?_) (Cert.Reference4Ideal.Value.run (F := Ideal) m' g')⟩
  obtain ⟨h0, hk⟩ := h c
  rw [Cert.Reference4Ideal.Hand.res, (hargs c).1, (hargs c).2] at h0
  exact ⟨h0, hk⟩

/-- The reference of the input projection's weight gradient declares no semaphore and writes none of its arguments. -/
theorem frame_reference5 : Cert.quiescent_Reference5Ideal (hReference5Ideal := Cert.Reference5Ideal.Gen.facts) := by
  intro m ρ _
  exact (θ_run Cert.Reference5Ideal.defs _ _).mono (fun r h => ⟨fun c => (h c).2, sem_eq_zero_of_no_sems (by decide) r.2⟩)
    (Cert.Reference5Ideal.Value.run (F := Ideal) m ρ)

/-- From equal arguments the kernel of the input projection's weight gradient and its reference end with equal results. -/
theorem algebraic5 : Cert.algebraic_Kernel5Ideal_Reference5Ideal (hKernel5Ideal := Cert.Kernel5Ideal.Gen.facts)
    (hReference5Ideal := Cert.Reference5Ideal.Gen.facts) := by
  intro m g m' g' _ hargs
  refine ⟨fun c => Cert.Kernel5Ideal.Hand.G (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)),
    (θ_run Cert.Kernel5Ideal.defs _ _).mono (fun r h c => ⟨(h c).1.trans (Cert.Kernel5Ideal.Hand.arr_eq m c), (h c).2⟩) (Cert.Kernel5Ideal.Value.run_blocks (F := Ideal) m g),
    (θ_run Cert.Reference5Ideal.defs _ _).mono (fun r h c => ?_) (Cert.Reference5Ideal.Value.run (F := Ideal) m' g')⟩
  obtain ⟨h0, hk⟩ := h c
  rw [Cert.Reference5Ideal.Hand.res, (hargs c).1, (hargs c).2] at h0
  exact ⟨h0, hk⟩

/-- The reference of the output projection's weight gradient declares no semaphore and writes none of its arguments. -/
theorem frame_reference6 : Cert.quiescent_Reference6Ideal (hReference6Ideal := Cert.Reference6Ideal.Gen.facts) := by
  intro m ρ _
  exact (θ_run Cert.Reference6Ideal.defs _ _).mono (fun r h => ⟨fun c => (h c).2, sem_eq_zero_of_no_sems (by decide) r.2⟩)
    (Cert.Reference6Ideal.Value.run (F := Ideal) m ρ)

/-- From equal arguments the kernel of the output projection's weight gradient and its reference end with equal results. -/
theorem algebraic6 : Cert.algebraic_Kernel6Ideal_Reference6Ideal (hKernel6Ideal := Cert.Kernel6Ideal.Gen.facts)
    (hReference6Ideal := Cert.Reference6Ideal.Gen.facts) := by
  intro m g m' g' _ hargs
  refine ⟨fun c => Cert.Kernel6Ideal.Hand.G (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)),
    (θ_run Cert.Kernel6Ideal.defs _ _).mono (fun r h c => ⟨(h c).1.trans (Cert.Kernel6Ideal.Hand.arr_eq m c), (h c).2⟩) (Cert.Kernel6Ideal.Value.run_blocks (F := Ideal) m g),
    (θ_run Cert.Reference6Ideal.defs _ _).mono (fun r h c => ?_) (Cert.Reference6Ideal.Value.run (F := Ideal) m' g')⟩
  obtain ⟨h0, hk⟩ := h c
  rw [Cert.Reference6Ideal.Hand.res, (hargs c).1, (hargs c).2] at h0
  exact ⟨h0, hk⟩

/-- The reference of the input projection's input gradient declares no semaphore and writes none of its arguments. -/
theorem frame_reference7 : Cert.quiescent_Reference7Ideal (hReference7Ideal := Cert.Reference7Ideal.Gen.facts) := by
  intro m ρ _
  exact (θ_run Cert.Reference7Ideal.defs _ _).mono (fun r h => ⟨fun c => (h c).2, sem_eq_zero_of_no_sems (by decide) r.2⟩)
    (Cert.Reference7Ideal.Value.run (F := Ideal) m ρ)

/-- From equal arguments the kernel of the input projection's input gradient and its reference end with equal results. -/
theorem algebraic7 : Cert.algebraic_Kernel7Ideal_Reference7Ideal (hKernel7Ideal := Cert.Kernel7Ideal.Gen.facts)
    (hReference7Ideal := Cert.Reference7Ideal.Gen.facts) := by
  intro m g m' g' _ hargs
  refine ⟨fun c => Cert.Kernel7Ideal.Hand.G (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)),
    (θ_run Cert.Kernel7Ideal.defs _ _).mono (fun r h c => ⟨(h c).1.trans (Cert.Kernel7Ideal.Hand.arr_eq m c), (h c).2⟩) (Cert.Kernel7Ideal.Value.run_blocks (F := Ideal) m g),
    (θ_run Cert.Reference7Ideal.defs _ _).mono (fun r h c => ?_) (Cert.Reference7Ideal.Value.run (F := Ideal) m' g')⟩
  obtain ⟨h0, hk⟩ := h c
  rw [Cert.Reference7Ideal.Hand.res, (hargs c).1, (hargs c).2] at h0
  exact ⟨h0, hk⟩

/-- The reference of the down-projection's input gradient declares no semaphore and writes none of its arguments. -/
theorem frame_reference8 : Cert.quiescent_Reference8Ideal (hReference8Ideal := Cert.Reference8Ideal.Gen.facts) := by
  intro m ρ _
  exact (θ_run Cert.Reference8Ideal.defs _ _).mono (fun r h => ⟨fun c => (h c).2, sem_eq_zero_of_no_sems (by decide) r.2⟩)
    (Cert.Reference8Ideal.Value.run (F := Ideal) m ρ)

/-- From equal arguments the kernel of the down-projection's input gradient and its reference end with equal results. -/
theorem algebraic8 : Cert.algebraic_Kernel8Ideal_Reference8Ideal (hKernel8Ideal := Cert.Kernel8Ideal.Gen.facts)
    (hReference8Ideal := Cert.Reference8Ideal.Gen.facts) := by
  intro m g m' g' _ hargs
  refine ⟨fun c => Cert.Kernel8Ideal.Hand.G (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)),
    (θ_run Cert.Kernel8Ideal.defs _ _).mono (fun r h c => ⟨(h c).1.trans (Cert.Kernel8Ideal.Hand.arr_eq m c), (h c).2⟩) (Cert.Kernel8Ideal.Value.run_blocks (F := Ideal) m g),
    (θ_run Cert.Reference8Ideal.defs _ _).mono (fun r h c => ?_) (Cert.Reference8Ideal.Value.run (F := Ideal) m' g')⟩
  obtain ⟨h0, hk⟩ := h c
  rw [Cert.Reference8Ideal.Hand.res, (hargs c).1, (hargs c).2] at h0
  exact ⟨h0, hk⟩

/-- The reference of the output projection's input gradient declares no semaphore and writes none of its arguments. -/
theorem frame_reference9 : Cert.quiescent_Reference9Ideal (hReference9Ideal := Cert.Reference9Ideal.Gen.facts) := by
  intro m ρ _
  exact (θ_run Cert.Reference9Ideal.defs _ _).mono (fun r h => ⟨fun c => (h c).2, sem_eq_zero_of_no_sems (by decide) r.2⟩)
    (Cert.Reference9Ideal.Value.run (F := Ideal) m ρ)

/-- From equal arguments the kernel of the output projection's input gradient and its reference end with equal results. -/
theorem algebraic9 : Cert.algebraic_Kernel9Ideal_Reference9Ideal (hKernel9Ideal := Cert.Kernel9Ideal.Gen.facts)
    (hReference9Ideal := Cert.Reference9Ideal.Gen.facts) := by
  intro m g m' g' _ hargs
  refine ⟨fun c => Cert.Kernel9Ideal.Hand.G (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)),
    (θ_run Cert.Kernel9Ideal.defs _ _).mono (fun r h c => ⟨(h c).1.trans (Cert.Kernel9Ideal.Hand.arr_eq m c), (h c).2⟩) (Cert.Kernel9Ideal.Value.run_blocks (F := Ideal) m g),
    (θ_run Cert.Reference9Ideal.defs _ _).mono (fun r h c => ?_) (Cert.Reference9Ideal.Value.run (F := Ideal) m' g')⟩
  obtain ⟨h0, hk⟩ := h c
  rw [Cert.Reference9Ideal.Hand.res, (hargs c).1, (hargs c).2] at h0
  exact ⟨h0, hk⟩

/-- The reference of the up-projection declares no semaphore and writes none of its arguments. -/
theorem frame_reference10 : Cert.quiescent_Reference10Ideal (hReference10Ideal := Cert.Reference10Ideal.Gen.facts) := by
  intro m ρ _
  exact (θ_run Cert.Reference10Ideal.defs _ _).mono (fun r h => ⟨fun c => (h c).2, sem_eq_zero_of_no_sems (by decide) r.2⟩)
    (Cert.Reference10Ideal.Value.run (F := Ideal) m ρ)

/-- From equal arguments the kernel of the up-projection and its reference end with equal results. -/
theorem algebraic10 : Cert.algebraic_Kernel10Ideal_Reference10Ideal (hKernel10Ideal := Cert.Kernel10Ideal.Gen.facts)
    (hReference10Ideal := Cert.Reference10Ideal.Gen.facts) := by
  intro m g m' g' _ hargs
  refine ⟨fun c => Cert.Kernel10Ideal.Hand.G (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)),
    (θ_run Cert.Kernel10Ideal.defs _ _).mono (fun r h c => ⟨(h c).1.trans (Cert.Kernel10Ideal.Hand.arr_eq m c), (h c).2⟩) (Cert.Kernel10Ideal.Value.run_blocks (F := Ideal) m g),
    (θ_run Cert.Reference10Ideal.defs _ _).mono (fun r h c => ?_) (Cert.Reference10Ideal.Value.run (F := Ideal) m' g')⟩
  obtain ⟨h0, hk⟩ := h c
  rw [Cert.Reference10Ideal.Hand.res, (hargs c).1, (hargs c).2] at h0
  exact ⟨h0, hk⟩

/-- The reference of the down-projection with its residual declares no semaphore and writes none of its arguments. -/
theorem frame_reference11 : Cert.quiescent_Reference11Ideal (hReference11Ideal := Cert.Reference11Ideal.Gen.facts) := by
  intro m ρ _
  exact (θ_run Cert.Reference11Ideal.defs _ _).mono (fun r h => ⟨fun c => (h c).2, sem_eq_zero_of_no_sems (by decide) r.2⟩)
    (Cert.Reference11Ideal.Value.run (F := Ideal) m ρ)

/-- From equal arguments the kernel of the down-projection with its residual and its reference end with equal results. -/
theorem algebraic11 : Cert.algebraic_Kernel11Ideal_Reference11Ideal (hKernel11Ideal := Cert.Kernel11Ideal.Gen.facts)
    (hReference11Ideal := Cert.Reference11Ideal.Gen.facts) := by
  intro m g m' g' _ hargs
  refine ⟨fun c => Cert.Kernel11Ideal.Hand.G (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)),
    (θ_run Cert.Kernel11Ideal.defs _ _).mono (fun r h c => ⟨(h c).1.trans (Cert.Kernel11Ideal.Hand.arr_eq m c), (h c).2⟩) (Cert.Kernel11Ideal.Value.run_blocks (F := Ideal) m g),
    (θ_run Cert.Reference11Ideal.defs _ _).mono (fun r h c => ?_) (Cert.Reference11Ideal.Value.run (F := Ideal) m' g')⟩
  obtain ⟨h0, hk⟩ := h c
  rw [Cert.Reference11Ideal.Hand.res, (hargs c).1, (hargs c).2.1, (hargs c).2.2] at h0
  exact ⟨h0, hk⟩

/-- The reference of the output projection with its residual declares no semaphore and writes none of its arguments. -/
theorem frame_reference12 : Cert.quiescent_Reference12Ideal (hReference12Ideal := Cert.Reference12Ideal.Gen.facts) := by
  intro m ρ _
  exact (θ_run Cert.Reference12Ideal.defs _ _).mono (fun r h => ⟨fun c => (h c).2, sem_eq_zero_of_no_sems (by decide) r.2⟩)
    (Cert.Reference12Ideal.Value.run (F := Ideal) m ρ)

/-- From equal arguments the kernel of the output projection with its residual and its reference end with equal results. -/
theorem algebraic12 : Cert.algebraic_Kernel12Ideal_Reference12Ideal (hKernel12Ideal := Cert.Kernel12Ideal.Gen.facts)
    (hReference12Ideal := Cert.Reference12Ideal.Gen.facts) := by
  intro m g m' g' _ hargs
  refine ⟨fun c => Cert.Kernel12Ideal.Hand.G (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)),
    (θ_run Cert.Kernel12Ideal.defs _ _).mono (fun r h c => ⟨(h c).1.trans (Cert.Kernel12Ideal.Hand.arr_eq m c), (h c).2⟩) (Cert.Kernel12Ideal.Value.run_blocks (F := Ideal) m g),
    (θ_run Cert.Reference12Ideal.defs _ _).mono (fun r h c => ?_) (Cert.Reference12Ideal.Value.run (F := Ideal) m' g')⟩
  obtain ⟨h0, hk⟩ := h c
  rw [Cert.Reference12Ideal.Hand.res, (hargs c).1, (hargs c).2.1, (hargs c).2.2] at h0
  exact ⟨h0, hk⟩

/-- The reference of the input projection by heads declares no semaphore and writes none of its arguments. -/
theorem frame_reference13 : Cert.quiescent_Reference13Ideal (hReference13Ideal := Cert.Reference13Ideal.Gen.facts) := by
  intro m ρ _
  exact (θ_run Cert.Reference13Ideal.defs _ _).mono (fun r h => ⟨fun c => (h c).2, sem_eq_zero_of_no_sems (by decide) r.2⟩)
    (Cert.Reference13Ideal.Value.run (F := Ideal) m ρ)

/-- From equal arguments the kernel of the input projection by heads and its reference end with equal results. -/
theorem algebraic13 : Cert.algebraic_Kernel13Ideal_Reference13Ideal (hKernel13Ideal := Cert.Kernel13Ideal.Gen.facts)
    (hReference13Ideal := Cert.Reference13Ideal.Gen.facts) := by
  intro m g m' g' _ hargs
  refine ⟨fun c => Cert.Kernel13Ideal.Hand.G (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)),
    (θ_run Cert.Kernel13Ideal.defs _ _).mono (fun r h c => ⟨(h c).1.trans (Cert.Kernel13Ideal.Hand.arr_eq m c), (h c).2⟩) (Cert.Kernel13Ideal.Value.run_blocks (F := Ideal) m g),
    (θ_run Cert.Reference13Ideal.defs _ _).mono (fun r h c => ?_) (Cert.Reference13Ideal.Value.run (F := Ideal) m' g')⟩
  obtain ⟨h0, hk⟩ := h c
  rw [Cert.Reference13Ideal.Hand.res, (hargs c).1, (hargs c).2] at h0
  exact ⟨h0, hk⟩

/-- The reference of the gate projection declares no semaphore and writes none of its arguments. -/
theorem frame_reference14 : Cert.quiescent_Reference14Ideal (hReference14Ideal := Cert.Reference14Ideal.Gen.facts) := by
  intro m ρ _
  exact (θ_run Cert.Reference14Ideal.defs _ _).mono (fun r h => ⟨fun c => (h c).2, sem_eq_zero_of_no_sems (by decide) r.2⟩)
    (Cert.Reference14Ideal.Value.run (F := Ideal) m ρ)

/-- From equal arguments the kernel of the gate projection and its reference end with equal results. -/
theorem algebraic14 : Cert.algebraic_Kernel14Ideal_Reference14Ideal (hKernel14Ideal := Cert.Kernel14Ideal.Gen.facts)
    (hReference14Ideal := Cert.Reference14Ideal.Gen.facts) := by
  intro m g m' g' _ hargs
  refine ⟨fun c => Cert.Kernel14Ideal.Hand.G (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)),
    (θ_run Cert.Kernel14Ideal.defs _ _).mono (fun r h c => ⟨(h c).1.trans (Cert.Kernel14Ideal.Hand.arr_eq m c), (h c).2⟩) (Cert.Kernel14Ideal.Value.run_blocks (F := Ideal) m g),
    (θ_run Cert.Reference14Ideal.defs _ _).mono (fun r h c => ?_) (Cert.Reference14Ideal.Value.run (F := Ideal) m' g')⟩
  obtain ⟨h0, hk⟩ := h c
  rw [Cert.Reference14Ideal.Hand.res, (hargs c).1, (hargs c).2] at h0
  exact ⟨h0, hk⟩

/-- The forward pass's reference declares no semaphore and writes none of its arguments. -/
theorem frame_reference15 : Cert.quiescent_Reference15Ideal (hReference15Ideal := Cert.Reference15Ideal.Gen.facts) := by
  intro m ρ _
  exact (θ_run Cert.Reference15Ideal.defs _ _).mono (fun r h => ⟨fun c => (h c).2.2, sem_eq_zero_of_no_sems (by decide) r.2⟩)
    (Cert.Reference15Ideal.Value.run (F := Ideal) m ρ)

/-- From equal arguments of real numbers the forward pass and its reference end with equal results: each head's output and the
    logarithm of its rows' sums of exponentials over the real numbers. -/
theorem algebraic15 : Cert.algebraic_Kernel15Ideal_Reference15Ideal_pre_finite_forward (hKernel15Ideal := Cert.Kernel15Ideal.Gen.facts)
    (hReference15Ideal := Cert.Reference15Ideal.Gen.facts) (hPre_finite_forward := Cert.Pre_finite_forward.Hand.facts) := by
  intro m g m' g' pre hargs
  have A := fun c (h : Fin 8) => Cert.Pre_finite_forward.Hand.heads_args (pre c) h
  refine ⟨fun c => Cert.KernelIdeal.Hand.oo (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    fun c => Cert.KernelIdeal.Hand.lse (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)),
    (θ_run Cert.Kernel15Ideal.defs _ _).mono (fun r h c => ⟨
      ((h.1 c).1 4).trans (Cert.Kernel15Ideal.Hand.arr_o m c _ _ (A c) _ fun h i d => Cert.KernelIdeal.Hand.oo_apply (A c h) i d),
      ((h.1 c).1 5).trans (Cert.Kernel15Ideal.Hand.arr_l m c _ _ (A c) _ fun h i => Cert.KernelIdeal.Hand.lse_apply (A c h) i),
      Cert.Kernel15Ideal.Hand.args_kept m c r h⟩) (Cert.Kernel15Ideal.Hand.run_main m g),
    (θ_run Cert.Reference15Ideal.defs _ _).mono (fun r h c => ?_) (Cert.Reference15Ideal.Hand.run_terms m' g')⟩
  obtain ⟨h0, h1, hk⟩ := h c
  rw [(hargs c).1, (hargs c).2] at h0 h1
  exact ⟨h0, h1, hk⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Pre_finite.Hand.facts, Cert.Pre_finite_forward.Hand.facts,
    fun m ρ _ => Cert.Kernel.Hand.frame_run (F := Bits) m ρ,
    fun m ρ _ => Cert.KernelIdeal.Hand.frame_run (F := Ideal) m ρ,
    fun m ρ _ => Cert.KernelIdeal.Hand.frame_run (F := Ideal) m ρ,
    frame_reference,
    fun m ρ _ => frame_reference m ρ trivial,
    fun m ρ _ => Cert.Kernel2.Gen.frame (F := Bits) m ρ, fun m ρ _ => Cert.Kernel2Ideal.Gen.frame (F := Ideal) m ρ, frame_reference2,
    fun m ρ _ => Cert.Kernel3.Gen.frame (F := Bits) m ρ, fun m ρ _ => Cert.Kernel3Ideal.Gen.frame (F := Ideal) m ρ, frame_reference3,
    fun m ρ _ => Cert.Kernel4.Gen.frame (F := Bits) m ρ, fun m ρ _ => Cert.Kernel4Ideal.Gen.frame (F := Ideal) m ρ, frame_reference4,
    fun m ρ _ => Cert.Kernel5.Gen.frame (F := Bits) m ρ, fun m ρ _ => Cert.Kernel5Ideal.Gen.frame (F := Ideal) m ρ, frame_reference5,
    fun m ρ _ => Cert.Kernel6.Gen.frame (F := Bits) m ρ, fun m ρ _ => Cert.Kernel6Ideal.Gen.frame (F := Ideal) m ρ, frame_reference6,
    fun m ρ _ => Cert.Kernel7.Gen.frame (F := Bits) m ρ, fun m ρ _ => Cert.Kernel7Ideal.Gen.frame (F := Ideal) m ρ, frame_reference7,
    fun m ρ _ => Cert.Kernel8.Gen.frame (F := Bits) m ρ, fun m ρ _ => Cert.Kernel8Ideal.Gen.frame (F := Ideal) m ρ, frame_reference8,
    fun m ρ _ => Cert.Kernel9.Gen.frame (F := Bits) m ρ, fun m ρ _ => Cert.Kernel9Ideal.Gen.frame (F := Ideal) m ρ, frame_reference9,
    fun m ρ _ => Cert.Kernel10.Gen.frame (F := Bits) m ρ, fun m ρ _ => Cert.Kernel10Ideal.Gen.frame (F := Ideal) m ρ, frame_reference10,
    fun m ρ _ => Cert.Kernel11.Gen.frame (F := Bits) m ρ, fun m ρ _ => Cert.Kernel11Ideal.Gen.frame (F := Ideal) m ρ, frame_reference11,
    fun m ρ _ => Cert.Kernel12.Gen.frame (F := Bits) m ρ, fun m ρ _ => Cert.Kernel12Ideal.Gen.frame (F := Ideal) m ρ, frame_reference12,
    fun m ρ _ => Cert.Kernel13.Gen.frame (F := Bits) m ρ, fun m ρ _ => Cert.Kernel13Ideal.Gen.frame (F := Ideal) m ρ, frame_reference13,
    fun m ρ _ => Cert.Kernel14.Gen.frame (F := Bits) m ρ, fun m ρ _ => Cert.Kernel14Ideal.Gen.frame (F := Ideal) m ρ, frame_reference14,
    fun m ρ _ => Cert.Kernel15.Hand.frame_run (F := Bits) m ρ, fun m ρ _ => Cert.Kernel15Ideal.Hand.frame_run (F := Ideal) m ρ,
    fun m ρ _ => Cert.Kernel15Ideal.Hand.frame_run (F := Ideal) m ρ, frame_reference15, fun m ρ _ => frame_reference15 m ρ trivial,
    IdealRules.named_const.statement Cert.KernelIdeal.κ "mask" .f32 0xF149F2CA#32 ⊥ rfl,
    algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    IdealRules.named_const.statement Cert.Kernel15Ideal.κ "mask" .f32 0xF149F2CA#32 ⊥ rfl,
    algebraic15⟩

end Cert.Proof

end
